-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_uf [hPre_finite_uf : Cert.Pre_finite_uf.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_uf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_uf [hPre_finite_uf : Cert.Pre_finite_uf.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_uf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_uf [hKernel2Ideal : Cert.Kernel2Ideal.Facts] [hPre_finite_uf : Cert.Pre_finite_uf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_uf m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_uf [hReference2Ideal : Cert.Reference2Ideal.Facts] [hPre_finite_uf : Cert.Pre_finite_uf.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_uf m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal_pre_finite_uf [hKernel2Ideal : Cert.Kernel2Ideal.Facts] [hReference2Ideal : Cert.Reference2Ideal.Facts] [hPre_finite_uf : Cert.Pre_finite_uf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_uf m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v64_0)) (v1 : (c : Dev Cert.Kernel2Ideal.nD) → Buf (Elt Ideal) ((c.tc : Thread Cert.Kernel2Ideal.nD Cert.Kernel2Ideal.τ).loc Cert.Kernel2Ideal.main_v64_1)) (v2 : (c : Dev Cert.Kernel2Ideal.nD) → Buf (Elt Ideal) ((c.tc : Thread Cert.Kernel2Ideal.nD Cert.Kernel2Ideal.τ).loc Cert.Kernel2Ideal.main_v64_2)) (v3 : (c : Dev Cert.Kernel2Ideal.nD) → Buf (Elt Ideal) ((c.tc : Thread Cert.Kernel2Ideal.nD Cert.Kernel2Ideal.τ).loc Cert.Kernel2Ideal.main_v64_3)) (v4 : (c : Dev Cert.Kernel2Ideal.nD) → Buf (Elt Ideal) ((c.tc : Thread Cert.Kernel2Ideal.nD Cert.Kernel2Ideal.τ).loc Cert.Kernel2Ideal.main_v64_4)) (v5 : (c : Dev Cert.Kernel2Ideal.nD) → Buf (Elt Ideal) ((c.tc : Thread Cert.Kernel2Ideal.nD Cert.Kernel2Ideal.τ).loc Cert.Kernel2Ideal.main_v64_5)) (v6 : (c : Dev Cert.Kernel2Ideal.nD) → Buf (Elt Ideal) ((c.tc : Thread Cert.Kernel2Ideal.nD Cert.Kernel2Ideal.τ).loc Cert.Kernel2Ideal.main_v64_6)) (v7 : (c : Dev Cert.Kernel2Ideal.nD) → Buf (Elt Ideal) ((c.tc : Thread Cert.Kernel2Ideal.nD Cert.Kernel2Ideal.τ).loc Cert.Kernel2Ideal.main_v64_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v64_0) = v0 c
          ∧ r.2.mem ((c.tc : Thread Cert.Kernel2Ideal.nD Cert.Kernel2Ideal.τ).loc Cert.Kernel2Ideal.main_v64_1) = v1 c
          ∧ r.2.mem ((c.tc : Thread Cert.Kernel2Ideal.nD Cert.Kernel2Ideal.τ).loc Cert.Kernel2Ideal.main_v64_2) = v2 c
          ∧ r.2.mem ((c.tc : Thread Cert.Kernel2Ideal.nD Cert.Kernel2Ideal.τ).loc Cert.Kernel2Ideal.main_v64_3) = v3 c
          ∧ r.2.mem ((c.tc : Thread Cert.Kernel2Ideal.nD Cert.Kernel2Ideal.τ).loc Cert.Kernel2Ideal.main_v64_4) = v4 c
          ∧ r.2.mem ((c.tc : Thread Cert.Kernel2Ideal.nD Cert.Kernel2Ideal.τ).loc Cert.Kernel2Ideal.main_v64_5) = v5 c
          ∧ r.2.mem ((c.tc : Thread Cert.Kernel2Ideal.nD Cert.Kernel2Ideal.τ).loc Cert.Kernel2Ideal.main_v64_6) = v6 c
          ∧ r.2.mem ((c.tc : Thread Cert.Kernel2Ideal.nD Cert.Kernel2Ideal.τ).loc Cert.Kernel2Ideal.main_v64_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v318) = v1 c
          ∧ r.2.mem ((c.tc : Thread Cert.Reference2Ideal.nD Cert.Reference2Ideal.τ).loc Cert.Reference2Ideal.main_v575) = v2 c
          ∧ r.2.mem ((c.tc : Thread Cert.Reference2Ideal.nD Cert.Reference2Ideal.τ).loc Cert.Reference2Ideal.main_v577) = v3 c
          ∧ r.2.mem ((c.tc : Thread Cert.Reference2Ideal.nD Cert.Reference2Ideal.τ).loc Cert.Reference2Ideal.main_v579) = v4 c
          ∧ r.2.mem ((c.tc : Thread Cert.Reference2Ideal.nD Cert.Reference2Ideal.τ).loc Cert.Reference2Ideal.main_v581) = v5 c
          ∧ r.2.mem ((c.tc : Thread Cert.Reference2Ideal.nD Cert.Reference2Ideal.τ).loc Cert.Reference2Ideal.main_v583) = v6 c
          ∧ r.2.mem ((c.tc : Thread Cert.Reference2Ideal.nD Cert.Reference2Ideal.τ).loc Cert.Reference2Ideal.main_v585) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_uf : Cert.Pre_finite_uf.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_uf (hKernel2Ideal := hKernel2Ideal) (hPre_finite_uf := hPre_finite_uf)
    ∧ quiescent_Reference2Ideal (hReference2Ideal := hReference2Ideal)
    ∧ quiescent_Reference2Ideal_pre_finite_uf (hReference2Ideal := hReference2Ideal) (hPre_finite_uf := hPre_finite_uf)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_uf (hKernel2Ideal := hKernel2Ideal) (hReference2Ideal := hReference2Ideal) (hPre_finite_uf := hPre_finite_uf)
-- ==== Pre_finite_uf.lean ====
abbrev S2048x4096 : Shape := ⟨2, ![2048, 4096]⟩
abbrev S4x4x8x1024 : Shape := ⟨4, ![4, 4, 8, 1024]⟩
abbrev S32x4x8x1024 : Shape := ⟨4, ![32, 4, 8, 1024]⟩
abbrev S1x1024x1024 : Shape := ⟨3, ![1, 1024, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .bf16) (main_arg1 : FVec F S4x4x8x1024 .f32) (main_arg2 : FVec F S32x4x8x1024 .f32) (main_arg3 : FVec F S1x1024x1024 .f32) (main_arg4 : FVec F S1x512x1024 .f32) (main_arg5 : FVec F S1x1024x1024 .f32) (main_arg6 : FVec F S1x1024x4096 .f32) (main_arg7 : FVec F S1x4096x1024 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  main_v4
-- ==== Kernel.lean ====
abbrev S16384x1024 : Shape := ⟨2, ![16384, 1024]⟩
abbrev S32x8x1024 : Shape := ⟨3, ![32, 8, 1024]⟩
abbrev S16384x2048 : Shape := ⟨2, ![16384, 2048]⟩
abbrev S2x1024x4096 : Shape := ⟨3, ![2, 1024, 4096]⟩
abbrev S16x6144 : Shape := ⟨2, ![16, 6144]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S8x2048x1024 : Shape := ⟨3, ![8, 2048, 1024]⟩
abbrev S1x8x1024 : Shape := ⟨3, ![1, 8, 1024]⟩
abbrev S512x2048 : Shape := ⟨2, ![512, 2048]⟩
abbrev S2x32x4096 : Shape := ⟨3, ![2, 32, 4096]⟩
abbrev S8x1024 : Shape := ⟨2, ![8, 1024]⟩
abbrev S2x64x8x1024 : Shape := ⟨4, ![2, 64, 8, 1024]⟩
abbrev S2x8 : Shape := ⟨2, ![2, 8]⟩
abbrev S2x32x8x512 : Shape := ⟨4, ![2, 32, 8, 512]⟩
abbrev S32x2x8x512 : Shape := ⟨4, ![32, 2, 8, 512]⟩
abbrev S512x512 : Shape := ⟨2, ![512, 512]⟩
abbrev S1x1 : Shape := ⟨2, ![1, 1]⟩
abbrev S64x8x1024 : Shape := ⟨3, ![64, 8, 1024]⟩
abbrev S512 : Shape := ⟨1, ![512]⟩
abbrev S512x1 : Shape := ⟨2, ![512, 1]⟩
abbrev S_ : Shape := ⟨0, ![]⟩
abbrev S1x64x1024 : Shape := ⟨3, ![1, 64, 1024]⟩
abbrev S64x1024 : Shape := ⟨2, ![64, 1024]⟩
abbrev S1x64x1x1024 : Shape := ⟨4, ![1, 64, 1, 1024]⟩
abbrev S1x64x8x1024 : Shape := ⟨4, ![1, 64, 8, 1024]⟩

abbrev nBuf : Space → Nat
  | .hbm => 21
  | .vmem => 30
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S32x8x1024, .f32⟩
  | .hbm, ⟨4, _⟩ => ⟨S32x8x1024, .f32⟩
  | .hbm, ⟨5, _⟩ => ⟨S16384x1024, .bf16⟩
  | .hbm, ⟨6, _⟩ => ⟨S16384x2048, .bf16⟩
  | .hbm, ⟨7, _⟩ => ⟨S2x1024x4096, .bf16⟩
  | .hbm, ⟨8, _⟩ => ⟨S16384x1024, .f32⟩
  | .hbm, ⟨9, _⟩ => ⟨S16x6144, .f32⟩
  | .hbm, ⟨10, _⟩ => ⟨S1x1024, .f32⟩
  | .hbm, ⟨11, _⟩ => ⟨S1024, .f32⟩
  | .hbm, ⟨12, _⟩ => ⟨S1024x1024, .bf16⟩
  | .hbm, ⟨13, _⟩ => ⟨S512x1024, .bf16⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S8x2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S2x32x4096, .bf16⟩
  | .local _ .vmem, ⟨15, _⟩ => ⟨S2x32x4096, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S512x1024, .bf16⟩
  | .local _ .vmem, ⟨26, _⟩ => ⟨S1024x1024, .bf16⟩
  | .local _ .vmem, ⟨27, _⟩ => ⟨S1024x4096, .bf16⟩
  | .local _ .vmem, ⟨28, _⟩ => ⟨S4096x1024, .bf16⟩
  | .local _ .vmem, ⟨29, _⟩ => ⟨S2x64x8x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c2_i32_88 : BitVec 32 := 2#32
  let v172 : BitVec 1 := Scalar.cmpi .sge arg0 c2_i32_88
  let v173 : BitVec 32 := Scalar.extui v172
  let c0_i32_89 : BitVec 32 := 0#32
  let v174 : BitVec 1 := Scalar.cmpi .ne v173 c0_i32_89
  v174

def k0_off1 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_155 : BitVec 32 := 0#32
  ![v171.toNat, 0]
def k0_off2 (i : grid0.Coords) : Fin 3 → Nat :=
  let c0_i32_154 : BitVec 32 := 0#32
  let arg0 : BitVec 32 := BitVec.ofNat 32 (i 0).val
  let c2_i32_144 : BitVec 32 := 2#32
  let v239 : BitVec 32 := Scalar.subi arg0 c2_i32_144
  let c64_i32_145 : BitVec 32 := 64#32
  let v240 : BitVec 32 := Scalar.muli v239 c64_i32_145
  let c0_i32_156 : BitVec 32 := 0#32
  ![0, v240.toNat, 0]
def k0_off3 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_157 : BitVec 32 := 0#32
  let c0_i32_153 : BitVec 32 := 0#32
  let c0_i32_158 : BitVec 32 := 0#32
  ![v171.toNat, 0, 0, 0]
def k0_off4 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c1_i32_161 : BitVec 32 := 1#32
  ![v171.toNat, 1]
def k0_off5 (i : grid0.Coords) : Fin 3 → Nat :=
  let c1_i32_160 : BitVec 32 := 1#32
  let arg0 : BitVec 32 := BitVec.ofNat 32 (i 0).val
  let c2_i32_144 : BitVec 32 := 2#32
  let v239 : BitVec 32 := Scalar.subi arg0 c2_i32_144
  let c64_i32_146 : BitVec 32 := 64#32
  let v241 : BitVec 32 := Scalar.muli v239 c64_i32_146
  let c0_i32_162 : BitVec 32 := 0#32
  ![1, v241.toNat, 0]
def k0_off6 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_163 : BitVec 32 := 0#32
  let c1_i32_159 : BitVec 32 := 1#32
  let c0_i32_164 : BitVec 32 := 0#32
  ![v171.toNat, 0, 1, 0]
def k0_off7 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c2_i32_167 : BitVec 32 := 2#32
  ![v171.toNat, 2]
def k0_off8 (i : grid0.Coords) : Fin 3 → Nat :=
  let c2_i32_166 : BitVec 32 := 2#32
  let arg0 : BitVec 32 := BitVec.ofNat 32 (i 0).val
  let c2_i32_144 : BitVec 32 := 2#32
  let v239 : BitVec 32 := Scalar.subi arg0 c2_i32_144
  let c64_i32_147 : BitVec 32 := 64#32
  let v242 : BitVec 32 := Scalar.muli v239 c64_i32_147
  let c0_i32_168 : BitVec 32 := 0#32
  ![2, v242.toNat, 0]
def k0_off9 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_169 : BitVec 32 := 0#32
  let c2_i32_165 : BitVec 32 := 2#32
  let c0_i32_170 : BitVec 32 := 0#32
  ![v171.toNat, 0, 2, 0]
def k0_off10 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c3_i32_173 : BitVec 32 := 3#32
  ![v171.toNat, 3]
def k0_off11 (i : grid0.Coords) : Fin 3 → Nat :=
  let c3_i32_172 : BitVec 32 := 3#32
  let arg0 : BitVec 32 := BitVec.ofNat 32 (i 0).val
  let c2_i32_144 : BitVec 32 := 2#32
  let v239 : BitVec 32 := Scalar.subi arg0 c2_i32_144
  let c64_i32_148 : BitVec 32 := 64#32
  let v243 : BitVec 32 := Scalar.muli v239 c64_i32_148
  let c0_i32_174 : BitVec 32 := 0#32
  ![3, v243.toNat, 0]
def k0_off12 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_175 : BitVec 32 := 0#32
  let c3_i32_171 : BitVec 32 := 3#32
  let c0_i32_176 : BitVec 32 := 0#32
  ![v171.toNat, 0, 3, 0]
def k0_off13 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c4_i32_179 : BitVec 32 := 4#32
  ![v171.toNat, 4]
def k0_off14 (i : grid0.Coords) : Fin 3 → Nat :=
  let c4_i32_178 : BitVec 32 := 4#32
  let arg0 : BitVec 32 := BitVec.ofNat 32 (i 0).val
  let c2_i32_144 : BitVec 32 := 2#32
  let v239 : BitVec 32 := Scalar.subi arg0 c2_i32_144
  let c64_i32_149 : BitVec 32 := 64#32
  let v244 : BitVec 32 := Scalar.muli v239 c64_i32_149
  let c0_i32_180 : BitVec 32 := 0#32
  ![4, v244.toNat, 0]
def k0_off15 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_181 : BitVec 32 := 0#32
  let c4_i32_177 : BitVec 32 := 4#32
  let c0_i32_182 : BitVec 32 := 0#32
  ![v171.toNat, 0, 4, 0]
def k0_off16 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c5_i32_185 : BitVec 32 := 5#32
  ![v171.toNat, 5]
def k0_off17 (i : grid0.Coords) : Fin 3 → Nat :=
  let c5_i32_184 : BitVec 32 := 5#32
  let arg0 : BitVec 32 := BitVec.ofNat 32 (i 0).val
  let c2_i32_144 : BitVec 32 := 2#32
  let v239 : BitVec 32 := Scalar.subi arg0 c2_i32_144
  let c64_i32_150 : BitVec 32 := 64#32
  let v245 : BitVec 32 := Scalar.muli v239 c64_i32_150
  let c0_i32_186 : BitVec 32 := 0#32
  ![5, v245.toNat, 0]
def k0_off18 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_187 : BitVec 32 := 0#32
  let c5_i32_183 : BitVec 32 := 5#32
  let c0_i32_188 : BitVec 32 := 0#32
  ![v171.toNat, 0, 5, 0]
def k0_off19 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c6_i32_191 : BitVec 32 := 6#32
  ![v171.toNat, 6]
def k0_off20 (i : grid0.Coords) : Fin 3 → Nat :=
  let c6_i32_190 : BitVec 32 := 6#32
  let arg0 : BitVec 32 := BitVec.ofNat 32 (i 0).val
  let c2_i32_144 : BitVec 32 := 2#32
  let v239 : BitVec 32 := Scalar.subi arg0 c2_i32_144
  let c64_i32_151 : BitVec 32 := 64#32
  let v246 : BitVec 32 := Scalar.muli v239 c64_i32_151
  let c0_i32_192 : BitVec 32 := 0#32
  ![6, v246.toNat, 0]
def k0_off21 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_193 : BitVec 32 := 0#32
  let c6_i32_189 : BitVec 32 := 6#32
  let c0_i32_194 : BitVec 32 := 0#32
  ![v171.toNat, 0, 6, 0]
def k0_off22 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c7_i32_197 : BitVec 32 := 7#32
  ![v171.toNat, 7]
def k0_off23 (i : grid0.Coords) : Fin 3 → Nat :=
  let c7_i32_196 : BitVec 32 := 7#32
  let arg0 : BitVec 32 := BitVec.ofNat 32 (i 0).val
  let c2_i32_144 : BitVec 32 := 2#32
  let v239 : BitVec 32 := Scalar.subi arg0 c2_i32_144
  let c64_i32_152 : BitVec 32 := 64#32
  let v247 : BitVec 32 := Scalar.muli v239 c64_i32_152
  let c0_i32_198 : BitVec 32 := 0#32
  ![7, v247.toNat, 0]
def k0_off24 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_199 : BitVec 32 := 0#32
  let c7_i32_195 : BitVec 32 := 7#32
  let c0_i32_200 : BitVec 32 := 0#32
  ![v171.toNat, 0, 7, 0]
def k0_off25 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v176 : Index := Scalar.indexCast v171
  let c0_90 : Index := 0#32
  let c0_91 : Index := 0#32
  let c0_92 : Index := 0#32
  ![v176.toNat, 0, 0, 0]
def k0_off26 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_102 : BitVec 32 := 0#32
  ![v171.toNat, 0]
def k0_off27 (i : grid0.Coords) : Fin 3 → Nat :=
  let c0_i32_101 : BitVec 32 := 0#32
  let arg0 : BitVec 32 := BitVec.ofNat 32 (i 0).val
  let c64_i32 : BitVec 32 := 64#32
  let v180 : BitVec 32 := Scalar.muli arg0 c64_i32
  let c0_i32_103 : BitVec 32 := 0#32
  ![0, v180.toNat, 0]
def k0_off28 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_104 : BitVec 32 := 0#32
  let c0_i32_100 : BitVec 32 := 0#32
  let c0_i32_105 : BitVec 32 := 0#32
  ![v171.toNat, 0, 0, 0]
def k0_off29 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c1_i32_108 : BitVec 32 := 1#32
  ![v171.toNat, 1]
def k0_off30 (i : grid0.Coords) : Fin 3 → Nat :=
  let c1_i32_107 : BitVec 32 := 1#32
  let arg0 : BitVec 32 := BitVec.ofNat 32 (i 0).val
  let c64_i32_93 : BitVec 32 := 64#32
  let v181 : BitVec 32 := Scalar.muli arg0 c64_i32_93
  let c0_i32_109 : BitVec 32 := 0#32
  ![1, v181.toNat, 0]
def k0_off31 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_110 : BitVec 32 := 0#32
  let c1_i32_106 : BitVec 32 := 1#32
  let c0_i32_111 : BitVec 32 := 0#32
  ![v171.toNat, 0, 1, 0]
def k0_off32 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c2_i32_114 : BitVec 32 := 2#32
  ![v171.toNat, 2]
def k0_off33 (i : grid0.Coords) : Fin 3 → Nat :=
  let c2_i32_113 : BitVec 32 := 2#32
  let arg0 : BitVec 32 := BitVec.ofNat 32 (i 0).val
  let c64_i32_94 : BitVec 32 := 64#32
  let v182 : BitVec 32 := Scalar.muli arg0 c64_i32_94
  let c0_i32_115 : BitVec 32 := 0#32
  ![2, v182.toNat, 0]
def k0_off34 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_116 : BitVec 32 := 0#32
  let c2_i32_112 : BitVec 32 := 2#32
  let c0_i32_117 : BitVec 32 := 0#32
  ![v171.toNat, 0, 2, 0]
def k0_off35 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c3_i32_119 : BitVec 32 := 3#32
  ![v171.toNat, 3]
def k0_off36 (i : grid0.Coords) : Fin 3 → Nat :=
  let c3_i32_118 : BitVec 32 := 3#32
  let arg0 : BitVec 32 := BitVec.ofNat 32 (i 0).val
  let c64_i32_95 : BitVec 32 := 64#32
  let v183 : BitVec 32 := Scalar.muli arg0 c64_i32_95
  let c0_i32_120 : BitVec 32 := 0#32
  ![3, v183.toNat, 0]
def k0_off37 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_121 : BitVec 32 := 0#32
  let c3_i32 : BitVec 32 := 3#32
  let c0_i32_122 : BitVec 32 := 0#32
  ![v171.toNat, 0, 3, 0]
def k0_off38 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c4_i32_124 : BitVec 32 := 4#32
  ![v171.toNat, 4]
def k0_off39 (i : grid0.Coords) : Fin 3 → Nat :=
  let c4_i32_123 : BitVec 32 := 4#32
  let arg0 : BitVec 32 := BitVec.ofNat 32 (i 0).val
  let c64_i32_96 : BitVec 32 := 64#32
  let v184 : BitVec 32 := Scalar.muli arg0 c64_i32_96
  let c0_i32_125 : BitVec 32 := 0#32
  ![4, v184.toNat, 0]
def k0_off40 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_126 : BitVec 32 := 0#32
  let c4_i32 : BitVec 32 := 4#32
  let c0_i32_127 : BitVec 32 := 0#32
  ![v171.toNat, 0, 4, 0]
def k0_off41 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c5_i32_129 : BitVec 32 := 5#32
  ![v171.toNat, 5]
def k0_off42 (i : grid0.Coords) : Fin 3 → Nat :=
  let c5_i32_128 : BitVec 32 := 5#32
  let arg0 : BitVec 32 := BitVec.ofNat 32 (i 0).val
  let c64_i32_97 : BitVec 32 := 64#32
  let v185 : BitVec 32 := Scalar.muli arg0 c64_i32_97
  let c0_i32_130 : BitVec 32 := 0#32
  ![5, v185.toNat, 0]
def k0_off43 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_131 : BitVec 32 := 0#32
  let c5_i32 : BitVec 32 := 5#32
  let c0_i32_132 : BitVec 32 := 0#32
  ![v171.toNat, 0, 5, 0]
def k0_off44 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c6_i32_134 : BitVec 32 := 6#32
  ![v171.toNat, 6]
def k0_off45 (i : grid0.Coords) : Fin 3 → Nat :=
  let c6_i32_133 : BitVec 32 := 6#32
  let arg0 : BitVec 32 := BitVec.ofNat 32 (i 0).val
  let c64_i32_98 : BitVec 32 := 64#32
  let v186 : BitVec 32 := Scalar.muli arg0 c64_i32_98
  let c0_i32_135 : BitVec 32 := 0#32
  ![6, v186.toNat, 0]
def k0_off46 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_136 : BitVec 32 := 0#32
  let c6_i32 : BitVec 32 := 6#32
  let c0_i32_137 : BitVec 32 := 0#32
  ![v171.toNat, 0, 6, 0]
def k0_off47 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c7_i32_139 : BitVec 32 := 7#32
  ![v171.toNat, 7]
def k0_off48 (i : grid0.Coords) : Fin 3 → Nat :=
  let c7_i32_138 : BitVec 32 := 7#32
  let arg0 : BitVec 32 := BitVec.ofNat 32 (i 0).val
  let c64_i32_99 : BitVec 32 := 64#32
  let v187 : BitVec 32 := Scalar.muli arg0 c64_i32_99
  let c0_i32_140 : BitVec 32 := 0#32
  ![7, v187.toNat, 0]
def k0_off49 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_141 : BitVec 32 := 0#32
  let c7_i32 : BitVec 32 := 7#32
  let c0_i32_142 : BitVec 32 := 0#32
  ![v171.toNat, 0, 7, 0]
def k0_cond2 (i : grid0.Coords) : BitVec 1 :=
  let arg0 : BitVec 32 := BitVec.ofNat 32 (i 0).val
  let c31_i32 : BitVec 32 := 31#32
  let v236 : BitVec 1 := Scalar.cmpi .eq arg0 c31_i32
  let v237 : BitVec 32 := Scalar.extui v236
  let c0_i32_143 : BitVec 32 := 0#32
  let v238 : BitVec 1 := Scalar.cmpi .ne v237 c0_i32_143
  v238

def k0_off50 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_164 : BitVec 32 := 0#32
  ![v240.toNat, 0]
def k0_off51 (i : grid0.Coords) : Fin 3 → Nat :=
  let c0_i32_163 : BitVec 32 := 0#32
  let arg0 : BitVec 32 := BitVec.ofNat 32 (i 0).val
  let c1_i32_144 : BitVec 32 := 1#32
  let v239 : BitVec 32 := Scalar.subi arg0 c1_i32_144
  let c64_i32_146 : BitVec 32 := 64#32
  let v241 : BitVec 32 := Scalar.muli v239 c64_i32_146
  let c0_i32_165 : BitVec 32 := 0#32
  ![0, v241.toNat, 0]
def k0_off52 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_166 : BitVec 32 := 0#32
  let c0_i32_162 : BitVec 32 := 0#32
  let c0_i32_167 : BitVec 32 := 0#32
  ![v240.toNat, 0, 0, 0]
def k0_off53 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c1_i32_170 : BitVec 32 := 1#32
  ![v240.toNat, 1]
def k0_off54 (i : grid0.Coords) : Fin 3 → Nat :=
  let c1_i32_169 : BitVec 32 := 1#32
  let arg0 : BitVec 32 := BitVec.ofNat 32 (i 0).val
  let c1_i32_144 : BitVec 32 := 1#32
  let v239 : BitVec 32 := Scalar.subi arg0 c1_i32_144
  let c64_i32_147 : BitVec 32 := 64#32
  let v242 : BitVec 32 := Scalar.muli v239 c64_i32_147
  let c0_i32_171 : BitVec 32 := 0#32
  ![1, v242.toNat, 0]
def k0_off55 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_172 : BitVec 32 := 0#32
  let c1_i32_168 : BitVec 32 := 1#32
  let c0_i32_173 : BitVec 32 := 0#32
  ![v240.toNat, 0, 1, 0]
def k0_off56 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c2_i32_176 : BitVec 32 := 2#32
  ![v240.toNat, 2]
def k0_off57 (i : grid0.Coords) : Fin 3 → Nat :=
  let c2_i32_175 : BitVec 32 := 2#32
  let arg0 : BitVec 32 := BitVec.ofNat 32 (i 0).val
  let c1_i32_144 : BitVec 32 := 1#32
  let v239 : BitVec 32 := Scalar.subi arg0 c1_i32_144
  let c64_i32_148 : BitVec 32 := 64#32
  let v243 : BitVec 32 := Scalar.muli v239 c64_i32_148
  let c0_i32_177 : BitVec 32 := 0#32
  ![2, v243.toNat, 0]
def k0_off58 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_178 : BitVec 32 := 0#32
  let c2_i32_174 : BitVec 32 := 2#32
  let c0_i32_179 : BitVec 32 := 0#32
  ![v240.toNat, 0, 2, 0]
def k0_off59 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c3_i32_182 : BitVec 32 := 3#32
  ![v240.toNat, 3]
def k0_off60 (i : grid0.Coords) : Fin 3 → Nat :=
  let c3_i32_181 : BitVec 32 := 3#32
  let arg0 : BitVec 32 := BitVec.ofNat 32 (i 0).val
  let c1_i32_144 : BitVec 32 := 1#32
  let v239 : BitVec 32 := Scalar.subi arg0 c1_i32_144
  let c64_i32_149 : BitVec 32 := 64#32
  let v244 : BitVec 32 := Scalar.muli v239 c64_i32_149
  let c0_i32_183 : BitVec 32 := 0#32
  ![3, v244.toNat, 0]
def k0_off61 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_184 : BitVec 32 := 0#32
  let c3_i32_180 : BitVec 32 := 3#32
  let c0_i32_185 : BitVec 32 := 0#32
  ![v240.toNat, 0, 3, 0]
def k0_off62 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c4_i32_188 : BitVec 32 := 4#32
  ![v240.toNat, 4]
def k0_off63 (i : grid0.Coords) : Fin 3 → Nat :=
  let c4_i32_187 : BitVec 32 := 4#32
  let arg0 : BitVec 32 := BitVec.ofNat 32 (i 0).val
  let c1_i32_144 : BitVec 32 := 1#32
  let v239 : BitVec 32 := Scalar.subi arg0 c1_i32_144
  let c64_i32_150 : BitVec 32 := 64#32
  let v245 : BitVec 32 := Scalar.muli v239 c64_i32_150
  let c0_i32_189 : BitVec 32 := 0#32
  ![4, v245.toNat, 0]
def k0_off64 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_190 : BitVec 32 := 0#32
  let c4_i32_186 : BitVec 32 := 4#32
  let c0_i32_191 : BitVec 32 := 0#32
  ![v240.toNat, 0, 4, 0]
def k0_off65 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c5_i32_194 : BitVec 32 := 5#32
  ![v240.toNat, 5]
def k0_off66 (i : grid0.Coords) : Fin 3 → Nat :=
  let c5_i32_193 : BitVec 32 := 5#32
  let arg0 : BitVec 32 := BitVec.ofNat 32 (i 0).val
  let c1_i32_144 : BitVec 32 := 1#32
  let v239 : BitVec 32 := Scalar.subi arg0 c1_i32_144
  let c64_i32_151 : BitVec 32 := 64#32
  let v246 : BitVec 32 := Scalar.muli v239 c64_i32_151
  let c0_i32_195 : BitVec 32 := 0#32
  ![5, v246.toNat, 0]
def k0_off67 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_196 : BitVec 32 := 0#32
  let c5_i32_192 : BitVec 32 := 5#32
  let c0_i32_197 : BitVec 32 := 0#32
  ![v240.toNat, 0, 5, 0]
def k0_off68 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c6_i32_200 : BitVec 32 := 6#32
  ![v240.toNat, 6]
def k0_off69 (i : grid0.Coords) : Fin 3 → Nat :=
  let c6_i32_199 : BitVec 32 := 6#32
  let arg0 : BitVec 32 := BitVec.ofNat 32 (i 0).val
  let c1_i32_144 : BitVec 32 := 1#32
  let v239 : BitVec 32 := Scalar.subi arg0 c1_i32_144
  let c64_i32_152 : BitVec 32 := 64#32
  let v247 : BitVec 32 := Scalar.muli v239 c64_i32_152
  let c0_i32_201 : BitVec 32 := 0#32
  ![6, v247.toNat, 0]
def k0_off70 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_202 : BitVec 32 := 0#32
  let c6_i32_198 : BitVec 32 := 6#32
  let c0_i32_203 : BitVec 32 := 0#32
  ![v240.toNat, 0, 6, 0]
def k0_off71 (i : grid0.Coords) : Fin 2 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c7_i32_206 : BitVec 32 := 7#32
  ![v240.toNat, 7]
def k0_off72 (i : grid0.Coords) : Fin 3 → Nat :=
  let c7_i32_205 : BitVec 32 := 7#32
  let arg0 : BitVec 32 := BitVec.ofNat 32 (i 0).val
  let c1_i32_144 : BitVec 32 := 1#32
  let v239 : BitVec 32 := Scalar.subi arg0 c1_i32_144
  let c64_i32_153 : BitVec 32 := 64#32
  let v248 : BitVec 32 := Scalar.muli v239 c64_i32_153
  let c0_i32_207 : BitVec 32 := 0#32
  ![7, v248.toNat, 0]
def k0_off73 (i : grid0.Coords) : Fin 4 → Nat :=
  let c1_i32_145 : BitVec 32 := 1#32
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let v240 : BitVec 32 := Scalar.subi c1_i32_145 v171
  let c0_i32_208 : BitVec 32 := 0#32
  let c7_i32_204 : BitVec 32 := 7#32
  let c0_i32_209 : BitVec 32 := 0#32
  ![v240.toNat, 0, 7, 0]
def k0_off74 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_212 : BitVec 32 := 0#32
  ![v171.toNat, 0]
def k0_off75 (i : grid0.Coords) : Fin 3 → Nat :=
  let c0_i32_211 : BitVec 32 := 0#32
  let arg0 : BitVec 32 := BitVec.ofNat 32 (i 0).val
  let c64_i32_154 : BitVec 32 := 64#32
  let v249 : BitVec 32 := Scalar.muli arg0 c64_i32_154
  let c0_i32_213 : BitVec 32 := 0#32
  ![0, v249.toNat, 0]
def k0_off76 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_214 : BitVec 32 := 0#32
  let c0_i32_210 : BitVec 32 := 0#32
  let c0_i32_215 : BitVec 32 := 0#32
  ![v171.toNat, 0, 0, 0]
def k0_off77 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c1_i32_218 : BitVec 32 := 1#32
  ![v171.toNat, 1]
def k0_off78 (i : grid0.Coords) : Fin 3 → Nat :=
  let c1_i32_217 : BitVec 32 := 1#32
  let arg0 : BitVec 32 := BitVec.ofNat 32 (i 0).val
  let c64_i32_155 : BitVec 32 := 64#32
  let v250 : BitVec 32 := Scalar.muli arg0 c64_i32_155
  let c0_i32_219 : BitVec 32 := 0#32
  ![1, v250.toNat, 0]
def k0_off79 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_220 : BitVec 32 := 0#32
  let c1_i32_216 : BitVec 32 := 1#32
  let c0_i32_221 : BitVec 32 := 0#32
  ![v171.toNat, 0, 1, 0]
def k0_off80 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c2_i32_224 : BitVec 32 := 2#32
  ![v171.toNat, 2]
def k0_off81 (i : grid0.Coords) : Fin 3 → Nat :=
  let c2_i32_223 : BitVec 32 := 2#32
  let arg0 : BitVec 32 := BitVec.ofNat 32 (i 0).val
  let c64_i32_156 : BitVec 32 := 64#32
  let v251 : BitVec 32 := Scalar.muli arg0 c64_i32_156
  let c0_i32_225 : BitVec 32 := 0#32
  ![2, v251.toNat, 0]
def k0_off82 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_226 : BitVec 32 := 0#32
  let c2_i32_222 : BitVec 32 := 2#32
  let c0_i32_227 : BitVec 32 := 0#32
  ![v171.toNat, 0, 2, 0]
def k0_off83 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c3_i32_230 : BitVec 32 := 3#32
  ![v171.toNat, 3]
def k0_off84 (i : grid0.Coords) : Fin 3 → Nat :=
  let c3_i32_229 : BitVec 32 := 3#32
  let arg0 : BitVec 32 := BitVec.ofNat 32 (i 0).val
  let c64_i32_157 : BitVec 32 := 64#32
  let v252 : BitVec 32 := Scalar.muli arg0 c64_i32_157
  let c0_i32_231 : BitVec 32 := 0#32
  ![3, v252.toNat, 0]
def k0_off85 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_232 : BitVec 32 := 0#32
  let c3_i32_228 : BitVec 32 := 3#32
  let c0_i32_233 : BitVec 32 := 0#32
  ![v171.toNat, 0, 3, 0]
def k0_off86 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c4_i32_236 : BitVec 32 := 4#32
  ![v171.toNat, 4]
def k0_off87 (i : grid0.Coords) : Fin 3 → Nat :=
  let c4_i32_235 : BitVec 32 := 4#32
  let arg0 : BitVec 32 := BitVec.ofNat 32 (i 0).val
  let c64_i32_158 : BitVec 32 := 64#32
  let v253 : BitVec 32 := Scalar.muli arg0 c64_i32_158
  let c0_i32_237 : BitVec 32 := 0#32
  ![4, v253.toNat, 0]
def k0_off88 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_238 : BitVec 32 := 0#32
  let c4_i32_234 : BitVec 32 := 4#32
  let c0_i32_239 : BitVec 32 := 0#32
  ![v171.toNat, 0, 4, 0]
def k0_off89 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c5_i32_242 : BitVec 32 := 5#32
  ![v171.toNat, 5]
def k0_off90 (i : grid0.Coords) : Fin 3 → Nat :=
  let c5_i32_241 : BitVec 32 := 5#32
  let arg0 : BitVec 32 := BitVec.ofNat 32 (i 0).val
  let c64_i32_159 : BitVec 32 := 64#32
  let v254 : BitVec 32 := Scalar.muli arg0 c64_i32_159
  let c0_i32_243 : BitVec 32 := 0#32
  ![5, v254.toNat, 0]
def k0_off91 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_244 : BitVec 32 := 0#32
  let c5_i32_240 : BitVec 32 := 5#32
  let c0_i32_245 : BitVec 32 := 0#32
  ![v171.toNat, 0, 5, 0]
def k0_off92 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c6_i32_248 : BitVec 32 := 6#32
  ![v171.toNat, 6]
def k0_off93 (i : grid0.Coords) : Fin 3 → Nat :=
  let c6_i32_247 : BitVec 32 := 6#32
  let arg0 : BitVec 32 := BitVec.ofNat 32 (i 0).val
  let c64_i32_160 : BitVec 32 := 64#32
  let v255 : BitVec 32 := Scalar.muli arg0 c64_i32_160
  let c0_i32_249 : BitVec 32 := 0#32
  ![6, v255.toNat, 0]
def k0_off94 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_250 : BitVec 32 := 0#32
  let c6_i32_246 : BitVec 32 := 6#32
  let c0_i32_251 : BitVec 32 := 0#32
  ![v171.toNat, 0, 6, 0]
def k0_off95 (i : grid0.Coords) : Fin 2 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c7_i32_254 : BitVec 32 := 7#32
  ![v171.toNat, 7]
def k0_off96 (i : grid0.Coords) : Fin 3 → Nat :=
  let c7_i32_253 : BitVec 32 := 7#32
  let arg0 : BitVec 32 := BitVec.ofNat 32 (i 0).val
  let c64_i32_161 : BitVec 32 := 64#32
  let v256 : BitVec 32 := Scalar.muli arg0 c64_i32_161
  let c0_i32_255 : BitVec 32 := 0#32
  ![7, v256.toNat, 0]
def k0_off97 (i : grid0.Coords) : Fin 4 → Nat :=
  let arg0 : BitVec 32 := BitVec.ofNat 32 (i 0).val
  let c2_i32 : BitVec 32 := 2#32
  let c0_i32 : BitVec 32 := 0#32
  let v162 : BitVec 1 := Scalar.cmpi .eq c2_i32 c0_i32
  let c1_i32 : BitVec 32 := 1#32
  let v163 : BitVec 32 := Scalar.select v162 c1_i32 c2_i32
  let v164 : BitVec 32 := Scalar.remsi arg0 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c0_i32_256 : BitVec 32 := 0#32
  let c7_i32_252 : BitVec 32 := 7#32
  let c0_i32_257 : BitVec 32 := 0#32
  ![v171.toNat, 0, 7, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_10 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_11 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_12 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x4096 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4096x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S16384x1024 : Shape := ⟨2, ![16384, 1024]⟩
abbrev S32x8x1024 : Shape := ⟨3, ![32, 8, 1024]⟩
abbrev S16384x2048 : Shape := ⟨2, ![16384, 2048]⟩
abbrev S2x1024x4096 : Shape := ⟨3, ![2, 1024, 4096]⟩
abbrev S16x6144 : Shape := ⟨2, ![16, 6144]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S8x1024 : Shape := ⟨2, ![8, 1024]⟩
abbrev S8x1x1024 : Shape := ⟨3, ![8, 1, 1024]⟩
abbrev S2048x8x1024 : Shape := ⟨3, ![2048, 8, 1024]⟩
abbrev S8x2048x1024 : Shape := ⟨3, ![8, 2048, 1024]⟩
abbrev S32x64x8x1024 : Shape := ⟨4, ![32, 64, 8, 1024]⟩
abbrev S2x1024x8x512 : Shape := ⟨4, ![2, 1024, 8, 512]⟩
abbrev S8x1024x2x512 : Shape := ⟨4, ![8, 1024, 2, 512]⟩
abbrev S8x2048x512 : Shape := ⟨3, ![8, 2048, 512]⟩
abbrev S_ : Shape := ⟨0, ![]⟩
abbrev S2048x8x2048 : Shape := ⟨3, ![2048, 8, 2048]⟩
abbrev S8x2048x2048 : Shape := ⟨3, ![8, 2048, 2048]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 147
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x1024, .bf16⟩
  | 3 => ⟨S32x8x1024, .f32⟩
  | 4 => ⟨S32x8x1024, .f32⟩
  | 5 => ⟨S16384x1024, .bf16⟩
  | 6 => ⟨S16384x2048, .bf16⟩
  | 7 => ⟨S2x1024x4096, .bf16⟩
  | 8 => ⟨S16384x1024, .f32⟩
  | 9 => ⟨S16x6144, .f32⟩
  | 10 => ⟨S1x1024, .f32⟩
  | 11 => ⟨S1024, .f32⟩
  | 12 => ⟨S1024x1024, .bf16⟩
  | 13 => ⟨S512x1024, .bf16⟩
  | 14 => ⟨S1024x1024, .bf16⟩
  | 15 => ⟨S1024x4096, .bf16⟩
  | 16 => ⟨S4096x1024, .bf16⟩
  | 17 => ⟨S8x1024, .f32⟩
  | 18 => ⟨S8x1x1024, .f32⟩
  | 19 => ⟨S8x1024, .f32⟩
  | 20 => ⟨S8x1x1024, .f32⟩
  | 21 => ⟨S8x1024, .f32⟩
  | 22 => ⟨S8x1x1024, .f32⟩
  | 23 => ⟨S8x1024, .f32⟩
  | 24 => ⟨S8x1x1024, .f32⟩
  | 25 => ⟨S16384x1024, .f32⟩
  | 26 => ⟨S2048x8x1024, .f32⟩
  | 27 => ⟨S8x2048x1024, .f32⟩
  | 28 => ⟨S16384x1024, .f32⟩
  | 29 => ⟨S2048x8x1024, .f32⟩
  | 30 => ⟨S8x2048x1024, .f32⟩
  | 31 => ⟨S32x64x8x1024, .f32⟩
  | 32 => ⟨S2048x8x1024, .f32⟩
  | 33 => ⟨S8x2048x1024, .f32⟩
  | 34 => ⟨S8x2048x1024, .f32⟩
  | 35 => ⟨S8x2048x1024, .f32⟩
  | 36 => ⟨S16384x1024, .f32⟩
  | 37 => ⟨S2048x8x1024, .f32⟩
  | 38 => ⟨S8x2048x1024, .f32⟩
  | 39 => ⟨S32x64x8x1024, .f32⟩
  | 40 => ⟨S2048x8x1024, .f32⟩
  | 41 => ⟨S8x2048x1024, .f32⟩
  | 42 => ⟨S8x2048x1024, .f32⟩
  | 43 => ⟨S8x2048x1024, .f32⟩
  | 44 => ⟨S2x1024x4096, .f32⟩
  | 45 => ⟨S2x1024x8x512, .f32⟩
  | 46 => ⟨S8x1024x2x512, .f32⟩
  | 47 => ⟨S8x2048x512, .f32⟩
  | 48 => ⟨S16384x1024, .f32⟩
  | 49 => ⟨S2048x8x1024, .f32⟩
  | 50 => ⟨S8x2048x1024, .f32⟩
  | 51 => ⟨S8x2048x1024, .f32⟩
  | 52 => ⟨S8x2048x1024, .f32⟩
  | 53 => ⟨S_, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S8x2048x1024, .f32⟩
  | 61 => ⟨S_, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S8x2048x1024, .f32⟩
  | 68 => ⟨S8x2048x1024, .f32⟩
  | 69 => ⟨S1024x1024, .f32⟩
  | 70 => ⟨S8x2048x1024, .f32⟩
  | 71 => ⟨S512x1024, .f32⟩
  | 72 => ⟨S8x2048x1024, .f32⟩
  | 73 => ⟨S16384x2048, .f32⟩
  | 74 => ⟨S2048x8x2048, .f32⟩
  | 75 => ⟨S8x2048x2048, .f32⟩
  | 76 => ⟨S8x2048x2048, .f32⟩
  | 77 => ⟨S8x2048x2048, .f32⟩
  | 78 => ⟨S_, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S8x2048x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S2048x8x1024, .f32⟩
  | 90 => ⟨S8x2048x1024, .f32⟩
  | 91 => ⟨S1024x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S1024, .f32⟩
  | 97 => ⟨S8x2048x1024, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S_, .f32⟩
  | 105 => ⟨S8x2048x1, .f32⟩
  | 106 => ⟨S8x2048x1, .f32⟩
  | 107 => ⟨S8x2048x1, .f32⟩
  | 108 => ⟨S8x2048x1024, .f32⟩
  | 109 => ⟨S8x2048x1024, .f32⟩
  | 110 => ⟨S1x1x1024, .f32⟩
  | 111 => ⟨S8x2048x1024, .f32⟩
  | 112 => ⟨S8x2048x1024, .f32⟩
  | 113 => ⟨S_, .f32⟩
  | 114 => ⟨S8x1x1024, .f32⟩
  | 115 => ⟨S8x1x1024, .f32⟩
  | 116 => ⟨S8x2048x1024, .f32⟩
  | 117 => ⟨S8x2048x1024, .f32⟩
  | 118 => ⟨S8x2048x1024, .f32⟩
  | 119 => ⟨S8x2048x1024, .f32⟩
  | 120 => ⟨S1024x4096, .f32⟩
  | 121 => ⟨S8x2048x4096, .f32⟩
  | 122 => ⟨S_, .f32⟩
  | 123 => ⟨S8x2048x4096, .f32⟩
  | 124 => ⟨S8x2048x4096, .f32⟩
  | 125 => ⟨S8x2048x4096, .f32⟩
  | 126 => ⟨S4096x1024, .f32⟩
  | 127 => ⟨S8x2048x1024, .f32⟩
  | _ => ⟨S16384x1024, .bf16⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_1 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_5 : Ref sig .tc := ⟨.hbm, 98, rfl⟩
abbrev main_v75 : Ref sig .tc := ⟨.hbm, 99, rfl⟩
abbrev main_v76 : Ref sig .tc := ⟨.hbm, 100, rfl⟩
abbrev main_cst_6 : Ref sig .tc := ⟨.hbm, 101, rfl⟩
abbrev main_v77 : Ref sig .tc := ⟨.hbm, 102, rfl⟩
abbrev main_v78 : Ref sig .tc := ⟨.hbm, 103, rfl⟩
abbrev main_cst_7 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_8 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call0_cst : Ref sig .tc := ⟨.hbm, 122, rfl⟩
abbrev main_call0_v0 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_9 : Ref sig .tc := ⟨.hbm, 132, rfl⟩
abbrev main_v103 : Ref sig .tc := ⟨.hbm, 133, rfl⟩
abbrev main_v104 : Ref sig .tc := ⟨.hbm, 134, rfl⟩
abbrev main_cst_10 : Ref sig .tc := ⟨.hbm, 135, rfl⟩
abbrev main_v105 : Ref sig .tc := ⟨.hbm, 136, rfl⟩
abbrev main_v106 : Ref sig .tc := ⟨.hbm, 137, rfl⟩
abbrev main_cst_11 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== Kernel2.lean ====
abbrev S2048x4096 : Shape := ⟨2, ![2048, 4096]⟩
abbrev S4x4x8x1024 : Shape := ⟨4, ![4, 4, 8, 1024]⟩
abbrev S32x4x8x1024 : Shape := ⟨4, ![32, 4, 8, 1024]⟩
abbrev S1x1024x1024 : Shape := ⟨3, ![1, 1024, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S_ : Shape := ⟨0, ![]⟩
abbrev S128x128 : Shape := ⟨2, ![128, 128]⟩
abbrev S128x256 : Shape := ⟨2, ![128, 256]⟩
abbrev S2x528x1024 : Shape := ⟨3, ![2, 528, 1024]⟩
abbrev S2x1x528x1024 : Shape := ⟨4, ![2, 1, 528, 1024]⟩
abbrev S2x2x528x1024 : Shape := ⟨4, ![2, 2, 528, 1024]⟩
abbrev S2x512x528 : Shape := ⟨3, ![2, 512, 528]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S2x1024x4096 : Shape := ⟨3, ![2, 1024, 4096]⟩
abbrev S32x8x1024 : Shape := ⟨3, ![32, 8, 1024]⟩
abbrev S2048x512 : Shape := ⟨2, ![2048, 512]⟩
abbrev S4x4x8x128 : Shape := ⟨4, ![4, 4, 8, 128]⟩
abbrev S32x4x8x128 : Shape := ⟨4, ![32, 4, 8, 128]⟩
abbrev S128x1024 : Shape := ⟨2, ![128, 1024]⟩
abbrev S64x1024 : Shape := ⟨2, ![64, 1024]⟩
abbrev S128x4096 : Shape := ⟨2, ![128, 4096]⟩
abbrev S2x1024x512 : Shape := ⟨3, ![2, 1024, 512]⟩
abbrev S32x8x128 : Shape := ⟨3, ![32, 8, 128]⟩
abbrev S2x2048x512 : Shape := ⟨3, ![2, 2048, 512]⟩
abbrev S8x128 : Shape := ⟨2, ![8, 128]⟩
abbrev S1x1x8x128 : Shape := ⟨4, ![1, 1, 8, 128]⟩
abbrev S1x8x128 : Shape := ⟨3, ![1, 8, 128]⟩
abbrev S2048x128 : Shape := ⟨2, ![2048, 128]⟩
abbrev S2048x256 : Shape := ⟨2, ![2048, 256]⟩
abbrev S1024x256 : Shape := ⟨2, ![1024, 256]⟩
abbrev S1024x128 : Shape := ⟨2, ![1024, 128]⟩
abbrev S1x1024x128 : Shape := ⟨3, ![1, 1024, 128]⟩
abbrev S1x1x528x1024 : Shape := ⟨4, ![1, 1, 528, 1024]⟩
abbrev S528x1024 : Shape := ⟨2, ![528, 1024]⟩
abbrev S1x1024x512 : Shape := ⟨3, ![1, 1024, 512]⟩
abbrev S1024x512 : Shape := ⟨2, ![1024, 512]⟩
abbrev S528x512 : Shape := ⟨2, ![528, 512]⟩
abbrev S512x512 : Shape := ⟨2, ![512, 512]⟩
abbrev S1x512x512 : Shape := ⟨3, ![1, 512, 512]⟩
abbrev S1x512x528 : Shape := ⟨3, ![1, 512, 528]⟩
abbrev S512x528 : Shape := ⟨2, ![512, 528]⟩

abbrev nBuf : Space → Nat
  | .hbm => 102
  | .vmem => 36
  | .smem => 0
  | _ => 0

abbrev bufTy : (tb : Table) → Fin (tcTables nBuf tb) → BufTy
  | .hbm, ⟨0, _⟩ => ⟨S2048x4096, .bf16⟩
  | .hbm, ⟨1, _⟩ => ⟨S4x4x8x1024, .f32⟩
  | .hbm, ⟨2, _⟩ => ⟨S32x4x8x1024, .f32⟩
  | .hbm, ⟨3, _⟩ => ⟨S1x1024x1024, .f32⟩
  | .hbm, ⟨4, _⟩ => ⟨S1x512x1024, .f32⟩
  | .hbm, ⟨5, _⟩ => ⟨S1x1024x1024, .f32⟩
  | .hbm, ⟨6, _⟩ => ⟨S1x1024x4096, .f32⟩
  | .hbm, ⟨7, _⟩ => ⟨S1x4096x1024, .f32⟩
  | .hbm, ⟨8, _⟩ => ⟨S_, .f32⟩
  | .hbm, ⟨9, _⟩ => ⟨S_, .f32⟩
  | .hbm, ⟨10, _⟩ => ⟨S128x128, .i32⟩
  | .hbm, ⟨11, _⟩ => ⟨S128x128, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x256, .f32⟩
  | .hbm, ⟨32, _⟩ => ⟨S2x528x1024, .i32⟩
  | .hbm, ⟨33, _⟩ => ⟨S2x528x1024, .i32⟩
  | .hbm, ⟨34, _⟩ => ⟨S_, .i32⟩
  | .hbm, ⟨35, _⟩ => ⟨S2x528x1024, .i32⟩
  | .hbm, ⟨36, _⟩ => ⟨S2x528x1024, .i32⟩
  | .hbm, ⟨37, _⟩ => ⟨S2x528x1024, .i32⟩
  | .hbm, ⟨38, _⟩ => ⟨S2x528x1024, .i32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x528x1024, .i32⟩
  | .hbm, ⟨44, _⟩ => ⟨S_, .i32⟩
  | .hbm, ⟨45, _⟩ => ⟨S2x528x1024, .i32⟩
  | .hbm, ⟨46, _⟩ => ⟨S2x528x1024, .i32⟩
  | .hbm, ⟨47, _⟩ => ⟨S2x528x1024, .f32⟩
  | .hbm, ⟨48, _⟩ => ⟨S2x528x1024, .f32⟩
  | .hbm, ⟨49, _⟩ => ⟨S2x528x1024, .f32⟩
  | .hbm, ⟨50, _⟩ => ⟨S_, .f32⟩
  | .hbm, ⟨51, _⟩ => ⟨S_, .f32⟩
  | .hbm, ⟨52, _⟩ => ⟨S2x528x1024, .f32⟩
  | .hbm, ⟨53, _⟩ => ⟨S2x528x1024, .f32⟩
  | .hbm, ⟨54, _⟩ => ⟨S2x528x1024, .f32⟩
  | .hbm, ⟨55, _⟩ => ⟨S2x528x1024, .f32⟩
  | .hbm, ⟨56, _⟩ => ⟨S2x528x1024, .f32⟩
  | .hbm, ⟨57, _⟩ => ⟨S2x528x1024, .f32⟩
  | .hbm, ⟨58, _⟩ => ⟨S_, .i32⟩
  | .hbm, ⟨59, _⟩ => ⟨S2x528x1024, .i32⟩
  | .hbm, ⟨60, _⟩ => ⟨S2x528x1024, .i32⟩
  | .hbm, ⟨61, _⟩ => ⟨S2x528x1024, .i1⟩
  | .hbm, ⟨62, _⟩ => ⟨S_, .f32⟩
  | .hbm, ⟨63, _⟩ => ⟨S_, .f32⟩
  | .hbm, ⟨64, _⟩ => ⟨S2x528x1024, .f32⟩
  | .hbm, ⟨65, _⟩ => ⟨S2x528x1024, .f32⟩
  | .hbm, ⟨66, _⟩ => ⟨S_, .f32⟩
  | .hbm, ⟨67, _⟩ => ⟨S_, .f32⟩
  | .hbm, ⟨68, _⟩ => ⟨S2x528x1024, .f32⟩
  | .hbm, ⟨69, _⟩ => ⟨S2x528x1024, .f32⟩
  | .hbm, ⟨70, _⟩ => ⟨S2x1x528x1024, .f32⟩
  | .hbm, ⟨71, _⟩ => ⟨S2x1x528x1024, .f32⟩
  | .hbm, ⟨72, _⟩ => ⟨S2x2x528x1024, .f32⟩
  | .hbm, ⟨73, _⟩ => ⟨S2x512x528, .i32⟩
  | .hbm, ⟨74, _⟩ => ⟨S2x512x528, .i32⟩
  | .hbm, ⟨75, _⟩ => ⟨S_, .i32⟩
  | .hbm, ⟨76, _⟩ => ⟨S2x512x528, .i32⟩
  | .hbm, ⟨77, _⟩ => ⟨S2x512x528, .i32⟩
  | .hbm, ⟨78, _⟩ => ⟨S2x512x528, .i32⟩
  | .hbm, ⟨79, _⟩ => ⟨S2x512x528, .i32⟩
  | .hbm, ⟨80, _⟩ => ⟨S2x512x528, .i1⟩
  | .hbm, ⟨81, _⟩ => ⟨S_, .f32⟩
  | .hbm, ⟨82, _⟩ => ⟨S_, .f32⟩
  | .hbm, ⟨83, _⟩ => ⟨S2x512x528, .f32⟩
  | .hbm, ⟨84, _⟩ => ⟨S2x512x528, .f32⟩
  | .hbm, ⟨85, _⟩ => ⟨S2x512x528, .f32⟩
  | .hbm, ⟨86, _⟩ => ⟨S128x256, .bf16⟩
  | .hbm, ⟨87, _⟩ => ⟨S2x2x528x1024, .bf16⟩
  | .hbm, ⟨88, _⟩ => ⟨S2x512x528, .bf16⟩
  | .hbm, ⟨89, _⟩ => ⟨S1024x1024, .f32⟩
  | .hbm, ⟨90, _⟩ => ⟨S512x1024, .f32⟩
  | .hbm, ⟨91, _⟩ => ⟨S1024x1024, .f32⟩
  | .hbm, ⟨92, _⟩ => ⟨S1024x4096, .f32⟩
  | .hbm, ⟨93, _⟩ => ⟨S4096x1024, .f32⟩
  | .hbm, ⟨94, _⟩ => ⟨S2x1024x4096, .bf16⟩
  | .hbm, ⟨95, _⟩ => ⟨S32x8x1024, .f32⟩
  | .hbm, ⟨96, _⟩ => ⟨S32x8x1024, .f32⟩
  | .hbm, ⟨97, _⟩ => ⟨S1024x1024, .bf16⟩
  | .hbm, ⟨98, _⟩ => ⟨S512x1024, .bf16⟩
  | .hbm, ⟨99, _⟩ => ⟨S1024x1024, .bf16⟩
  | .hbm, ⟨100, _⟩ => ⟨S1024x4096, .bf16⟩
  | .hbm, ⟨101, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S128x256, .bf16⟩
  | .local _ .vmem, ⟨3, _⟩ => ⟨S2x2x528x1024, .bf16⟩
  | .local _ .vmem, ⟨4, _⟩ => ⟨S2x512x528, .bf16⟩
  | .local _ .vmem, ⟨5, _⟩ => ⟨S4x4x8x128, .f32⟩
  | .local _ .vmem, ⟨6, _⟩ => ⟨S4x4x8x128, .f32⟩
  | .local _ .vmem, ⟨7, _⟩ => ⟨S32x4x8x128, .f32⟩
  | .local _ .vmem, ⟨8, _⟩ => ⟨S32x4x8x128, .f32⟩
  | .local _ .vmem, ⟨9, _⟩ => ⟨S128x1024, .f32⟩
  | .local _ .vmem, ⟨10, _⟩ => ⟨S128x1024, .f32⟩
  | .local _ .vmem, ⟨11, _⟩ => ⟨S64x1024, .f32⟩
  | .local _ .vmem, ⟨12, _⟩ => ⟨S64x1024, .f32⟩
  | .local _ .vmem, ⟨13, _⟩ => ⟨S128x1024, .f32⟩
  | .local _ .vmem, ⟨14, _⟩ => ⟨S128x1024, .f32⟩
  | .local _ .vmem, ⟨15, _⟩ => ⟨S128x4096, .f32⟩
  | .local _ .vmem, ⟨16, _⟩ => ⟨S128x4096, .f32⟩
  | .local _ .vmem, ⟨17, _⟩ => ⟨S512x1024, .f32⟩
  | .local _ .vmem, ⟨18, _⟩ => ⟨S512x1024, .f32⟩
  | .local _ .vmem, ⟨19, _⟩ => ⟨S2x1024x512, .bf16⟩
  | .local _ .vmem, ⟨20, _⟩ => ⟨S2x1024x512, .bf16⟩
  | .local _ .vmem, ⟨21, _⟩ => ⟨S32x8x128, .f32⟩
  | .local _ .vmem, ⟨22, _⟩ => ⟨S32x8x128, .f32⟩
  | .local _ .vmem, ⟨23, _⟩ => ⟨S32x8x128, .f32⟩
  | .local _ .vmem, ⟨24, _⟩ => ⟨S32x8x128, .f32⟩
  | .local _ .vmem, ⟨25, _⟩ => ⟨S128x1024, .bf16⟩
  | .local _ .vmem, ⟨26, _⟩ => ⟨S128x1024, .bf16⟩
  | .local _ .vmem, ⟨27, _⟩ => ⟨S64x1024, .bf16⟩
  | .local _ .vmem, ⟨28, _⟩ => ⟨S64x1024, .bf16⟩
  | .local _ .vmem, ⟨29, _⟩ => ⟨S128x1024, .bf16⟩
  | .local _ .vmem, ⟨30, _⟩ => ⟨S128x1024, .bf16⟩
  | .local _ .vmem, ⟨31, _⟩ => ⟨S128x4096, .bf16⟩
  | .local _ .vmem, ⟨32, _⟩ => ⟨S128x4096, .bf16⟩
  | .local _ .vmem, ⟨33, _⟩ => ⟨S512x1024, .bf16⟩
  | .local _ .vmem, ⟨34, _⟩ => ⟨S512x1024, .bf16⟩
  | .local _ .vmem, ⟨35, _⟩ => ⟨S2x2048x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_v43 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64_0 : Ref sig .tc := ⟨.hbm, 94, rfl⟩
abbrev main_v64_1 : Ref sig .tc := ⟨.hbm, 95, rfl⟩
abbrev main_v64_2 : Ref sig .tc := ⟨.hbm, 96, rfl⟩
abbrev main_v64_3 : Ref sig .tc := ⟨.hbm, 97, rfl⟩
abbrev main_v64_4 : Ref sig .tc := ⟨.hbm, 98, rfl⟩
abbrev main_v64_5 : Ref sig .tc := ⟨.hbm, 99, rfl⟩
abbrev main_v64_6 : Ref sig .tc := ⟨.hbm, 100, rfl⟩
abbrev main_v64_7 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x528x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x528 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2048x4096 : Shape := ⟨2, ![2048, 4096]⟩
abbrev S4x4x8x1024 : Shape := ⟨4, ![4, 4, 8, 1024]⟩
abbrev S32x4x8x1024 : Shape := ⟨4, ![32, 4, 8, 1024]⟩
abbrev S1x1024x1024 : Shape := ⟨3, ![1, 1024, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S2048x8x4x128 : Shape := ⟨4, ![2048, 8, 4, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1024x2x4096 : Shape := ⟨3, ![1024, 2, 4096]⟩
abbrev S2x1024x4096 : Shape := ⟨3, ![2, 1024, 4096]⟩
abbrev S4x2x8x1024 : Shape := ⟨4, ![4, 2, 8, 1024]⟩
abbrev S32x2x8x1024 : Shape := ⟨4, ![32, 2, 8, 1024]⟩
abbrev S8x1024 : Shape := ⟨2, ![8, 1024]⟩
abbrev S1x1x8x1024 : Shape := ⟨4, ![1, 1, 8, 1024]⟩
abbrev S1x8x1024 : Shape := ⟨3, ![1, 8, 1024]⟩
abbrev S16x8x1024 : Shape := ⟨3, ![16, 8, 1024]⟩
abbrev S32x8x1024 : Shape := ⟨3, ![32, 8, 1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩

abbrev nBuf : Space → Nat
  | .hbm => 606
  | .vmem => 0
  | .smem => 0
  | _ => 0

abbrev hbmTy0_0 (i : Nat) : BufTy := match i % 128 with
  | 0 => ⟨S2048x4096, .bf16⟩
  | 1 => ⟨S4x4x8x1024, .f32⟩
  | 2 => ⟨S32x4x8x1024, .f32⟩
  | 3 => ⟨S1x1024x1024, .f32⟩
  | 4 => ⟨S1x512x1024, .f32⟩
  | 5 => ⟨S1x1024x1024, .f32⟩
  | 6 => ⟨S1x1024x4096, .f32⟩
  | 7 => ⟨S1x4096x1024, .f32⟩
  | 8 => ⟨S2048x4096, .f32⟩
  | 9 => ⟨S2048x8x4x128, .f32⟩
  | 10 => ⟨S_, .f32⟩
  | 11 => ⟨S_, .f32⟩
  | 12 => ⟨S128, .i32⟩
  | 13 => ⟨S_, .f32⟩
  | 14 => ⟨S_, .f32⟩
  | 15 => ⟨S128x1, .i32⟩
  | 16 => ⟨S1x128, .i32⟩
  | 17 => ⟨S128x128, .i32⟩
  | 18 => ⟨S128x128, .i32⟩
  | 19 => ⟨S128x128, .i32⟩
  | 20 => ⟨S128x128, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S128x128, .f32⟩
  | 27 => ⟨S128, .i32⟩
  | 28 => ⟨S_, .f32⟩
  | 29 => ⟨S_, .f32⟩
  | 30 => ⟨S128x1, .i32⟩
  | 31 => ⟨S1x128, .i32⟩
  | 32 => ⟨S128x128, .i32⟩
  | 33 => ⟨S128x128, .i32⟩
  | 34 => ⟨S128x128, .i32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S128x128, .f32⟩
  | 42 => ⟨S2048, .i32⟩
  | 43 => ⟨S_, .f32⟩
  | 44 => ⟨S_, .f32⟩
  | 45 => ⟨S2048x1, .i32⟩
  | 46 => ⟨S1x2048, .i32⟩
  | 47 => ⟨S2048x2048, .i32⟩
  | 48 => ⟨S2048x2048, .i32⟩
  | 49 => ⟨S2048x2048, .i32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S2048x2048, .f32⟩
  | 57 => ⟨S2048, .i32⟩
  | 58 => ⟨S_, .f32⟩
  | 59 => ⟨S_, .f32⟩
  | 60 => ⟨S2048x1, .i32⟩
  | 61 => ⟨S1x2048, .i32⟩
  | 62 => ⟨S2048x2048, .i32⟩
  | 63 => ⟨S2048x2048, .i32⟩
  | 64 => ⟨S2048x2048, .i32⟩
  | 65 => ⟨S2048x2048, .f32⟩
  | 66 => ⟨S2048x2048, .f32⟩
  | 67 => ⟨S2048x2048, .f32⟩
  | 68 => ⟨S_, .f32⟩
  | 69 => ⟨S2048x2048, .f32⟩
  | 70 => ⟨S2048x2048, .f32⟩
  | 71 => ⟨S2048x2048, .f32⟩
  | 72 => ⟨S2048x8x4x128, .f32⟩
  | 73 => ⟨S2048x8x4x128, .f32⟩
  | 74 => ⟨S2048x8x4x128, .f32⟩
  | 75 => ⟨S2048x8x4x128, .f32⟩
  | 76 => ⟨S2048x8x4x128, .f32⟩
  | 77 => ⟨S_, .f32⟩
  | 78 => ⟨S2048x8x4x128, .f32⟩
  | 79 => ⟨S2048x8x4x128, .f32⟩
  | 80 => ⟨S1024x2x4096, .f32⟩
  | 81 => ⟨S2x1024x4096, .f32⟩
  | 82 => ⟨S2x1024x4096, .bf16⟩
  | 83 => ⟨S4x2x8x1024, .f32⟩
  | 84 => ⟨S32x2x8x1024, .f32⟩
  | 85 => ⟨S_, .f32⟩
  | 86 => ⟨S8x1024, .f32⟩
  | 87 => ⟨S1x1x8x1024, .f32⟩
  | 88 => ⟨S8x1024, .f32⟩
  | 89 => ⟨S8x1024, .f32⟩
  | 90 => ⟨S1x1x8x1024, .f32⟩
  | 91 => ⟨S8x1024, .f32⟩
  | 92 => ⟨S8x1024, .f32⟩
  | 93 => ⟨S1x1x8x1024, .f32⟩
  | 94 => ⟨S8x1024, .f32⟩
  | 95 => ⟨S8x1024, .f32⟩
  | 96 => ⟨S1x1x8x1024, .f32⟩
  | 97 => ⟨S8x1024, .f32⟩
  | 98 => ⟨S8x1024, .f32⟩
  | 99 => ⟨S1x1x8x1024, .f32⟩
  | 100 => ⟨S8x1024, .f32⟩
  | 101 => ⟨S8x1024, .f32⟩
  | 102 => ⟨S1x1x8x1024, .f32⟩
  | 103 => ⟨S8x1024, .f32⟩
  | 104 => ⟨S8x1024, .f32⟩
  | 105 => ⟨S1x1x8x1024, .f32⟩
  | 106 => ⟨S8x1024, .f32⟩
  | 107 => ⟨S8x1024, .f32⟩
  | 108 => ⟨S1x1x8x1024, .f32⟩
  | 109 => ⟨S8x1024, .f32⟩
  | 110 => ⟨S8x1024, .f32⟩
  | 111 => ⟨S1x1x8x1024, .f32⟩
  | 112 => ⟨S8x1024, .f32⟩
  | 113 => ⟨S8x1024, .f32⟩
  | 114 => ⟨S1x1x8x1024, .f32⟩
  | 115 => ⟨S8x1024, .f32⟩
  | 116 => ⟨S8x1024, .f32⟩
  | 117 => ⟨S1x1x8x1024, .f32⟩
  | 118 => ⟨S8x1024, .f32⟩
  | 119 => ⟨S8x1024, .f32⟩
  | 120 => ⟨S1x1x8x1024, .f32⟩
  | 121 => ⟨S8x1024, .f32⟩
  | 122 => ⟨S8x1024, .f32⟩
  | 123 => ⟨S1x1x8x1024, .f32⟩
  | 124 => ⟨S8x1024, .f32⟩
  | 125 => ⟨S8x1024, .f32⟩
  | 126 => ⟨S1x1x8x1024, .f32⟩
  | 127 => ⟨S8x1024, .f32⟩
  | _ => ⟨S2048x4096, .bf16⟩

abbrev hbmTy0_1 (i : Nat) : BufTy := match i % 128 with
  | 0 => ⟨S8x1024, .f32⟩
  | 1 => ⟨S1x1x8x1024, .f32⟩
  | 2 => ⟨S8x1024, .f32⟩
  | 3 => ⟨S8x1024, .f32⟩
  | 4 => ⟨S1x1x8x1024, .f32⟩
  | 5 => ⟨S8x1024, .f32⟩
  | 6 => ⟨S8x1024, .f32⟩
  | 7 => ⟨S1x1x8x1024, .f32⟩
  | 8 => ⟨S8x1024, .f32⟩
  | 9 => ⟨S8x1024, .f32⟩
  | 10 => ⟨S1x1x8x1024, .f32⟩
  | 11 => ⟨S8x1024, .f32⟩
  | 12 => ⟨S8x1024, .f32⟩
  | 13 => ⟨S1x1x8x1024, .f32⟩
  | 14 => ⟨S8x1024, .f32⟩
  | 15 => ⟨S8x1024, .f32⟩
  | 16 => ⟨S1x1x8x1024, .f32⟩
  | 17 => ⟨S8x1024, .f32⟩
  | 18 => ⟨S8x1024, .f32⟩
  | 19 => ⟨S1x1x8x1024, .f32⟩
  | 20 => ⟨S8x1024, .f32⟩
  | 21 => ⟨S8x1024, .f32⟩
  | 22 => ⟨S1x1x8x1024, .f32⟩
  | 23 => ⟨S8x1024, .f32⟩
  | 24 => ⟨S8x1024, .f32⟩
  | 25 => ⟨S1x1x8x1024, .f32⟩
  | 26 => ⟨S8x1024, .f32⟩
  | 27 => ⟨S8x1024, .f32⟩
  | 28 => ⟨S1x1x8x1024, .f32⟩
  | 29 => ⟨S8x1024, .f32⟩
  | 30 => ⟨S8x1024, .f32⟩
  | 31 => ⟨S1x1x8x1024, .f32⟩
  | 32 => ⟨S8x1024, .f32⟩
  | 33 => ⟨S8x1024, .f32⟩
  | 34 => ⟨S1x1x8x1024, .f32⟩
  | 35 => ⟨S8x1024, .f32⟩
  | 36 => ⟨S8x1024, .f32⟩
  | 37 => ⟨S1x1x8x1024, .f32⟩
  | 38 => ⟨S8x1024, .f32⟩
  | 39 => ⟨S8x1024, .f32⟩
  | 40 => ⟨S1x1x8x1024, .f32⟩
  | 41 => ⟨S8x1024, .f32⟩
  | 42 => ⟨S8x1024, .f32⟩
  | 43 => ⟨S1x1x8x1024, .f32⟩
  | 44 => ⟨S8x1024, .f32⟩
  | 45 => ⟨S8x1024, .f32⟩
  | 46 => ⟨S1x1x8x1024, .f32⟩
  | 47 => ⟨S8x1024, .f32⟩
  | 48 => ⟨S8x1024, .f32⟩
  | 49 => ⟨S1x1x8x1024, .f32⟩
  | 50 => ⟨S8x1024, .f32⟩
  | 51 => ⟨S8x1024, .f32⟩
  | 52 => ⟨S1x1x8x1024, .f32⟩
  | 53 => ⟨S8x1024, .f32⟩
  | 54 => ⟨S8x1024, .f32⟩
  | 55 => ⟨S1x1x8x1024, .f32⟩
  | 56 => ⟨S8x1024, .f32⟩
  | 57 => ⟨S8x1024, .f32⟩
  | 58 => ⟨S1x1x8x1024, .f32⟩
  | 59 => ⟨S8x1024, .f32⟩
  | 60 => ⟨S8x1024, .f32⟩
  | 61 => ⟨S1x1x8x1024, .f32⟩
  | 62 => ⟨S8x1024, .f32⟩
  | 63 => ⟨S8x1024, .f32⟩
  | 64 => ⟨S1x1x8x1024, .f32⟩
  | 65 => ⟨S8x1024, .f32⟩
  | 66 => ⟨S8x1024, .f32⟩
  | 67 => ⟨S1x1x8x1024, .f32⟩
  | 68 => ⟨S8x1024, .f32⟩
  | 69 => ⟨S8x1024, .f32⟩
  | 70 => ⟨S1x1x8x1024, .f32⟩
  | 71 => ⟨S8x1024, .f32⟩
  | 72 => ⟨S8x1024, .f32⟩
  | 73 => ⟨S1x1x8x1024, .f32⟩
  | 74 => ⟨S8x1024, .f32⟩
  | 75 => ⟨S8x1024, .f32⟩
  | 76 => ⟨S1x1x8x1024, .f32⟩
  | 77 => ⟨S8x1024, .f32⟩
  | 78 => ⟨S8x1024, .f32⟩
  | 79 => ⟨S1x1x8x1024, .f32⟩
  | 80 => ⟨S8x1024, .f32⟩
  | 81 => ⟨S8x1024, .f32⟩
  | 82 => ⟨S1x1x8x1024, .f32⟩
  | 83 => ⟨S8x1024, .f32⟩
  | 84 => ⟨S8x1024, .f32⟩
  | 85 => ⟨S1x1x8x1024, .f32⟩
  | 86 => ⟨S8x1024, .f32⟩
  | 87 => ⟨S8x1024, .f32⟩
  | 88 => ⟨S1x1x8x1024, .f32⟩
  | 89 => ⟨S8x1024, .f32⟩
  | 90 => ⟨S8x1024, .f32⟩
  | 91 => ⟨S1x1x8x1024, .f32⟩
  | 92 => ⟨S8x1024, .f32⟩
  | 93 => ⟨S8x1024, .f32⟩
  | 94 => ⟨S1x1x8x1024, .f32⟩
  | 95 => ⟨S8x1024, .f32⟩
  | 96 => ⟨S8x1024, .f32⟩
  | 97 => ⟨S1x1x8x1024, .f32⟩
  | 98 => ⟨S8x1024, .f32⟩
  | 99 => ⟨S8x1024, .f32⟩
  | 100 => ⟨S1x1x8x1024, .f32⟩
  | 101 => ⟨S8x1024, .f32⟩
  | 102 => ⟨S8x1024, .f32⟩
  | 103 => ⟨S1x1x8x1024, .f32⟩
  | 104 => ⟨S8x1024, .f32⟩
  | 105 => ⟨S8x1024, .f32⟩
  | 106 => ⟨S1x1x8x1024, .f32⟩
  | 107 => ⟨S8x1024, .f32⟩
  | 108 => ⟨S8x1024, .f32⟩
  | 109 => ⟨S1x1x8x1024, .f32⟩
  | 110 => ⟨S8x1024, .f32⟩
  | 111 => ⟨S8x1024, .f32⟩
  | 112 => ⟨S1x1x8x1024, .f32⟩
  | 113 => ⟨S8x1024, .f32⟩
  | 114 => ⟨S8x1024, .f32⟩
  | 115 => ⟨S1x1x8x1024, .f32⟩
  | 116 => ⟨S8x1024, .f32⟩
  | 117 => ⟨S8x1024, .f32⟩
  | 118 => ⟨S1x1x8x1024, .f32⟩
  | 119 => ⟨S8x1024, .f32⟩
  | 120 => ⟨S8x1024, .f32⟩
  | 121 => ⟨S1x1x8x1024, .f32⟩
  | 122 => ⟨S8x1024, .f32⟩
  | 123 => ⟨S8x1024, .f32⟩
  | 124 => ⟨S1x1x8x1024, .f32⟩
  | 125 => ⟨S8x1024, .f32⟩
  | 126 => ⟨S8x1024, .f32⟩
  | 127 => ⟨S1x1x8x1024, .f32⟩
  | _ => ⟨S2048x4096, .bf16⟩

abbrev hbmTy0_2 (i : Nat) : BufTy := match i % 128 with
  | 0 => ⟨S8x1024, .f32⟩
  | 1 => ⟨S8x1024, .f32⟩
  | 2 => ⟨S1x1x8x1024, .f32⟩
  | 3 => ⟨S8x1024, .f32⟩
  | 4 => ⟨S8x1024, .f32⟩
  | 5 => ⟨S1x1x8x1024, .f32⟩
  | 6 => ⟨S8x1024, .f32⟩
  | 7 => ⟨S8x1024, .f32⟩
  | 8 => ⟨S1x1x8x1024, .f32⟩
  | 9 => ⟨S8x1024, .f32⟩
  | 10 => ⟨S8x1024, .f32⟩
  | 11 => ⟨S1x1x8x1024, .f32⟩
  | 12 => ⟨S8x1024, .f32⟩
  | 13 => ⟨S8x1024, .f32⟩
  | 14 => ⟨S1x1x8x1024, .f32⟩
  | 15 => ⟨S8x1024, .f32⟩
  | 16 => ⟨S8x1024, .f32⟩
  | 17 => ⟨S1x1x8x1024, .f32⟩
  | 18 => ⟨S8x1024, .f32⟩
  | 19 => ⟨S8x1024, .f32⟩
  | 20 => ⟨S1x1x8x1024, .f32⟩
  | 21 => ⟨S8x1024, .f32⟩
  | 22 => ⟨S8x1024, .f32⟩
  | 23 => ⟨S1x1x8x1024, .f32⟩
  | 24 => ⟨S8x1024, .f32⟩
  | 25 => ⟨S8x1024, .f32⟩
  | 26 => ⟨S1x1x8x1024, .f32⟩
  | 27 => ⟨S8x1024, .f32⟩
  | 28 => ⟨S8x1024, .f32⟩
  | 29 => ⟨S1x1x8x1024, .f32⟩
  | 30 => ⟨S8x1024, .f32⟩
  | 31 => ⟨S8x1024, .f32⟩
  | 32 => ⟨S1x1x8x1024, .f32⟩
  | 33 => ⟨S8x1024, .f32⟩
  | 34 => ⟨S8x1024, .f32⟩
  | 35 => ⟨S1x1x8x1024, .f32⟩
  | 36 => ⟨S8x1024, .f32⟩
  | 37 => ⟨S8x1024, .f32⟩
  | 38 => ⟨S1x1x8x1024, .f32⟩
  | 39 => ⟨S8x1024, .f32⟩
  | 40 => ⟨S8x1024, .f32⟩
  | 41 => ⟨S1x1x8x1024, .f32⟩
  | 42 => ⟨S8x1024, .f32⟩
  | 43 => ⟨S8x1024, .f32⟩
  | 44 => ⟨S1x1x8x1024, .f32⟩
  | 45 => ⟨S8x1024, .f32⟩
  | 46 => ⟨S8x1024, .f32⟩
  | 47 => ⟨S1x8x1024, .f32⟩
  | 48 => ⟨S1x8x1024, .f32⟩
  | 49 => ⟨S1x8x1024, .f32⟩
  | 50 => ⟨S1x8x1024, .f32⟩
  | 51 => ⟨S1x8x1024, .f32⟩
  | 52 => ⟨S1x8x1024, .f32⟩
  | 53 => ⟨S1x8x1024, .f32⟩
  | 54 => ⟨S1x8x1024, .f32⟩
  | 55 => ⟨S1x8x1024, .f32⟩
  | 56 => ⟨S1x8x1024, .f32⟩
  | 57 => ⟨S1x8x1024, .f32⟩
  | 58 => ⟨S1x8x1024, .f32⟩
  | 59 => ⟨S1x8x1024, .f32⟩
  | 60 => ⟨S1x8x1024, .f32⟩
  | 61 => ⟨S1x8x1024, .f32⟩
  | 62 => ⟨S1x8x1024, .f32⟩
  | 63 => ⟨S1x8x1024, .f32⟩
  | 64 => ⟨S1x8x1024, .f32⟩
  | 65 => ⟨S1x8x1024, .f32⟩
  | 66 => ⟨S1x8x1024, .f32⟩
  | 67 => ⟨S1x8x1024, .f32⟩
  | 68 => ⟨S1x8x1024, .f32⟩
  | 69 => ⟨S1x8x1024, .f32⟩
  | 70 => ⟨S1x8x1024, .f32⟩
  | 71 => ⟨S1x8x1024, .f32⟩
  | 72 => ⟨S1x8x1024, .f32⟩
  | 73 => ⟨S1x8x1024, .f32⟩
  | 74 => ⟨S1x8x1024, .f32⟩
  | 75 => ⟨S1x8x1024, .f32⟩
  | 76 => ⟨S1x8x1024, .f32⟩
  | 77 => ⟨S1x8x1024, .f32⟩
  | 78 => ⟨S1x8x1024, .f32⟩
  | 79 => ⟨S16x8x1024, .f32⟩
  | 80 => ⟨S16x8x1024, .f32⟩
  | 81 => ⟨S32x8x1024, .f32⟩
  | 82 => ⟨S4x2x8x1024, .f32⟩
  | 83 => ⟨S4x2x8x1024, .f32⟩
  | 84 => ⟨S32x2x8x1024, .f32⟩
  | 85 => ⟨S32x2x8x1024, .f32⟩
  | 86 => ⟨S_, .f32⟩
  | 87 => ⟨S8x1024, .f32⟩
  | 88 => ⟨S1x1x8x1024, .f32⟩
  | 89 => ⟨S8x1024, .f32⟩
  | 90 => ⟨S8x1024, .f32⟩
  | 91 => ⟨S1x1x8x1024, .f32⟩
  | 92 => ⟨S8x1024, .f32⟩
  | 93 => ⟨S8x1024, .f32⟩
  | 94 => ⟨S1x1x8x1024, .f32⟩
  | 95 => ⟨S8x1024, .f32⟩
  | 96 => ⟨S8x1024, .f32⟩
  | 97 => ⟨S1x1x8x1024, .f32⟩
  | 98 => ⟨S8x1024, .f32⟩
  | 99 => ⟨S8x1024, .f32⟩
  | 100 => ⟨S1x1x8x1024, .f32⟩
  | 101 => ⟨S8x1024, .f32⟩
  | 102 => ⟨S8x1024, .f32⟩
  | 103 => ⟨S1x1x8x1024, .f32⟩
  | 104 => ⟨S8x1024, .f32⟩
  | 105 => ⟨S8x1024, .f32⟩
  | 106 => ⟨S1x1x8x1024, .f32⟩
  | 107 => ⟨S8x1024, .f32⟩
  | 108 => ⟨S8x1024, .f32⟩
  | 109 => ⟨S1x1x8x1024, .f32⟩
  | 110 => ⟨S8x1024, .f32⟩
  | 111 => ⟨S8x1024, .f32⟩
  | 112 => ⟨S1x1x8x1024, .f32⟩
  | 113 => ⟨S8x1024, .f32⟩
  | 114 => ⟨S8x1024, .f32⟩
  | 115 => ⟨S1x1x8x1024, .f32⟩
  | 116 => ⟨S8x1024, .f32⟩
  | 117 => ⟨S8x1024, .f32⟩
  | 118 => ⟨S1x1x8x1024, .f32⟩
  | 119 => ⟨S8x1024, .f32⟩
  | 120 => ⟨S8x1024, .f32⟩
  | 121 => ⟨S1x1x8x1024, .f32⟩
  | 122 => ⟨S8x1024, .f32⟩
  | 123 => ⟨S8x1024, .f32⟩
  | 124 => ⟨S1x1x8x1024, .f32⟩
  | 125 => ⟨S8x1024, .f32⟩
  | 126 => ⟨S8x1024, .f32⟩
  | 127 => ⟨S1x1x8x1024, .f32⟩
  | _ => ⟨S2048x4096, .bf16⟩

abbrev hbmTy0_3 (i : Nat) : BufTy := match i % 128 with
  | 0 => ⟨S8x1024, .f32⟩
  | 1 => ⟨S8x1024, .f32⟩
  | 2 => ⟨S1x1x8x1024, .f32⟩
  | 3 => ⟨S8x1024, .f32⟩
  | 4 => ⟨S8x1024, .f32⟩
  | 5 => ⟨S1x1x8x1024, .f32⟩
  | 6 => ⟨S8x1024, .f32⟩
  | 7 => ⟨S8x1024, .f32⟩
  | 8 => ⟨S1x1x8x1024, .f32⟩
  | 9 => ⟨S8x1024, .f32⟩
  | 10 => ⟨S8x1024, .f32⟩
  | 11 => ⟨S1x1x8x1024, .f32⟩
  | 12 => ⟨S8x1024, .f32⟩
  | 13 => ⟨S8x1024, .f32⟩
  | 14 => ⟨S1x1x8x1024, .f32⟩
  | 15 => ⟨S8x1024, .f32⟩
  | 16 => ⟨S8x1024, .f32⟩
  | 17 => ⟨S1x1x8x1024, .f32⟩
  | 18 => ⟨S8x1024, .f32⟩
  | 19 => ⟨S8x1024, .f32⟩
  | 20 => ⟨S1x1x8x1024, .f32⟩
  | 21 => ⟨S8x1024, .f32⟩
  | 22 => ⟨S8x1024, .f32⟩
  | 23 => ⟨S1x1x8x1024, .f32⟩
  | 24 => ⟨S8x1024, .f32⟩
  | 25 => ⟨S8x1024, .f32⟩
  | 26 => ⟨S1x1x8x1024, .f32⟩
  | 27 => ⟨S8x1024, .f32⟩
  | 28 => ⟨S8x1024, .f32⟩
  | 29 => ⟨S1x1x8x1024, .f32⟩
  | 30 => ⟨S8x1024, .f32⟩
  | 31 => ⟨S8x1024, .f32⟩
  | 32 => ⟨S1x1x8x1024, .f32⟩
  | 33 => ⟨S8x1024, .f32⟩
  | 34 => ⟨S8x1024, .f32⟩
  | 35 => ⟨S1x1x8x1024, .f32⟩
  | 36 => ⟨S8x1024, .f32⟩
  | 37 => ⟨S8x1024, .f32⟩
  | 38 => ⟨S1x1x8x1024, .f32⟩
  | 39 => ⟨S8x1024, .f32⟩
  | 40 => ⟨S8x1024, .f32⟩
  | 41 => ⟨S1x1x8x1024, .f32⟩
  | 42 => ⟨S8x1024, .f32⟩
  | 43 => ⟨S8x1024, .f32⟩
  | 44 => ⟨S1x1x8x1024, .f32⟩
  | 45 => ⟨S8x1024, .f32⟩
  | 46 => ⟨S8x1024, .f32⟩
  | 47 => ⟨S1x1x8x1024, .f32⟩
  | 48 => ⟨S8x1024, .f32⟩
  | 49 => ⟨S8x1024, .f32⟩
  | 50 => ⟨S1x1x8x1024, .f32⟩
  | 51 => ⟨S8x1024, .f32⟩
  | 52 => ⟨S8x1024, .f32⟩
  | 53 => ⟨S1x1x8x1024, .f32⟩
  | 54 => ⟨S8x1024, .f32⟩
  | 55 => ⟨S8x1024, .f32⟩
  | 56 => ⟨S1x1x8x1024, .f32⟩
  | 57 => ⟨S8x1024, .f32⟩
  | 58 => ⟨S8x1024, .f32⟩
  | 59 => ⟨S1x1x8x1024, .f32⟩
  | 60 => ⟨S8x1024, .f32⟩
  | 61 => ⟨S8x1024, .f32⟩
  | 62 => ⟨S1x1x8x1024, .f32⟩
  | 63 => ⟨S8x1024, .f32⟩
  | 64 => ⟨S8x1024, .f32⟩
  | 65 => ⟨S1x1x8x1024, .f32⟩
  | 66 => ⟨S8x1024, .f32⟩
  | 67 => ⟨S8x1024, .f32⟩
  | 68 => ⟨S1x1x8x1024, .f32⟩
  | 69 => ⟨S8x1024, .f32⟩
  | 70 => ⟨S8x1024, .f32⟩
  | 71 => ⟨S1x1x8x1024, .f32⟩
  | 72 => ⟨S8x1024, .f32⟩
  | 73 => ⟨S8x1024, .f32⟩
  | 74 => ⟨S1x1x8x1024, .f32⟩
  | 75 => ⟨S8x1024, .f32⟩
  | 76 => ⟨S8x1024, .f32⟩
  | 77 => ⟨S1x1x8x1024, .f32⟩
  | 78 => ⟨S8x1024, .f32⟩
  | 79 => ⟨S8x1024, .f32⟩
  | 80 => ⟨S1x1x8x1024, .f32⟩
  | 81 => ⟨S8x1024, .f32⟩
  | 82 => ⟨S8x1024, .f32⟩
  | 83 => ⟨S1x1x8x1024, .f32⟩
  | 84 => ⟨S8x1024, .f32⟩
  | 85 => ⟨S8x1024, .f32⟩
  | 86 => ⟨S1x1x8x1024, .f32⟩
  | 87 => ⟨S8x1024, .f32⟩
  | 88 => ⟨S8x1024, .f32⟩
  | 89 => ⟨S1x1x8x1024, .f32⟩
  | 90 => ⟨S8x1024, .f32⟩
  | 91 => ⟨S8x1024, .f32⟩
  | 92 => ⟨S1x1x8x1024, .f32⟩
  | 93 => ⟨S8x1024, .f32⟩
  | 94 => ⟨S8x1024, .f32⟩
  | 95 => ⟨S1x1x8x1024, .f32⟩
  | 96 => ⟨S8x1024, .f32⟩
  | 97 => ⟨S8x1024, .f32⟩
  | 98 => ⟨S1x1x8x1024, .f32⟩
  | 99 => ⟨S8x1024, .f32⟩
  | 100 => ⟨S8x1024, .f32⟩
  | 101 => ⟨S1x1x8x1024, .f32⟩
  | 102 => ⟨S8x1024, .f32⟩
  | 103 => ⟨S8x1024, .f32⟩
  | 104 => ⟨S1x1x8x1024, .f32⟩
  | 105 => ⟨S8x1024, .f32⟩
  | 106 => ⟨S8x1024, .f32⟩
  | 107 => ⟨S1x1x8x1024, .f32⟩
  | 108 => ⟨S8x1024, .f32⟩
  | 109 => ⟨S8x1024, .f32⟩
  | 110 => ⟨S1x1x8x1024, .f32⟩
  | 111 => ⟨S8x1024, .f32⟩
  | 112 => ⟨S8x1024, .f32⟩
  | 113 => ⟨S1x1x8x1024, .f32⟩
  | 114 => ⟨S8x1024, .f32⟩
  | 115 => ⟨S8x1024, .f32⟩
  | 116 => ⟨S1x1x8x1024, .f32⟩
  | 117 => ⟨S8x1024, .f32⟩
  | 118 => ⟨S8x1024, .f32⟩
  | 119 => ⟨S1x1x8x1024, .f32⟩
  | 120 => ⟨S8x1024, .f32⟩
  | 121 => ⟨S8x1024, .f32⟩
  | 122 => ⟨S1x1x8x1024, .f32⟩
  | 123 => ⟨S8x1024, .f32⟩
  | 124 => ⟨S8x1024, .f32⟩
  | 125 => ⟨S1x1x8x1024, .f32⟩
  | 126 => ⟨S8x1024, .f32⟩
  | 127 => ⟨S8x1024, .f32⟩
  | _ => ⟨S2048x4096, .bf16⟩

abbrev hbmTy0_4 (i : Nat) : BufTy := match i % 128 with
  | 0 => ⟨S1x1x8x1024, .f32⟩
  | 1 => ⟨S8x1024, .f32⟩
  | 2 => ⟨S8x1024, .f32⟩
  | 3 => ⟨S1x1x8x1024, .f32⟩
  | 4 => ⟨S8x1024, .f32⟩
  | 5 => ⟨S8x1024, .f32⟩
  | 6 => ⟨S1x1x8x1024, .f32⟩
  | 7 => ⟨S8x1024, .f32⟩
  | 8 => ⟨S8x1024, .f32⟩
  | 9 => ⟨S1x1x8x1024, .f32⟩
  | 10 => ⟨S8x1024, .f32⟩
  | 11 => ⟨S8x1024, .f32⟩
  | 12 => ⟨S1x1x8x1024, .f32⟩
  | 13 => ⟨S8x1024, .f32⟩
  | 14 => ⟨S8x1024, .f32⟩
  | 15 => ⟨S1x1x8x1024, .f32⟩
  | 16 => ⟨S8x1024, .f32⟩
  | 17 => ⟨S8x1024, .f32⟩
  | 18 => ⟨S1x1x8x1024, .f32⟩
  | 19 => ⟨S8x1024, .f32⟩
  | 20 => ⟨S8x1024, .f32⟩
  | 21 => ⟨S1x1x8x1024, .f32⟩
  | 22 => ⟨S8x1024, .f32⟩
  | 23 => ⟨S8x1024, .f32⟩
  | 24 => ⟨S1x1x8x1024, .f32⟩
  | 25 => ⟨S8x1024, .f32⟩
  | 26 => ⟨S8x1024, .f32⟩
  | 27 => ⟨S1x1x8x1024, .f32⟩
  | 28 => ⟨S8x1024, .f32⟩
  | 29 => ⟨S8x1024, .f32⟩
  | 30 => ⟨S1x1x8x1024, .f32⟩
  | 31 => ⟨S8x1024, .f32⟩
  | 32 => ⟨S8x1024, .f32⟩
  | 33 => ⟨S1x1x8x1024, .f32⟩
  | 34 => ⟨S8x1024, .f32⟩
  | 35 => ⟨S8x1024, .f32⟩
  | 36 => ⟨S1x1x8x1024, .f32⟩
  | 37 => ⟨S8x1024, .f32⟩
  | 38 => ⟨S8x1024, .f32⟩
  | 39 => ⟨S1x1x8x1024, .f32⟩
  | 40 => ⟨S8x1024, .f32⟩
  | 41 => ⟨S8x1024, .f32⟩
  | 42 => ⟨S1x1x8x1024, .f32⟩
  | 43 => ⟨S8x1024, .f32⟩
  | 44 => ⟨S8x1024, .f32⟩
  | 45 => ⟨S1x1x8x1024, .f32⟩
  | 46 => ⟨S8x1024, .f32⟩
  | 47 => ⟨S8x1024, .f32⟩
  | 48 => ⟨S1x8x1024, .f32⟩
  | 49 => ⟨S1x8x1024, .f32⟩
  | 50 => ⟨S1x8x1024, .f32⟩
  | 51 => ⟨S1x8x1024, .f32⟩
  | 52 => ⟨S1x8x1024, .f32⟩
  | 53 => ⟨S1x8x1024, .f32⟩
  | 54 => ⟨S1x8x1024, .f32⟩
  | 55 => ⟨S1x8x1024, .f32⟩
  | 56 => ⟨S1x8x1024, .f32⟩
  | 57 => ⟨S1x8x1024, .f32⟩
  | 58 => ⟨S1x8x1024, .f32⟩
  | 59 => ⟨S1x8x1024, .f32⟩
  | 60 => ⟨S1x8x1024, .f32⟩
  | 61 => ⟨S1x8x1024, .f32⟩
  | 62 => ⟨S1x8x1024, .f32⟩
  | 63 => ⟨S1x8x1024, .f32⟩
  | 64 => ⟨S1x8x1024, .f32⟩
  | 65 => ⟨S1x8x1024, .f32⟩
  | 66 => ⟨S1x8x1024, .f32⟩
  | 67 => ⟨S1x8x1024, .f32⟩
  | 68 => ⟨S1x8x1024, .f32⟩
  | 69 => ⟨S1x8x1024, .f32⟩
  | 70 => ⟨S1x8x1024, .f32⟩
  | 71 => ⟨S1x8x1024, .f32⟩
  | 72 => ⟨S1x8x1024, .f32⟩
  | 73 => ⟨S1x8x1024, .f32⟩
  | 74 => ⟨S1x8x1024, .f32⟩
  | 75 => ⟨S1x8x1024, .f32⟩
  | 76 => ⟨S1x8x1024, .f32⟩
  | 77 => ⟨S1x8x1024, .f32⟩
  | 78 => ⟨S1x8x1024, .f32⟩
  | 79 => ⟨S1x8x1024, .f32⟩
  | 80 => ⟨S16x8x1024, .f32⟩
  | 81 => ⟨S16x8x1024, .f32⟩
  | 82 => ⟨S32x8x1024, .f32⟩
  | 83 => ⟨S32x8x1024, .f32⟩
  | 84 => ⟨S1024x1024, .f32⟩
  | 85 => ⟨S1024x1024, .bf16⟩
  | 86 => ⟨S512x1024, .f32⟩
  | 87 => ⟨S512x1024, .bf16⟩
  | 88 => ⟨S1024x1024, .f32⟩
  | 89 => ⟨S1024x1024, .bf16⟩
  | 90 => ⟨S1024x4096, .f32⟩
  | 91 => ⟨S1024x4096, .bf16⟩
  | 92 => ⟨S4096x1024, .f32⟩
  | 93 => ⟨S4096x1024, .bf16⟩
  | _ => ⟨S2048x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x4096, .bf16⟩

abbrev bufTy : (tb : Table) → Fin (tcTables nBuf tb) → BufTy
  | .hbm, ⟨i, _⟩ => hbmTy i
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_v279 : Ref sig .tc := ⟨.hbm, 298, rfl⟩
abbrev main_v280 : Ref sig .tc := ⟨.hbm, 299, rfl⟩
abbrev main_v281 : Ref sig .tc := ⟨.hbm, 300, rfl⟩
abbrev main_v282 : Ref sig .tc := ⟨.hbm, 301, rfl⟩
abbrev main_v283 : Ref sig .tc := ⟨.hbm, 302, rfl⟩
abbrev main_v284 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_v297 : Ref sig .tc := ⟨.hbm, 316, rfl⟩
abbrev main_v298 : Ref sig .tc := ⟨.hbm, 317, rfl⟩
abbrev main_v299 : Ref sig .tc := ⟨.hbm, 318, rfl⟩
abbrev main_v300 : Ref sig .tc := ⟨.hbm, 319, rfl⟩
abbrev main_v301 : Ref sig .tc := ⟨.hbm, 320, rfl⟩
abbrev main_v302 : Ref sig .tc := ⟨.hbm, 321, rfl⟩
abbrev main_v303 : Ref sig .tc := ⟨.hbm, 322, rfl⟩
abbrev main_v304 : Ref sig .tc := ⟨.hbm, 323, rfl⟩
abbrev main_v305 : Ref sig .tc := ⟨.hbm, 324, rfl⟩
abbrev main_v306 : Ref sig .tc := ⟨.hbm, 325, rfl⟩
abbrev main_v307 : Ref sig .tc := ⟨.hbm, 326, rfl⟩
abbrev main_v308 : Ref sig .tc := ⟨.hbm, 327, rfl⟩
abbrev main_v309 : Ref sig .tc := ⟨.hbm, 328, rfl⟩
abbrev main_v310 : Ref sig .tc := ⟨.hbm, 329, rfl⟩
abbrev main_v311 : Ref sig .tc := ⟨.hbm, 330, rfl⟩
abbrev main_v312 : Ref sig .tc := ⟨.hbm, 331, rfl⟩
abbrev main_v313 : Ref sig .tc := ⟨.hbm, 332, rfl⟩
abbrev main_v314 : Ref sig .tc := ⟨.hbm, 333, rfl⟩
abbrev main_v315 : Ref sig .tc := ⟨.hbm, 334, rfl⟩
abbrev main_v316 : Ref sig .tc := ⟨.hbm, 335, rfl⟩
abbrev main_v317 : Ref sig .tc := ⟨.hbm, 336, rfl⟩
abbrev main_v318 : Ref sig .tc := ⟨.hbm, 337, rfl⟩
abbrev main_v319 : Ref sig .tc := ⟨.hbm, 338, rfl⟩
abbrev main_v320 : Ref sig .tc := ⟨.hbm, 339, rfl⟩
abbrev main_v321 : Ref sig .tc := ⟨.hbm, 340, rfl⟩
abbrev main_v322 : Ref sig .tc := ⟨.hbm, 341, rfl⟩
abbrev main_cst_10 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_v332 : Ref sig .tc := ⟨.hbm, 352, rfl⟩
abbrev main_v333 : Ref sig .tc := ⟨.hbm, 353, rfl⟩
abbrev main_v334 : Ref sig .tc := ⟨.hbm, 354, rfl⟩
abbrev main_v335 : Ref sig .tc := ⟨.hbm, 355, rfl⟩
abbrev main_v336 : Ref sig .tc := ⟨.hbm, 356, rfl⟩
abbrev main_v337 : Ref sig .tc := ⟨.hbm, 357, rfl⟩
abbrev main_v338 : Ref sig .tc := ⟨.hbm, 358, rfl⟩
abbrev main_v339 : Ref sig .tc := ⟨.hbm, 359, rfl⟩
abbrev main_v340 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_v344 : Ref sig .tc := ⟨.hbm, 364, rfl⟩
abbrev main_v345 : Ref sig .tc := ⟨.hbm, 365, rfl⟩
abbrev main_v346 : Ref sig .tc := ⟨.hbm, 366, rfl⟩
abbrev main_v347 : Ref sig .tc := ⟨.hbm, 367, rfl⟩
abbrev main_v348 : Ref sig .tc := ⟨.hbm, 368, rfl⟩
abbrev main_v349 : Ref sig .tc := ⟨.hbm, 369, rfl⟩
abbrev main_v350 : Ref sig .tc := ⟨.hbm, 370, rfl⟩
abbrev main_v351 : Ref sig .tc := ⟨.hbm, 371, rfl⟩
abbrev main_v352 : Ref sig .tc := ⟨.hbm, 372, rfl⟩
abbrev main_v353 : Ref sig .tc := ⟨.hbm, 373, rfl⟩
abbrev main_v354 : Ref sig .tc := ⟨.hbm, 374, rfl⟩
abbrev main_v355 : Ref sig .tc := ⟨.hbm, 375, rfl⟩
abbrev main_v356 : Ref sig .tc := ⟨.hbm, 376, rfl⟩
abbrev main_v357 : Ref sig .tc := ⟨.hbm, 377, rfl⟩
abbrev main_v358 : Ref sig .tc := ⟨.hbm, 378, rfl⟩
abbrev main_v359 : Ref sig .tc := ⟨.hbm, 379, rfl⟩
abbrev main_v360 : Ref sig .tc := ⟨.hbm, 380, rfl⟩
abbrev main_v361 : Ref sig .tc := ⟨.hbm, 381, rfl⟩
abbrev main_v362 : Ref sig .tc := ⟨.hbm, 382, rfl⟩
abbrev main_v363 : Ref sig .tc := ⟨.hbm, 383, rfl⟩
abbrev main_v364 : Ref sig .tc := ⟨.hbm, 384, rfl⟩
abbrev main_v365 : Ref sig .tc := ⟨.hbm, 385, rfl⟩
abbrev main_v366 : Ref sig .tc := ⟨.hbm, 386, rfl⟩
abbrev main_v367 : Ref sig .tc := ⟨.hbm, 387, rfl⟩
abbrev main_v368 : Ref sig .tc := ⟨.hbm, 388, rfl⟩
abbrev main_v369 : Ref sig .tc := ⟨.hbm, 389, rfl⟩
abbrev main_v370 : Ref sig .tc := ⟨.hbm, 390, rfl⟩
abbrev main_v371 : Ref sig .tc := ⟨.hbm, 391, rfl⟩
abbrev main_v372 : Ref sig .tc := ⟨.hbm, 392, rfl⟩
abbrev main_v373 : Ref sig .tc := ⟨.hbm, 393, rfl⟩
abbrev main_v374 : Ref sig .tc := ⟨.hbm, 394, rfl⟩
abbrev main_v375 : Ref sig .tc := ⟨.hbm, 395, rfl⟩
abbrev main_v376 : Ref sig .tc := ⟨.hbm, 396, rfl⟩
abbrev main_v377 : Ref sig .tc := ⟨.hbm, 397, rfl⟩
abbrev main_v378 : Ref sig .tc := ⟨.hbm, 398, rfl⟩
abbrev main_v379 : Ref sig .tc := ⟨.hbm, 399, rfl⟩
abbrev main_v380 : Ref sig .tc := ⟨.hbm, 400, rfl⟩
abbrev main_v381 : Ref sig .tc := ⟨.hbm, 401, rfl⟩
abbrev main_v382 : Ref sig .tc := ⟨.hbm, 402, rfl⟩
abbrev main_v383 : Ref sig .tc := ⟨.hbm, 403, rfl⟩
abbrev main_v384 : Ref sig .tc := ⟨.hbm, 404, rfl⟩
abbrev main_v385 : Ref sig .tc := ⟨.hbm, 405, rfl⟩
abbrev main_v386 : Ref sig .tc := ⟨.hbm, 406, rfl⟩
abbrev main_v387 : Ref sig .tc := ⟨.hbm, 407, rfl⟩
abbrev main_v388 : Ref sig .tc := ⟨.hbm, 408, rfl⟩
abbrev main_v389 : Ref sig .tc := ⟨.hbm, 409, rfl⟩
abbrev main_v390 : Ref sig .tc := ⟨.hbm, 410, rfl⟩
abbrev main_v391 : Ref sig .tc := ⟨.hbm, 411, rfl⟩
abbrev main_v392 : Ref sig .tc := ⟨.hbm, 412, rfl⟩
abbrev main_v393 : Ref sig .tc := ⟨.hbm, 413, rfl⟩
abbrev main_v394 : Ref sig .tc := ⟨.hbm, 414, rfl⟩
abbrev main_v395 : Ref sig .tc := ⟨.hbm, 415, rfl⟩
abbrev main_v396 : Ref sig .tc := ⟨.hbm, 416, rfl⟩
abbrev main_v397 : Ref sig .tc := ⟨.hbm, 417, rfl⟩
abbrev main_v398 : Ref sig .tc := ⟨.hbm, 418, rfl⟩
abbrev main_v399 : Ref sig .tc := ⟨.hbm, 419, rfl⟩
abbrev main_v400 : Ref sig .tc := ⟨.hbm, 420, rfl⟩
abbrev main_v401 : Ref sig .tc := ⟨.hbm, 421, rfl⟩
abbrev main_v402 : Ref sig .tc := ⟨.hbm, 422, rfl⟩
abbrev main_v403 : Ref sig .tc := ⟨.hbm, 423, rfl⟩
abbrev main_v404 : Ref sig .tc := ⟨.hbm, 424, rfl⟩
abbrev main_v405 : Ref sig .tc := ⟨.hbm, 425, rfl⟩
abbrev main_v406 : Ref sig .tc := ⟨.hbm, 426, rfl⟩
abbrev main_v407 : Ref sig .tc := ⟨.hbm, 427, rfl⟩
abbrev main_v408 : Ref sig .tc := ⟨.hbm, 428, rfl⟩
abbrev main_v409 : Ref sig .tc := ⟨.hbm, 429, rfl⟩
abbrev main_v410 : Ref sig .tc := ⟨.hbm, 430, rfl⟩
abbrev main_v411 : Ref sig .tc := ⟨.hbm, 431, rfl⟩
abbrev main_v412 : Ref sig .tc := ⟨.hbm, 432, rfl⟩
abbrev main_v413 : Ref sig .tc := ⟨.hbm, 433, rfl⟩
abbrev main_v414 : Ref sig .tc := ⟨.hbm, 434, rfl⟩
abbrev main_v415 : Ref sig .tc := ⟨.hbm, 435, rfl⟩
abbrev main_v416 : Ref sig .tc := ⟨.hbm, 436, rfl⟩
abbrev main_v417 : Ref sig .tc := ⟨.hbm, 437, rfl⟩
abbrev main_v418 : Ref sig .tc := ⟨.hbm, 438, rfl⟩
abbrev main_v419 : Ref sig .tc := ⟨.hbm, 439, rfl⟩
abbrev main_v420 : Ref sig .tc := ⟨.hbm, 440, rfl⟩
abbrev main_v421 : Ref sig .tc := ⟨.hbm, 441, rfl⟩
abbrev main_v422 : Ref sig .tc := ⟨.hbm, 442, rfl⟩
abbrev main_v423 : Ref sig .tc := ⟨.hbm, 443, rfl⟩
abbrev main_v424 : Ref sig .tc := ⟨.hbm, 444, rfl⟩
abbrev main_v425 : Ref sig .tc := ⟨.hbm, 445, rfl⟩
abbrev main_v426 : Ref sig .tc := ⟨.hbm, 446, rfl⟩
abbrev main_v427 : Ref sig .tc := ⟨.hbm, 447, rfl⟩
abbrev main_v428 : Ref sig .tc := ⟨.hbm, 448, rfl⟩
abbrev main_v429 : Ref sig .tc := ⟨.hbm, 449, rfl⟩
abbrev main_v430 : Ref sig .tc := ⟨.hbm, 450, rfl⟩
abbrev main_v431 : Ref sig .tc := ⟨.hbm, 451, rfl⟩
abbrev main_v432 : Ref sig .tc := ⟨.hbm, 452, rfl⟩
abbrev main_v433 : Ref sig .tc := ⟨.hbm, 453, rfl⟩
abbrev main_v434 : Ref sig .tc := ⟨.hbm, 454, rfl⟩
abbrev main_v435 : Ref sig .tc := ⟨.hbm, 455, rfl⟩
abbrev main_v436 : Ref sig .tc := ⟨.hbm, 456, rfl⟩
abbrev main_v437 : Ref sig .tc := ⟨.hbm, 457, rfl⟩
abbrev main_v438 : Ref sig .tc := ⟨.hbm, 458, rfl⟩
abbrev main_v439 : Ref sig .tc := ⟨.hbm, 459, rfl⟩
abbrev main_v440 : Ref sig .tc := ⟨.hbm, 460, rfl⟩
abbrev main_v441 : Ref sig .tc := ⟨.hbm, 461, rfl⟩
abbrev main_v442 : Ref sig .tc := ⟨.hbm, 462, rfl⟩
abbrev main_v443 : Ref sig .tc := ⟨.hbm, 463, rfl⟩
abbrev main_v444 : Ref sig .tc := ⟨.hbm, 464, rfl⟩
abbrev main_v445 : Ref sig .tc := ⟨.hbm, 465, rfl⟩
abbrev main_v446 : Ref sig .tc := ⟨.hbm, 466, rfl⟩
abbrev main_v447 : Ref sig .tc := ⟨.hbm, 467, rfl⟩
abbrev main_v448 : Ref sig .tc := ⟨.hbm, 468, rfl⟩
abbrev main_v449 : Ref sig .tc := ⟨.hbm, 469, rfl⟩
abbrev main_v450 : Ref sig .tc := ⟨.hbm, 470, rfl⟩
abbrev main_v451 : Ref sig .tc := ⟨.hbm, 471, rfl⟩
abbrev main_v452 : Ref sig .tc := ⟨.hbm, 472, rfl⟩
abbrev main_v453 : Ref sig .tc := ⟨.hbm, 473, rfl⟩
abbrev main_v454 : Ref sig .tc := ⟨.hbm, 474, rfl⟩
abbrev main_v455 : Ref sig .tc := ⟨.hbm, 475, rfl⟩
abbrev main_v456 : Ref sig .tc := ⟨.hbm, 476, rfl⟩
abbrev main_v457 : Ref sig .tc := ⟨.hbm, 477, rfl⟩
abbrev main_v458 : Ref sig .tc := ⟨.hbm, 478, rfl⟩
abbrev main_v459 : Ref sig .tc := ⟨.hbm, 479, rfl⟩
abbrev main_v460 : Ref sig .tc := ⟨.hbm, 480, rfl⟩
abbrev main_v461 : Ref sig .tc := ⟨.hbm, 481, rfl⟩
abbrev main_v462 : Ref sig .tc := ⟨.hbm, 482, rfl⟩
abbrev main_v463 : Ref sig .tc := ⟨.hbm, 483, rfl⟩
abbrev main_v464 : Ref sig .tc := ⟨.hbm, 484, rfl⟩
abbrev main_v465 : Ref sig .tc := ⟨.hbm, 485, rfl⟩
abbrev main_v466 : Ref sig .tc := ⟨.hbm, 486, rfl⟩
abbrev main_v467 : Ref sig .tc := ⟨.hbm, 487, rfl⟩
abbrev main_v468 : Ref sig .tc := ⟨.hbm, 488, rfl⟩
abbrev main_v469 : Ref sig .tc := ⟨.hbm, 489, rfl⟩
abbrev main_v470 : Ref sig .tc := ⟨.hbm, 490, rfl⟩
abbrev main_v471 : Ref sig .tc := ⟨.hbm, 491, rfl⟩
abbrev main_v472 : Ref sig .tc := ⟨.hbm, 492, rfl⟩
abbrev main_v473 : Ref sig .tc := ⟨.hbm, 493, rfl⟩
abbrev main_v474 : Ref sig .tc := ⟨.hbm, 494, rfl⟩
abbrev main_v475 : Ref sig .tc := ⟨.hbm, 495, rfl⟩
abbrev main_v476 : Ref sig .tc := ⟨.hbm, 496, rfl⟩
abbrev main_v477 : Ref sig .tc := ⟨.hbm, 497, rfl⟩
abbrev main_v478 : Ref sig .tc := ⟨.hbm, 498, rfl⟩
abbrev main_v479 : Ref sig .tc := ⟨.hbm, 499, rfl⟩
abbrev main_v480 : Ref sig .tc := ⟨.hbm, 500, rfl⟩
abbrev main_v481 : Ref sig .tc := ⟨.hbm, 501, rfl⟩
abbrev main_v482 : Ref sig .tc := ⟨.hbm, 502, rfl⟩
abbrev main_v483 : Ref sig .tc := ⟨.hbm, 503, rfl⟩
abbrev main_v484 : Ref sig .tc := ⟨.hbm, 504, rfl⟩
abbrev main_v485 : Ref sig .tc := ⟨.hbm, 505, rfl⟩
abbrev main_v486 : Ref sig .tc := ⟨.hbm, 506, rfl⟩
abbrev main_v487 : Ref sig .tc := ⟨.hbm, 507, rfl⟩
abbrev main_v488 : Ref sig .tc := ⟨.hbm, 508, rfl⟩
abbrev main_v489 : Ref sig .tc := ⟨.hbm, 509, rfl⟩
abbrev main_v490 : Ref sig .tc := ⟨.hbm, 510, rfl⟩
abbrev main_v491 : Ref sig .tc := ⟨.hbm, 511, rfl⟩
abbrev main_v492 : Ref sig .tc := ⟨.hbm, 512, rfl⟩
abbrev main_v493 : Ref sig .tc := ⟨.hbm, 513, rfl⟩
abbrev main_v494 : Ref sig .tc := ⟨.hbm, 514, rfl⟩
abbrev main_v495 : Ref sig .tc := ⟨.hbm, 515, rfl⟩
abbrev main_v496 : Ref sig .tc := ⟨.hbm, 516, rfl⟩
abbrev main_v497 : Ref sig .tc := ⟨.hbm, 517, rfl⟩
abbrev main_v498 : Ref sig .tc := ⟨.hbm, 518, rfl⟩
abbrev main_v499 : Ref sig .tc := ⟨.hbm, 519, rfl⟩
abbrev main_v500 : Ref sig .tc := ⟨.hbm, 520, rfl⟩
abbrev main_v501 : Ref sig .tc := ⟨.hbm, 521, rfl⟩
abbrev main_v502 : Ref sig .tc := ⟨.hbm, 522, rfl⟩
abbrev main_v503 : Ref sig .tc := ⟨.hbm, 523, rfl⟩
abbrev main_v504 : Ref sig .tc := ⟨.hbm, 524, rfl⟩
abbrev main_v505 : Ref sig .tc := ⟨.hbm, 525, rfl⟩
abbrev main_v506 : Ref sig .tc := ⟨.hbm, 526, rfl⟩
abbrev main_v507 : Ref sig .tc := ⟨.hbm, 527, rfl⟩
abbrev main_v508 : Ref sig .tc := ⟨.hbm, 528, rfl⟩
abbrev main_v509 : Ref sig .tc := ⟨.hbm, 529, rfl⟩
abbrev main_v510 : Ref sig .tc := ⟨.hbm, 530, rfl⟩
abbrev main_v511 : Ref sig .tc := ⟨.hbm, 531, rfl⟩
abbrev main_v512 : Ref sig .tc := ⟨.hbm, 532, rfl⟩
abbrev main_v513 : Ref sig .tc := ⟨.hbm, 533, rfl⟩
abbrev main_v514 : Ref sig .tc := ⟨.hbm, 534, rfl⟩
abbrev main_v515 : Ref sig .tc := ⟨.hbm, 535, rfl⟩
abbrev main_v516 : Ref sig .tc := ⟨.hbm, 536, rfl⟩
abbrev main_v517 : Ref sig .tc := ⟨.hbm, 537, rfl⟩
abbrev main_v518 : Ref sig .tc := ⟨.hbm, 538, rfl⟩
abbrev main_v519 : Ref sig .tc := ⟨.hbm, 539, rfl⟩
abbrev main_v520 : Ref sig .tc := ⟨.hbm, 540, rfl⟩
abbrev main_v521 : Ref sig .tc := ⟨.hbm, 541, rfl⟩
abbrev main_v522 : Ref sig .tc := ⟨.hbm, 542, rfl⟩
abbrev main_v523 : Ref sig .tc := ⟨.hbm, 543, rfl⟩
abbrev main_v524 : Ref sig .tc := ⟨.hbm, 544, rfl⟩
abbrev main_v525 : Ref sig .tc := ⟨.hbm, 545, rfl⟩
abbrev main_v526 : Ref sig .tc := ⟨.hbm, 546, rfl⟩
abbrev main_v527 : Ref sig .tc := ⟨.hbm, 547, rfl⟩
abbrev main_v528 : Ref sig .tc := ⟨.hbm, 548, rfl⟩
abbrev main_v529 : Ref sig .tc := ⟨.hbm, 549, rfl⟩
abbrev main_v530 : Ref sig .tc := ⟨.hbm, 550, rfl⟩
abbrev main_v531 : Ref sig .tc := ⟨.hbm, 551, rfl⟩
abbrev main_v532 : Ref sig .tc := ⟨.hbm, 552, rfl⟩
abbrev main_v533 : Ref sig .tc := ⟨.hbm, 553, rfl⟩
abbrev main_v534 : Ref sig .tc := ⟨.hbm, 554, rfl⟩
abbrev main_v535 : Ref sig .tc := ⟨.hbm, 555, rfl⟩
abbrev main_v536 : Ref sig .tc := ⟨.hbm, 556, rfl⟩
abbrev main_v537 : Ref sig .tc := ⟨.hbm, 557, rfl⟩
abbrev main_v538 : Ref sig .tc := ⟨.hbm, 558, rfl⟩
abbrev main_v539 : Ref sig .tc := ⟨.hbm, 559, rfl⟩
abbrev main_v540 : Ref sig .tc := ⟨.hbm, 560, rfl⟩
abbrev main_v541 : Ref sig .tc := ⟨.hbm, 561, rfl⟩
abbrev main_v542 : Ref sig .tc := ⟨.hbm, 562, rfl⟩
abbrev main_v543 : Ref sig .tc := ⟨.hbm, 563, rfl⟩
abbrev main_v544 : Ref sig .tc := ⟨.hbm, 564, rfl⟩
abbrev main_v545 : Ref sig .tc := ⟨.hbm, 565, rfl⟩
abbrev main_v546 : Ref sig .tc := ⟨.hbm, 566, rfl⟩
abbrev main_v547 : Ref sig .tc := ⟨.hbm, 567, rfl⟩
abbrev main_v548 : Ref sig .tc := ⟨.hbm, 568, rfl⟩
abbrev main_v549 : Ref sig .tc := ⟨.hbm, 569, rfl⟩
abbrev main_v550 : Ref sig .tc := ⟨.hbm, 570, rfl⟩
abbrev main_v551 : Ref sig .tc := ⟨.hbm, 571, rfl⟩
abbrev main_v552 : Ref sig .tc := ⟨.hbm, 572, rfl⟩
abbrev main_v553 : Ref sig .tc := ⟨.hbm, 573, rfl⟩
abbrev main_v554 : Ref sig .tc := ⟨.hbm, 574, rfl⟩
abbrev main_v555 : Ref sig .tc := ⟨.hbm, 575, rfl⟩
abbrev main_v556 : Ref sig .tc := ⟨.hbm, 576, rfl⟩
abbrev main_v557 : Ref sig .tc := ⟨.hbm, 577, rfl⟩
abbrev main_v558 : Ref sig .tc := ⟨.hbm, 578, rfl⟩
abbrev main_v559 : Ref sig .tc := ⟨.hbm, 579, rfl⟩
abbrev main_v560 : Ref sig .tc := ⟨.hbm, 580, rfl⟩
abbrev main_v561 : Ref sig .tc := ⟨.hbm, 581, rfl⟩
abbrev main_v562 : Ref sig .tc := ⟨.hbm, 582, rfl⟩
abbrev main_v563 : Ref sig .tc := ⟨.hbm, 583, rfl⟩
abbrev main_v564 : Ref sig .tc := ⟨.hbm, 584, rfl⟩
abbrev main_v565 : Ref sig .tc := ⟨.hbm, 585, rfl⟩
abbrev main_v566 : Ref sig .tc := ⟨.hbm, 586, rfl⟩
abbrev main_v567 : Ref sig .tc := ⟨.hbm, 587, rfl⟩
abbrev main_v568 : Ref sig .tc := ⟨.hbm, 588, rfl⟩
abbrev main_v569 : Ref sig .tc := ⟨.hbm, 589, rfl⟩
abbrev main_v570 : Ref sig .tc := ⟨.hbm, 590, rfl⟩
abbrev main_v571 : Ref sig .tc := ⟨.hbm, 591, rfl⟩
abbrev main_v572 : Ref sig .tc := ⟨.hbm, 592, rfl⟩
abbrev main_v573 : Ref sig .tc := ⟨.hbm, 593, rfl⟩
abbrev main_v574 : Ref sig .tc := ⟨.hbm, 594, rfl⟩
abbrev main_v575 : Ref sig .tc := ⟨.hbm, 595, rfl⟩
abbrev main_v576 : Ref sig .tc := ⟨.hbm, 596, rfl⟩
abbrev main_v577 : Ref sig .tc := ⟨.hbm, 597, rfl⟩
abbrev main_v578 : Ref sig .tc := ⟨.hbm, 598, rfl⟩
abbrev main_v579 : Ref sig .tc := ⟨.hbm, 599, rfl⟩
abbrev main_v580 : Ref sig .tc := ⟨.hbm, 600, rfl⟩
abbrev main_v581 : Ref sig .tc := ⟨.hbm, 601, rfl⟩
abbrev main_v582 : Ref sig .tc := ⟨.hbm, 602, rfl⟩
abbrev main_v583 : Ref sig .tc := ⟨.hbm, 603, rfl⟩
abbrev main_v584 : Ref sig .tc := ⟨.hbm, 604, rfl⟩
abbrev main_v585 : Ref sig .tc := ⟨.hbm, 605, rfl⟩

abbrev nD : Nat := 1
abbrev τ : Topo := Topo.v7x

variable {F : FTy → Type} [FloatOps F]
-- ==== Proof.Tail.Ring.lean ====
module

public import proofs.«01_k».proof.Proof.Gen.KernelIdeal.Frame
public import proofs.«01_k».proof.Proof.Gen.KernelIdeal.Skeleton
public import Idealize.ShloMosaic.Lib.Ring.WriteBehind

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slots, their eight tiles, the pieces of the result and the cells -/

/-- The scratch of two slots, whole, and the result array, whole. -/
abbrev scr : Memref sig .tc .vmem S2x64x8x1024 .f32 := Memref.whole cc0_scratch0
abbrev res : Memref sig .tc .hbm S8x2048x1024 .f32 := Memref.whole main_v3

instance : NeZero grid0.N := ⟨by rw [N_0]; decide⟩

theorem inb_slot (g : Fin 2) : ∀ a, (![g.val, 0, 0, 0] : Fin 4 → Nat) a + S1x64x8x1024.size a ≤ S2x64x8x1024.size a := by
  have := g.isLt; intro a; fin_cases a <;> simp <;> omega
theorem inb_tile (i : Fin 2 × Fin 8) : ∀ a, (![i.1.val, 0, i.2.val, 0] : Fin 4 → Nat) a + S1x64x1x1024.size a ≤ S2x64x8x1024.size a := by
  have := i.1.isLt; have := i.2.isLt; intro a; fin_cases a <;> simp <;> omega
theorem inb_piece (i : Fin 32 × Fin 8) : ∀ a, (![i.2.val, 64 * i.1.val, 0] : Fin 3 → Nat) a + S1x64x1024.size a ≤ S8x2048x1024.size a := by
  have := i.1.isLt; have := i.2.isLt; intro a; fin_cases a <;> simp <;> omega
theorem inb_cell (g : Fin 2) (m : Fin 8) : ∀ a, (![g.val, m.val] : Fin 2 → Nat) a + S1x1.size a ≤ S2x8.size a := by
  have := g.isLt; have := m.isLt; intro a; fin_cases a <;> simp <;> omega

abbrev slotBox (g : Fin 2) : Rect S2x64x8x1024 := Rect.unit (s := S2x64x8x1024) ![g.val, 0, 0, 0] S1x64x8x1024.size (inb_slot g)
abbrev tileBox (i : Fin 2 × Fin 8) : Rect S2x64x8x1024 := Rect.unit (s := S2x64x8x1024) ![i.1.val, 0, i.2.val, 0] S1x64x1x1024.size (inb_tile i)
abbrev pieceBox (i : Fin 32 × Fin 8) : Rect S8x2048x1024 := Rect.unit (s := S8x2048x1024) ![i.2.val, 64 * i.1.val, 0] S1x64x1024.size (inb_piece i)

/-- Slot `g` of the scratch, batch row `m` of it, the rows of the result that chunk `u` gives batch row `m`, and the
    semaphore counting that copy. -/
def slot (g : Fin 2) : Memref sig .tc .vmem S1x64x8x1024 .f32 := scr.slice (slotBox g) (fun _ => rfl)
def tile (g : Fin 2) (m : Fin 8) : Memref sig .tc .vmem S64x1024 .f32 :=
  (scr.slice (tileBox (g, m)) (fun _ => rfl)).squeeze S64x1024 squeezes_S1x64x1x1024_S64x1024
def piece (u : Fin 32) (m : Fin 8) : Memref sig .tc .hbm S64x1024 .f32 :=
  (res.slice (pieceBox (u, m)) (fun _ => rfl)).squeeze S64x1024 squeezes_S1x64x1024_S64x1024
def cell (g : Fin 2) (m : Fin 8) : DmaSems sig S_ :=
  (cc0_scratch1.slice (Rect.unit (s := S2x8) ![g.val, m.val] S1x1.size (inb_cell g m))).squeeze S_ squeezes_S1x1_S_
abbrev cellR (g : Fin 2) (m : Fin 8) : SemLoc sig := SemLoc.dma (cell g m).sem

theorem slot_set (g : Fin 2) : (slot g).view.set = (slotBox g).set := by unfold slot; exact View.set_slice_whole _ _
theorem tile_set (g : Fin 2) (m : Fin 8) : (tile g m).view.set = (tileBox (g, m)).set := by
  simp only [tile, Memref.view_squeeze, View.set_reshape]; exact View.set_slice_whole _ _
theorem piece_set (u : Fin 32) (m : Fin 8) : (piece u m).view.set = (pieceBox (u, m)).set := by
  simp only [piece, Memref.view_squeeze, View.set_reshape]; exact View.set_slice_whole _ _

theorem slots_disjoint (g g' : Fin 2) (h : g ≠ g') : Disjoint (slotBox g).set (slotBox g').set :=
  Ring.boxes_disjoint (s := S2x64x8x1024) S1x64x8x1024.size (fun g : Fin 2 => ![g.val, 0, 0, 0]) inb_slot (fun g => ![g.val, 0, 0, 0])
    (fun g a => by fin_cases a <;> simp) (fun v => Fin.ofNat 2 (v 0)) (by decide +kernel) g g' h
theorem tiles_disjoint (i i' : Fin 2 × Fin 8) (h : i ≠ i') : Disjoint (tileBox i).set (tileBox i').set :=
  Ring.boxes_disjoint (s := S2x64x8x1024) S1x64x1x1024.size (fun i : Fin 2 × Fin 8 => ![i.1.val, 0, i.2.val, 0]) inb_tile
    (fun i => ![i.1.val, 0, i.2.val, 0]) (fun i a => by fin_cases a <;> simp) (fun v => (Fin.ofNat 2 (v 0), Fin.ofNat 8 (v 2)))
    (by decide +kernel) i i' h
theorem pieces_disjoint (i i' : Fin 32 × Fin 8) (h : i ≠ i') : Disjoint (pieceBox i).set (pieceBox i').set :=
  Ring.boxes_disjoint (s := S8x2048x1024) S1x64x1024.size (fun i : Fin 32 × Fin 8 => ![i.2.val, 64 * i.1.val, 0]) inb_piece
    (fun i => ![i.2.val, i.1.val, 0]) (fun i a => by fin_cases a <;> simp <;> omega) (fun v => (Fin.ofNat 32 (v 1), Fin.ofNat 8 (v 0)))
    (by decide +kernel) i i' h
theorem slot_tiles (g : Fin 2) : Finset.univ.biUnion (fun m : Fin 8 => (tileBox (g, m)).set) = (slotBox g).set :=
  Ring.boxes_cover_box (s := S2x64x8x1024) (2 : Fin 4) 1 (fun m : Fin 8 => ![g.val, 0, m.val, 0]) S1x64x1x1024.size (fun m => inb_tile (g, m))
    ![g.val, 0, 0, 0] S1x64x8x1024.size (inb_slot g)
    (fun m => by show m.val = 0 + 1 * m.val; omega)
    (fun m a ha => by fin_cases a <;> first | exact absurd rfl ha | rfl) rfl
    (fun a ha => by fin_cases a <;> first | exact absurd rfl ha | rfl) rfl
theorem slots_cover : Finset.univ.biUnion (fun g : Fin 2 => (slotBox g).set) = (Finset.univ : Finset S2x64x8x1024.Idx) := by
  ext i
  simp only [Finset.mem_biUnion, Finset.mem_univ, true_and, iff_true, Rect.mem_set_unit]
  refine ⟨⟨(i 0).val, (i 0).isLt⟩, fun a => ?_⟩
  have h1 : (i 1).val < 64 := (i 1).isLt
  have h2 : (i 2).val < 8 := (i 2).isLt
  have h3 : (i 3).val < 1024 := (i 3).isLt
  fin_cases a <;> simp <;> omega
theorem pieces_cover : Finset.univ.biUnion (fun i : Fin 32 × Fin 8 => (pieceBox i).set) = (Finset.univ : Finset S8x2048x1024.Idx) := by
  ext i
  simp only [Finset.mem_biUnion, Finset.mem_univ, true_and, iff_true, Rect.mem_set_unit]
  have h0 : (i 0).val < 8 := (i 0).isLt
  have h1 : (i 1).val < 2048 := (i 1).isLt
  have h2 : (i 2).val < 1024 := (i 2).isLt
  refine ⟨(⟨(i 1).val / 64, by omega⟩, ⟨(i 0).val, h0⟩), fun a => ?_⟩
  fin_cases a <;> simp <;> omega

/-! ## Holding them -/

section Hold
variable (c : Dev nD)

/-- The eight members' assertions side by side. -/
abbrev each (P : Fin 8 → sProp 𝕄) : sProp 𝕄 := iprop(P 0 ∗ P 1 ∗ P 2 ∗ P 3 ∗ P 4 ∗ P 5 ∗ P 6 ∗ P 7)
theorem each_eq (P : Fin 8 → sProp 𝕄) : (bigSep Finset.univ P : sProp 𝕄) = each P := by
  rw [BI.bigSep_eq_bigSepL_of_eq [0, 1, 2, 3, 4, 5, 6, 7] (by decide) (by decide)]; rfl

abbrev ScrBuf : Type := Buf (Elt F) ((c : Thread nD τ).loc cc0_scratch0)
abbrev ResBuf : Type := Buf (Elt F) ((c : Thread nD τ).loc main_v3)

abbrev slotP (g : Fin 2) (e : ScrBuf (F := F) c) : sProp 𝕄 := (slot g).view.loc (c : Thread nD τ) ↦[(slot g).view.set]{fullShare} e
abbrev tileP (g : Fin 2) (m : Fin 8) (e : ScrBuf (F := F) c) : sProp 𝕄 := (tile g m).view.loc (c : Thread nD τ) ↦[(tile g m).view.set]{fullShare} e
abbrev pieceP (u : Fin 32) (m : Fin 8) (f : ResBuf (F := F) c) : sProp 𝕄 := (piece u m).view.loc (c : Thread nD τ) ↦[(piece u m).view.set]{fullShare} f
abbrev cellP (g : Fin 2) (m : Fin 8) : sProp 𝕄 := semVal ((c : Thread nD τ), cellR g m) 0
/-- The copy of batch row `m` of slot `g`, which holds `e`, to chunk `u`'s rows of the result, where it will have left `G`. -/
abbrev flightP (G : ResBuf (F := F) c) (e : ScrBuf (F := F) c) (g : Fin 2) (m : Fin 8) (u : Fin 32) : sProp 𝕄 :=
  Transfers.Flight countersEmb (c : Thread nD τ) (cellR g m) default ((piece u m).view.amount (cellR g m)) iprop(pieceP c u m G ∗ tileP c g m e)

theorem slotP_eq (g : Fin 2) (e) : slotP (F := F) c g e = (((c : Thread nD τ).loc cc0_scratch0) ↦[(slotBox g).set]{fullShare} e : sProp 𝕄) := by
  unfold slotP; rw [slot_set]; rfl
theorem tileP_eq (g : Fin 2) (m : Fin 8) (e) : tileP (F := F) c g m e = (((c : Thread nD τ).loc cc0_scratch0) ↦[(tileBox (g, m)).set]{fullShare} e : sProp 𝕄) := by
  unfold tileP; rw [tile_set]; rfl
theorem pieceP_eq (u : Fin 32) (m : Fin 8) (f) : pieceP (F := F) c u m f = (((c : Thread nD τ).loc main_v3) ↦[(pieceBox (u, m)).set]{fullShare} f : sProp 𝕄) := by
  unfold pieceP; rw [piece_set]; rfl

/-- A slot held at some contents is its eight tiles held at the same contents. -/
theorem slot_eq_tiles (g : Fin 2) (e) : slotP (F := F) c g e = each fun m => tileP c g m e := by
  rw [slotP_eq, ← slot_tiles, pointsTo_biUnion Finset.univ _ (fun m _ m' _ h => tiles_disjoint (g, m) (g, m') fun h' => h (congrArg Prod.snd h')), each_eq]
  simp only [tileP_eq]

/-- The roles of the ring: a slot free; a slot in flight to a chunk; a chunk's rows not yet written; a chunk's rows as they end. -/
abbrev freeP (g : Fin 2) : sProp 𝕄 := iprop(each (cellP (F := F) c g) ∗ ∃ e, slotP c g e)
abbrev inflP (G : ResBuf (F := F) c) (g : Fin 2) (u : Fin 32) : sProp 𝕄 := iprop(∃ e, each fun m => flightP c G e g m u)
abbrev aheadP (u : Fin 32) : sProp 𝕄 := each fun m => iprop(∃ f, pieceP (F := F) c u m f)
abbrev behindP (G : ResBuf (F := F) c) (u : Fin 32) : sProp 𝕄 := each fun m => pieceP c u m G

/-- The ring before step `k`. -/
def ringAt (G : ResBuf (F := F) c) (k : ℕ) : sProp 𝕄 := Ring.AtBΦ 2 (freeP c) (inflP c G) (aheadP c) (behindP c G) k

theorem whole_slots : iprop(∃ d, owns (c : Thread nD τ) scr fullShare d) ⊢ (bigSep Finset.univ (fun g : Fin 2 => iprop(∃ e, slotP (F := F) c g e)) : sProp 𝕄) := by
  simp only [scr, owns_whole]
  exact Ring.pieces_split (U := Pipeline.UD sig nD τ) (ℓ := (c : Thread nD τ).loc cc0_scratch0) (q := fullShare) (fun g => (slotBox g).set)
    slots_disjoint slots_cover (fun g e => slotP (F := F) c g e) (fun g e => slotP_eq (F := F) c g e)
theorem slots_whole : (bigSep Finset.univ (fun g : Fin 2 => iprop(∃ e, slotP (F := F) c g e)) : sProp 𝕄) ⊢ iprop(∃ d, owns (c : Thread nD τ) scr fullShare d) := by
  simp only [scr, owns_whole]
  exact Ring.slab_join (U := Pipeline.UD sig nD τ) (ℓ := (c : Thread nD τ).loc cc0_scratch0) (q := fullShare) (fun g => (slotBox g).set)
    slots_disjoint _ slots_cover (fun g e => slotP (F := F) c g e) (fun g e => slotP_eq (F := F) c g e) (fun f => _) (fun f => rfl)

/-- The result held whole at `f` is its pieces held at `f`. -/
theorem whole_pieces (f : ResBuf (F := F) c) :
    (((c : Thread nD τ).loc main_v3) ↦{fullShare} f : sProp 𝕄) = bigSep Finset.univ (fun u : Fin 32 => each fun m => pieceP (F := F) c u m f) := by
  rw [show (((c : Thread nD τ).loc main_v3) ↦{fullShare} f : sProp 𝕄) = (((c : Thread nD τ).loc main_v3) ↦[Finset.univ.biUnion fun i : Fin 32 × Fin 8 => (pieceBox i).set]{fullShare} f : sProp 𝕄) by rw [pieces_cover],
    pointsTo_biUnion Finset.univ _ (fun i _ i' _ h => pieces_disjoint i i' h), BI.bigSep_univ_prod]
  refine BI.bigSep_congr fun u _ => ?_
  rw [each_eq]
  simp only [pieceP_eq]

theorem ahead_of (f : ResBuf (F := F) c) (u : Fin 32) : (each fun m => pieceP (F := F) c u m f) ⊢ aheadP (F := F) c u := by
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7
end Hold

/-! ## The semaphores of the copies -/

abbrev osem : Fin 16 → SemLoc sig := fun j => (![SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44] : Fin 16 → SemLoc sig) j
theorem osem_own : Pipeline.OwnSemFacts spec0 osem := by decide
theorem cellR_eq : ∀ (g : Fin 2) (m : Fin 8), cellR g m = osem ⟨g.val * 8 + m.val, by have := g.isLt; have := m.isLt; omega⟩ := by decide
/-- The eight members beside one more assertion, as one list. -/
theorem each_sep (P : Fin 8 → sProp 𝕄) (r : sProp 𝕄) : BI.sep (each P) r
    = BI.sep (P 0) (BI.sep (P 1) (BI.sep (P 2) (BI.sep (P 3) (BI.sep (P 4) (BI.sep (P 5) (BI.sep (P 6) (BI.sep (P 7) r))))))) := by
  have h : ∀ a b d : sProp 𝕄, BI.sep (BI.sep a b) d = BI.sep a (BI.sep b d) := fun a b d => Std.Associative.assoc (op := (BI.sep : sProp 𝕄 → sProp 𝕄 → sProp 𝕄)) a b d
  show BI.sep (BI.sep (P 0) (BI.sep (P 1) (BI.sep (P 2) (BI.sep (P 3) (BI.sep (P 4) (BI.sep (P 5) (BI.sep (P 6) (P 7)))))))) r = _
  rw [h, h, h, h, h, h, h]
/-- The sixteen cells at zero, listed by slot and batch row. -/
theorem cells_eq (c : Dev nD) : (Pipeline.ownSems0 (Ix := Unit) (Name := ℕ) (U := Pipeline.UD sig nD τ) (Lvl := ℕ) (Val := Elt F) (τ := τ) osem c : sProp 𝕄)
    = bigSep Finset.univ (fun g : Fin 2 => each (cellP (F := F) c g)) := by
  rw [Pipeline.ownSems0_eq_of_list c osem [0, 1, 2, 3, 4, 5, 6, 7, 8, 9, 10, 11, 12, 13, 14, 15] (by decide) (by decide), BI.bigSep_eq_bigSepL_of_eq [0, 1] (by decide) (by decide)]
  simp only [BI.bigSepL_cons_cons, BI.bigSepL_singleton, each, cellP, cellR_eq]
  exact (each_sep (F := F) (fun j => semVal ((c : Thread nD τ), osem ⟨j.val, by have := j.isLt; omega⟩) 0) _).symm

/-! ## The body's operands at a point are the ring's -/

section Canon
omit [FloatOps F]

abbrev cond0 (i : grid0.Coords) : Prop := k0_cond1 i = 1#1
abbrev cond1 (i : grid0.Coords) : Prop := k0_cond2 i = 1#1
theorem cond0_iff : ∀ t : Fin grid0.N, cond0 (grid0.coords t) ↔ 2 ≤ t.val := by decide +kernel
theorem cond1_iff : ∀ t : Fin grid0.N, cond1 (grid0.coords t) ↔ t.val = 31 := by decide +kernel

theorem cell_of {off : Fin 2 → Nat} {g : Fin 2} {m : Fin 8} (h : off = ![g.val, m.val]) (p : ∀ a, off a + S1x1.size a ≤ S2x8.size a) :
    (cc0_scratch1.slice (Rect.unit (s := S2x8) off S1x1.size p)).squeeze S_ squeezes_S1x1_S_ = cell g m := by subst h; rfl
theorem tile_of {off : Fin 4 → Nat} {g : Fin 2} {m : Fin 8} (h : off = ![g.val, 0, m.val, 0]) (p : ∀ a, off a + S1x64x1x1024.size a ≤ S2x64x8x1024.size a) :
    (scr.slice (Rect.unit (s := S2x64x8x1024) off S1x64x1x1024.size p) (fun _ => rfl)).squeeze S64x1024 squeezes_S1x64x1x1024_S64x1024 = tile g m := by subst h; rfl
theorem piece_of {off : Fin 3 → Nat} {u : Fin 32} {m : Fin 8} (h : off = ![m.val, 64 * u.val, 0]) (p : ∀ a, off a + S1x64x1024.size a ≤ S8x2048x1024.size a) :
    (res.slice (Rect.unit (s := S8x2048x1024) off S1x64x1024.size p) (fun _ => rfl)).squeeze S64x1024 squeezes_S1x64x1024_S64x1024 = piece u m := by subst h; rfl

set_option synthInstance.maxSize 4096
theorem off_store : ∀ t : Fin grid0.N, k0_off25 (grid0.coords t) = ![(Ring.sl 2 t.val).val, 0, 0, 0] := by decide +kernel
/-- The box of the whole-slot store, in the slot's spelling. -/
instance (priority := high) closed_store (t : Fin grid0.N) : ClosedOff (k0_off25 (grid0.coords t)) := ⟨![(Ring.sl 2 t.val).val, 0, 0, 0], off_store t⟩

theorem off_issue_cell0 : ∀ t : Fin grid0.N, k0_off26 (grid0.coords t) = ![(Ring.sl 2 t.val).val, 0] := by decide +kernel
@[sl_canon] theorem canon_issue_cell0 (t : Fin grid0.N) : (cc0_scratch1.slice (Rect.unit (s := S2x8) (k0_off26 (grid0.coords t)) S1x1.size (k0_off26_inb (grid0.coords t)))).squeeze S_ squeezes_S1x1_S_ = cell (Ring.sl 2 t.val) 0 := cell_of (off_issue_cell0 t) _
@[sl_canon] theorem canon_issue_cell0' (t : Fin grid0.N) : (cc0_scratch1.slice (Rect.unit (s := S2x8) (k0_off26 (grid0.coords t)) ![1, 1] (k0_off26_inb (grid0.coords t)))).squeeze S_ squeezes_S1x1_S_ = cell (Ring.sl 2 t.val) 0 := canon_issue_cell0 t
theorem off_issue_piece0 : ∀ t : Fin grid0.N, k0_off27 (grid0.coords t) = ![0, 64 * (Ring.bk 32 t.val).val, 0] := by decide +kernel
@[sl_canon] theorem canon_issue_piece0 (t : Fin grid0.N) : (res.slice (Rect.unit (s := S8x2048x1024) (k0_off27 (grid0.coords t)) S1x64x1024.size (k0_off27_inb (grid0.coords t))) (fun _ => rfl)).squeeze S64x1024 squeezes_S1x64x1024_S64x1024 = piece (Ring.bk 32 t.val) 0 := piece_of (off_issue_piece0 t) _
@[sl_canon] theorem canon_issue_piece0' (t : Fin grid0.N) : (res.slice (Rect.unit (s := S8x2048x1024) (k0_off27 (grid0.coords t)) ![1, 64, 1024] (k0_off27_inb (grid0.coords t))) (fun _ => rfl)).squeeze S64x1024 squeezes_S1x64x1024_S64x1024 = piece (Ring.bk 32 t.val) 0 := canon_issue_piece0 t
theorem off_issue_tile0 : ∀ t : Fin grid0.N, k0_off28 (grid0.coords t) = ![(Ring.sl 2 t.val).val, 0, 0, 0] := by decide +kernel
@[sl_canon] theorem canon_issue_tile0 (t : Fin grid0.N) : (scr.slice (Rect.unit (s := S2x64x8x1024) (k0_off28 (grid0.coords t)) S1x64x1x1024.size (k0_off28_inb (grid0.coords t))) (fun _ => rfl)).squeeze S64x1024 squeezes_S1x64x1x1024_S64x1024 = tile (Ring.sl 2 t.val) 0 := tile_of (off_issue_tile0 t) _
@[sl_canon] theorem canon_issue_tile0' (t : Fin grid0.N) : (scr.slice (Rect.unit (s := S2x64x8x1024) (k0_off28 (grid0.coords t)) ![1, 64, 1, 1024] (k0_off28_inb (grid0.coords t))) (fun _ => rfl)).squeeze S64x1024 squeezes_S1x64x1x1024_S64x1024 = tile (Ring.sl 2 t.val) 0 := canon_issue_tile0 t
theorem off_issue_cell1 : ∀ t : Fin grid0.N, k0_off29 (grid0.coords t) = ![(Ring.sl 2 t.val).val, 1] := by decide +kernel
@[sl_canon] theorem canon_issue_cell1 (t : Fin grid0.N) : (cc0_scratch1.slice (Rect.unit (s := S2x8) (k0_off29 (grid0.coords t)) S1x1.size (k0_off29_inb (grid0.coords t)))).squeeze S_ squeezes_S1x1_S_ = cell (Ring.sl 2 t.val) 1 := cell_of (off_issue_cell1 t) _
@[sl_canon] theorem canon_issue_cell1' (t : Fin grid0.N) : (cc0_scratch1.slice (Rect.unit (s := S2x8) (k0_off29 (grid0.coords t)) ![1, 1] (k0_off29_inb (grid0.coords t)))).squeeze S_ squeezes_S1x1_S_ = cell (Ring.sl 2 t.val) 1 := canon_issue_cell1 t
theorem off_issue_piece1 : ∀ t : Fin grid0.N, k0_off30 (grid0.coords t) = ![1, 64 * (Ring.bk 32 t.val).val, 0] := by decide +kernel
@[sl_canon] theorem canon_issue_piece1 (t : Fin grid0.N) : (res.slice (Rect.unit (s := S8x2048x1024) (k0_off30 (grid0.coords t)) S1x64x1024.size (k0_off30_inb (grid0.coords t))) (fun _ => rfl)).squeeze S64x1024 squeezes_S1x64x1024_S64x1024 = piece (Ring.bk 32 t.val) 1 := piece_of (off_issue_piece1 t) _
@[sl_canon] theorem canon_issue_piece1' (t : Fin grid0.N) : (res.slice (Rect.unit (s := S8x2048x1024) (k0_off30 (grid0.coords t)) ![1, 64, 1024] (k0_off30_inb (grid0.coords t))) (fun _ => rfl)).squeeze S64x1024 squeezes_S1x64x1024_S64x1024 = piece (Ring.bk 32 t.val) 1 := canon_issue_piece1 t
theorem off_issue_tile1 : ∀ t : Fin grid0.N, k0_off31 (grid0.coords t) = ![(Ring.sl 2 t.val).val, 0, 1, 0] := by decide +kernel
@[sl_canon] theorem canon_issue_tile1 (t : Fin grid0.N) : (scr.slice (Rect.unit (s := S2x64x8x1024) (k0_off31 (grid0.coords t)) S1x64x1x1024.size (k0_off31_inb (grid0.coords t))) (fun _ => rfl)).squeeze S64x1024 squeezes_S1x64x1x1024_S64x1024 = tile (Ring.sl 2 t.val) 1 := tile_of (off_issue_tile1 t) _
@[sl_canon] theorem canon_issue_tile1' (t : Fin grid0.N) : (scr.slice (Rect.unit (s := S2x64x8x1024) (k0_off31 (grid0.coords t)) ![1, 64, 1, 1024] (k0_off31_inb (grid0.coords t))) (fun _ => rfl)).squeeze S64x1024 squeezes_S1x64x1x1024_S64x1024 = tile (Ring.sl 2 t.val) 1 := canon_issue_tile1 t
theorem off_issue_cell2 : ∀ t : Fin grid0.N, k0_off32 (grid0.coords t) = ![(Ring.sl 2 t.val).val, 2] := by decide +kernel
@[sl_canon] theorem canon_issue_cell2 (t : Fin grid0.N) : (cc0_scratch1.slice (Rect.unit (s := S2x8) (k0_off32 (grid0.coords t)) S1x1.size (k0_off32_inb (grid0.coords t)))).squeeze S_ squeezes_S1x1_S_ = cell (Ring.sl 2 t.val) 2 := cell_of (off_issue_cell2 t) _
@[sl_canon] theorem canon_issue_cell2' (t : Fin grid0.N) : (cc0_scratch1.slice (Rect.unit (s := S2x8) (k0_off32 (grid0.coords t)) ![1, 1] (k0_off32_inb (grid0.coords t)))).squeeze S_ squeezes_S1x1_S_ = cell (Ring.sl 2 t.val) 2 := canon_issue_cell2 t
theorem off_issue_piece2 : ∀ t : Fin grid0.N, k0_off33 (grid0.coords t) = ![2, 64 * (Ring.bk 32 t.val).val, 0] := by decide +kernel
@[sl_canon] theorem canon_issue_piece2 (t : Fin grid0.N) : (res.slice (Rect.unit (s := S8x2048x1024) (k0_off33 (grid0.coords t)) S1x64x1024.size (k0_off33_inb (grid0.coords t))) (fun _ => rfl)).squeeze S64x1024 squeezes_S1x64x1024_S64x1024 = piece (Ring.bk 32 t.val) 2 := piece_of (off_issue_piece2 t) _
@[sl_canon] theorem canon_issue_piece2' (t : Fin grid0.N) : (res.slice (Rect.unit (s := S8x2048x1024) (k0_off33 (grid0.coords t)) ![1, 64, 1024] (k0_off33_inb (grid0.coords t))) (fun _ => rfl)).squeeze S64x1024 squeezes_S1x64x1024_S64x1024 = piece (Ring.bk 32 t.val) 2 := canon_issue_piece2 t
theorem off_issue_tile2 : ∀ t : Fin grid0.N, k0_off34 (grid0.coords t) = ![(Ring.sl 2 t.val).val, 0, 2, 0] := by decide +kernel
@[sl_canon] theorem canon_issue_tile2 (t : Fin grid0.N) : (scr.slice (Rect.unit (s := S2x64x8x1024) (k0_off34 (grid0.coords t)) S1x64x1x1024.size (k0_off34_inb (grid0.coords t))) (fun _ => rfl)).squeeze S64x1024 squeezes_S1x64x1x1024_S64x1024 = tile (Ring.sl 2 t.val) 2 := tile_of (off_issue_tile2 t) _
@[sl_canon] theorem canon_issue_tile2' (t : Fin grid0.N) : (scr.slice (Rect.unit (s := S2x64x8x1024) (k0_off34 (grid0.coords t)) ![1, 64, 1, 1024] (k0_off34_inb (grid0.coords t))) (fun _ => rfl)).squeeze S64x1024 squeezes_S1x64x1x1024_S64x1024 = tile (Ring.sl 2 t.val) 2 := canon_issue_tile2 t
theorem off_issue_cell3 : ∀ t : Fin grid0.N, k0_off35 (grid0.coords t) = ![(Ring.sl 2 t.val).val, 3] := by decide +kernel
@[sl_canon] theorem canon_issue_cell3 (t : Fin grid0.N) : (cc0_scratch1.slice (Rect.unit (s := S2x8) (k0_off35 (grid0.coords t)) S1x1.size (k0_off35_inb (grid0.coords t)))).squeeze S_ squeezes_S1x1_S_ = cell (Ring.sl 2 t.val) 3 := cell_of (off_issue_cell3 t) _
@[sl_canon] theorem canon_issue_cell3' (t : Fin grid0.N) : (cc0_scratch1.slice (Rect.unit (s := S2x8) (k0_off35 (grid0.coords t)) ![1, 1] (k0_off35_inb (grid0.coords t)))).squeeze S_ squeezes_S1x1_S_ = cell (Ring.sl 2 t.val) 3 := canon_issue_cell3 t
theorem off_issue_piece3 : ∀ t : Fin grid0.N, k0_off36 (grid0.coords t) = ![3, 64 * (Ring.bk 32 t.val).val, 0] := by decide +kernel
@[sl_canon] theorem canon_issue_piece3 (t : Fin grid0.N) : (res.slice (Rect.unit (s := S8x2048x1024) (k0_off36 (grid0.coords t)) S1x64x1024.size (k0_off36_inb (grid0.coords t))) (fun _ => rfl)).squeeze S64x1024 squeezes_S1x64x1024_S64x1024 = piece (Ring.bk 32 t.val) 3 := piece_of (off_issue_piece3 t) _
@[sl_canon] theorem canon_issue_piece3' (t : Fin grid0.N) : (res.slice (Rect.unit (s := S8x2048x1024) (k0_off36 (grid0.coords t)) ![1, 64, 1024] (k0_off36_inb (grid0.coords t))) (fun _ => rfl)).squeeze S64x1024 squeezes_S1x64x1024_S64x1024 = piece (Ring.bk 32 t.val) 3 := canon_issue_piece3 t
theorem off_issue_tile3 : ∀ t : Fin grid0.N, k0_off37 (grid0.coords t) = ![(Ring.sl 2 t.val).val, 0, 3, 0] := by decide +kernel
@[sl_canon] theorem canon_issue_tile3 (t : Fin grid0.N) : (scr.slice (Rect.unit (s := S2x64x8x1024) (k0_off37 (grid0.coords t)) S1x64x1x1024.size (k0_off37_inb (grid0.coords t))) (fun _ => rfl)).squeeze S64x1024 squeezes_S1x64x1x1024_S64x1024 = tile (Ring.sl 2 t.val) 3 := tile_of (off_issue_tile3 t) _
@[sl_canon] theorem canon_issue_tile3' (t : Fin grid0.N) : (scr.slice (Rect.unit (s := S2x64x8x1024) (k0_off37 (grid0.coords t)) ![1, 64, 1, 1024] (k0_off37_inb (grid0.coords t))) (fun _ => rfl)).squeeze S64x1024 squeezes_S1x64x1x1024_S64x1024 = tile (Ring.sl 2 t.val) 3 := canon_issue_tile3 t
theorem off_issue_cell4 : ∀ t : Fin grid0.N, k0_off38 (grid0.coords t) = ![(Ring.sl 2 t.val).val, 4] := by decide +kernel
@[sl_canon] theorem canon_issue_cell4 (t : Fin grid0.N) : (cc0_scratch1.slice (Rect.unit (s := S2x8) (k0_off38 (grid0.coords t)) S1x1.size (k0_off38_inb (grid0.coords t)))).squeeze S_ squeezes_S1x1_S_ = cell (Ring.sl 2 t.val) 4 := cell_of (off_issue_cell4 t) _
@[sl_canon] theorem canon_issue_cell4' (t : Fin grid0.N) : (cc0_scratch1.slice (Rect.unit (s := S2x8) (k0_off38 (grid0.coords t)) ![1, 1] (k0_off38_inb (grid0.coords t)))).squeeze S_ squeezes_S1x1_S_ = cell (Ring.sl 2 t.val) 4 := canon_issue_cell4 t
theorem off_issue_piece4 : ∀ t : Fin grid0.N, k0_off39 (grid0.coords t) = ![4, 64 * (Ring.bk 32 t.val).val, 0] := by decide +kernel
@[sl_canon] theorem canon_issue_piece4 (t : Fin grid0.N) : (res.slice (Rect.unit (s := S8x2048x1024) (k0_off39 (grid0.coords t)) S1x64x1024.size (k0_off39_inb (grid0.coords t))) (fun _ => rfl)).squeeze S64x1024 squeezes_S1x64x1024_S64x1024 = piece (Ring.bk 32 t.val) 4 := piece_of (off_issue_piece4 t) _
@[sl_canon] theorem canon_issue_piece4' (t : Fin grid0.N) : (res.slice (Rect.unit (s := S8x2048x1024) (k0_off39 (grid0.coords t)) ![1, 64, 1024] (k0_off39_inb (grid0.coords t))) (fun _ => rfl)).squeeze S64x1024 squeezes_S1x64x1024_S64x1024 = piece (Ring.bk 32 t.val) 4 := canon_issue_piece4 t
theorem off_issue_tile4 : ∀ t : Fin grid0.N, k0_off40 (grid0.coords t) = ![(Ring.sl 2 t.val).val, 0, 4, 0] := by decide +kernel
@[sl_canon] theorem canon_issue_tile4 (t : Fin grid0.N) : (scr.slice (Rect.unit (s := S2x64x8x1024) (k0_off40 (grid0.coords t)) S1x64x1x1024.size (k0_off40_inb (grid0.coords t))) (fun _ => rfl)).squeeze S64x1024 squeezes_S1x64x1x1024_S64x1024 = tile (Ring.sl 2 t.val) 4 := tile_of (off_issue_tile4 t) _
@[sl_canon] theorem canon_issue_tile4' (t : Fin grid0.N) : (scr.slice (Rect.unit (s := S2x64x8x1024) (k0_off40 (grid0.coords t)) ![1, 64, 1, 1024] (k0_off40_inb (grid0.coords t))) (fun _ => rfl)).squeeze S64x1024 squeezes_S1x64x1x1024_S64x1024 = tile (Ring.sl 2 t.val) 4 := canon_issue_tile4 t
theorem off_issue_cell5 : ∀ t : Fin grid0.N, k0_off41 (grid0.coords t) = ![(Ring.sl 2 t.val).val, 5] := by decide +kernel
@[sl_canon] theorem canon_issue_cell5 (t : Fin grid0.N) : (cc0_scratch1.slice (Rect.unit (s := S2x8) (k0_off41 (grid0.coords t)) S1x1.size (k0_off41_inb (grid0.coords t)))).squeeze S_ squeezes_S1x1_S_ = cell (Ring.sl 2 t.val) 5 := cell_of (off_issue_cell5 t) _
@[sl_canon] theorem canon_issue_cell5' (t : Fin grid0.N) : (cc0_scratch1.slice (Rect.unit (s := S2x8) (k0_off41 (grid0.coords t)) ![1, 1] (k0_off41_inb (grid0.coords t)))).squeeze S_ squeezes_S1x1_S_ = cell (Ring.sl 2 t.val) 5 := canon_issue_cell5 t
theorem off_issue_piece5 : ∀ t : Fin grid0.N, k0_off42 (grid0.coords t) = ![5, 64 * (Ring.bk 32 t.val).val, 0] := by decide +kernel
@[sl_canon] theorem canon_issue_piece5 (t : Fin grid0.N) : (res.slice (Rect.unit (s := S8x2048x1024) (k0_off42 (grid0.coords t)) S1x64x1024.size (k0_off42_inb (grid0.coords t))) (fun _ => rfl)).squeeze S64x1024 squeezes_S1x64x1024_S64x1024 = piece (Ring.bk 32 t.val) 5 := piece_of (off_issue_piece5 t) _
@[sl_canon] theorem canon_issue_piece5' (t : Fin grid0.N) : (res.slice (Rect.unit (s := S8x2048x1024) (k0_off42 (grid0.coords t)) ![1, 64, 1024] (k0_off42_inb (grid0.coords t))) (fun _ => rfl)).squeeze S64x1024 squeezes_S1x64x1024_S64x1024 = piece (Ring.bk 32 t.val) 5 := canon_issue_piece5 t
theorem off_issue_tile5 : ∀ t : Fin grid0.N, k0_off43 (grid0.coords t) = ![(Ring.sl 2 t.val).val, 0, 5, 0] := by decide +kernel
@[sl_canon] theorem canon_issue_tile5 (t : Fin grid0.N) : (scr.slice (Rect.unit (s := S2x64x8x1024) (k0_off43 (grid0.coords t)) S1x64x1x1024.size (k0_off43_inb (grid0.coords t))) (fun _ => rfl)).squeeze S64x1024 squeezes_S1x64x1x1024_S64x1024 = tile (Ring.sl 2 t.val) 5 := tile_of (off_issue_tile5 t) _
@[sl_canon] theorem canon_issue_tile5' (t : Fin grid0.N) : (scr.slice (Rect.unit (s := S2x64x8x1024) (k0_off43 (grid0.coords t)) ![1, 64, 1, 1024] (k0_off43_inb (grid0.coords t))) (fun _ => rfl)).squeeze S64x1024 squeezes_S1x64x1x1024_S64x1024 = tile (Ring.sl 2 t.val) 5 := canon_issue_tile5 t
theorem off_issue_cell6 : ∀ t : Fin grid0.N, k0_off44 (grid0.coords t) = ![(Ring.sl 2 t.val).val, 6] := by decide +kernel
@[sl_canon] theorem canon_issue_cell6 (t : Fin grid0.N) : (cc0_scratch1.slice (Rect.unit (s := S2x8) (k0_off44 (grid0.coords t)) S1x1.size (k0_off44_inb (grid0.coords t)))).squeeze S_ squeezes_S1x1_S_ = cell (Ring.sl 2 t.val) 6 := cell_of (off_issue_cell6 t) _
@[sl_canon] theorem canon_issue_cell6' (t : Fin grid0.N) : (cc0_scratch1.slice (Rect.unit (s := S2x8) (k0_off44 (grid0.coords t)) ![1, 1] (k0_off44_inb (grid0.coords t)))).squeeze S_ squeezes_S1x1_S_ = cell (Ring.sl 2 t.val) 6 := canon_issue_cell6 t
theorem off_issue_piece6 : ∀ t : Fin grid0.N, k0_off45 (grid0.coords t) = ![6, 64 * (Ring.bk 32 t.val).val, 0] := by decide +kernel
@[sl_canon] theorem canon_issue_piece6 (t : Fin grid0.N) : (res.slice (Rect.unit (s := S8x2048x1024) (k0_off45 (grid0.coords t)) S1x64x1024.size (k0_off45_inb (grid0.coords t))) (fun _ => rfl)).squeeze S64x1024 squeezes_S1x64x1024_S64x1024 = piece (Ring.bk 32 t.val) 6 := piece_of (off_issue_piece6 t) _
@[sl_canon] theorem canon_issue_piece6' (t : Fin grid0.N) : (res.slice (Rect.unit (s := S8x2048x1024) (k0_off45 (grid0.coords t)) ![1, 64, 1024] (k0_off45_inb (grid0.coords t))) (fun _ => rfl)).squeeze S64x1024 squeezes_S1x64x1024_S64x1024 = piece (Ring.bk 32 t.val) 6 := canon_issue_piece6 t
theorem off_issue_tile6 : ∀ t : Fin grid0.N, k0_off46 (grid0.coords t) = ![(Ring.sl 2 t.val).val, 0, 6, 0] := by decide +kernel
@[sl_canon] theorem canon_issue_tile6 (t : Fin grid0.N) : (scr.slice (Rect.unit (s := S2x64x8x1024) (k0_off46 (grid0.coords t)) S1x64x1x1024.size (k0_off46_inb (grid0.coords t))) (fun _ => rfl)).squeeze S64x1024 squeezes_S1x64x1x1024_S64x1024 = tile (Ring.sl 2 t.val) 6 := tile_of (off_issue_tile6 t) _
@[sl_canon] theorem canon_issue_tile6' (t : Fin grid0.N) : (scr.slice (Rect.unit (s := S2x64x8x1024) (k0_off46 (grid0.coords t)) ![1, 64, 1, 1024] (k0_off46_inb (grid0.coords t))) (fun _ => rfl)).squeeze S64x1024 squeezes_S1x64x1x1024_S64x1024 = tile (Ring.sl 2 t.val) 6 := canon_issue_tile6 t
theorem off_issue_cell7 : ∀ t : Fin grid0.N, k0_off47 (grid0.coords t) = ![(Ring.sl 2 t.val).val, 7] := by decide +kernel
@[sl_canon] theorem canon_issue_cell7 (t : Fin grid0.N) : (cc0_scratch1.slice (Rect.unit (s := S2x8) (k0_off47 (grid0.coords t)) S1x1.size (k0_off47_inb (grid0.coords t)))).squeeze S_ squeezes_S1x1_S_ = cell (Ring.sl 2 t.val) 7 := cell_of (off_issue_cell7 t) _
@[sl_canon] theorem canon_issue_cell7' (t : Fin grid0.N) : (cc0_scratch1.slice (Rect.unit (s := S2x8) (k0_off47 (grid0.coords t)) ![1, 1] (k0_off47_inb (grid0.coords t)))).squeeze S_ squeezes_S1x1_S_ = cell (Ring.sl 2 t.val) 7 := canon_issue_cell7 t
theorem off_issue_piece7 : ∀ t : Fin grid0.N, k0_off48 (grid0.coords t) = ![7, 64 * (Ring.bk 32 t.val).val, 0] := by decide +kernel
@[sl_canon] theorem canon_issue_piece7 (t : Fin grid0.N) : (res.slice (Rect.unit (s := S8x2048x1024) (k0_off48 (grid0.coords t)) S1x64x1024.size (k0_off48_inb (grid0.coords t))) (fun _ => rfl)).squeeze S64x1024 squeezes_S1x64x1024_S64x1024 = piece (Ring.bk 32 t.val) 7 := piece_of (off_issue_piece7 t) _
@[sl_canon] theorem canon_issue_piece7' (t : Fin grid0.N) : (res.slice (Rect.unit (s := S8x2048x1024) (k0_off48 (grid0.coords t)) ![1, 64, 1024] (k0_off48_inb (grid0.coords t))) (fun _ => rfl)).squeeze S64x1024 squeezes_S1x64x1024_S64x1024 = piece (Ring.bk 32 t.val) 7 := canon_issue_piece7 t
theorem off_issue_tile7 : ∀ t : Fin grid0.N, k0_off49 (grid0.coords t) = ![(Ring.sl 2 t.val).val, 0, 7, 0] := by decide +kernel
@[sl_canon] theorem canon_issue_tile7 (t : Fin grid0.N) : (scr.slice (Rect.unit (s := S2x64x8x1024) (k0_off49 (grid0.coords t)) S1x64x1x1024.size (k0_off49_inb (grid0.coords t))) (fun _ => rfl)).squeeze S64x1024 squeezes_S1x64x1x1024_S64x1024 = tile (Ring.sl 2 t.val) 7 := tile_of (off_issue_tile7 t) _
@[sl_canon] theorem canon_issue_tile7' (t : Fin grid0.N) : (scr.slice (Rect.unit (s := S2x64x8x1024) (k0_off49 (grid0.coords t)) ![1, 64, 1, 1024] (k0_off49_inb (grid0.coords t))) (fun _ => rfl)).squeeze S64x1024 squeezes_S1x64x1x1024_S64x1024 = tile (Ring.sl 2 t.val) 7 := canon_issue_tile7 t
theorem off_wait_cell0 : ∀ t : Fin grid0.N, k0_off1 (grid0.coords t) = ![(Ring.sl 2 t.val).val, 0] := by decide +kernel
@[sl_canon] theorem canon_wait_cell0 (t : Fin grid0.N) (h0 : cond0 (grid0.coords t)) : (cc0_scratch1.slice (Rect.unit (s := S2x8) (k0_off1 (grid0.coords t)) S1x1.size (k0_off1_inb (grid0.coords t) h0))).squeeze S_ squeezes_S1x1_S_ = cell (Ring.sl 2 t.val) 0 := cell_of (off_wait_cell0 t) _
@[sl_canon] theorem canon_wait_cell0' (t : Fin grid0.N) (h0 : cond0 (grid0.coords t)) : (cc0_scratch1.slice (Rect.unit (s := S2x8) (k0_off1 (grid0.coords t)) ![1, 1] (k0_off1_inb (grid0.coords t) h0))).squeeze S_ squeezes_S1x1_S_ = cell (Ring.sl 2 t.val) 0 := canon_wait_cell0 t h0
theorem off_wait_tile0 : ∀ t : Fin grid0.N, k0_off3 (grid0.coords t) = ![(Ring.sl 2 t.val).val, 0, 0, 0] := by decide +kernel
@[sl_canon] theorem canon_wait_tile0 (t : Fin grid0.N) (h0 : cond0 (grid0.coords t)) : (scr.slice (Rect.unit (s := S2x64x8x1024) (k0_off3 (grid0.coords t)) S1x64x1x1024.size (k0_off3_inb (grid0.coords t) h0)) (fun _ => rfl)).squeeze S64x1024 squeezes_S1x64x1x1024_S64x1024 = tile (Ring.sl 2 t.val) 0 := tile_of (off_wait_tile0 t) _
@[sl_canon] theorem canon_wait_tile0' (t : Fin grid0.N) (h0 : cond0 (grid0.coords t)) : (scr.slice (Rect.unit (s := S2x64x8x1024) (k0_off3 (grid0.coords t)) ![1, 64, 1, 1024] (k0_off3_inb (grid0.coords t) h0)) (fun _ => rfl)).squeeze S64x1024 squeezes_S1x64x1x1024_S64x1024 = tile (Ring.sl 2 t.val) 0 := canon_wait_tile0 t h0
theorem off_prev_cell0 : ∀ t : Fin grid0.N, k0_off50 (grid0.coords t) = ![(Ring.sl 2 (t.val + 1)).val, 0] := by decide +kernel
@[sl_canon] theorem canon_prev_cell0 (t : Fin grid0.N) (h1 : cond1 (grid0.coords t)) : (cc0_scratch1.slice (Rect.unit (s := S2x8) (k0_off50 (grid0.coords t)) S1x1.size (k0_off50_inb (grid0.coords t) h1))).squeeze S_ squeezes_S1x1_S_ = cell (Ring.sl 2 (t.val + 1)) 0 := cell_of (off_prev_cell0 t) _
@[sl_canon] theorem canon_prev_cell0' (t : Fin grid0.N) (h1 : cond1 (grid0.coords t)) : (cc0_scratch1.slice (Rect.unit (s := S2x8) (k0_off50 (grid0.coords t)) ![1, 1] (k0_off50_inb (grid0.coords t) h1))).squeeze S_ squeezes_S1x1_S_ = cell (Ring.sl 2 (t.val + 1)) 0 := canon_prev_cell0 t h1
theorem off_prev_tile0 : ∀ t : Fin grid0.N, k0_off52 (grid0.coords t) = ![(Ring.sl 2 (t.val + 1)).val, 0, 0, 0] := by decide +kernel
@[sl_canon] theorem canon_prev_tile0 (t : Fin grid0.N) (h1 : cond1 (grid0.coords t)) : (scr.slice (Rect.unit (s := S2x64x8x1024) (k0_off52 (grid0.coords t)) S1x64x1x1024.size (k0_off52_inb (grid0.coords t) h1)) (fun _ => rfl)).squeeze S64x1024 squeezes_S1x64x1x1024_S64x1024 = tile (Ring.sl 2 (t.val + 1)) 0 := tile_of (off_prev_tile0 t) _
@[sl_canon] theorem canon_prev_tile0' (t : Fin grid0.N) (h1 : cond1 (grid0.coords t)) : (scr.slice (Rect.unit (s := S2x64x8x1024) (k0_off52 (grid0.coords t)) ![1, 64, 1, 1024] (k0_off52_inb (grid0.coords t) h1)) (fun _ => rfl)).squeeze S64x1024 squeezes_S1x64x1x1024_S64x1024 = tile (Ring.sl 2 (t.val + 1)) 0 := canon_prev_tile0 t h1
theorem off_last_cell0 : ∀ t : Fin grid0.N, k0_off74 (grid0.coords t) = ![(Ring.sl 2 t.val).val, 0] := by decide +kernel
@[sl_canon] theorem canon_last_cell0 (t : Fin grid0.N) (h1 : cond1 (grid0.coords t)) : (cc0_scratch1.slice (Rect.unit (s := S2x8) (k0_off74 (grid0.coords t)) S1x1.size (k0_off74_inb (grid0.coords t) h1))).squeeze S_ squeezes_S1x1_S_ = cell (Ring.sl 2 t.val) 0 := cell_of (off_last_cell0 t) _
@[sl_canon] theorem canon_last_cell0' (t : Fin grid0.N) (h1 : cond1 (grid0.coords t)) : (cc0_scratch1.slice (Rect.unit (s := S2x8) (k0_off74 (grid0.coords t)) ![1, 1] (k0_off74_inb (grid0.coords t) h1))).squeeze S_ squeezes_S1x1_S_ = cell (Ring.sl 2 t.val) 0 := canon_last_cell0 t h1
theorem off_last_tile0 : ∀ t : Fin grid0.N, k0_off76 (grid0.coords t) = ![(Ring.sl 2 t.val).val, 0, 0, 0] := by decide +kernel
@[sl_canon] theorem canon_last_tile0 (t : Fin grid0.N) (h1 : cond1 (grid0.coords t)) : (scr.slice (Rect.unit (s := S2x64x8x1024) (k0_off76 (grid0.coords t)) S1x64x1x1024.size (k0_off76_inb (grid0.coords t) h1)) (fun _ => rfl)).squeeze S64x1024 squeezes_S1x64x1x1024_S64x1024 = tile (Ring.sl 2 t.val) 0 := tile_of (off_last_tile0 t) _
@[sl_canon] theorem canon_last_tile0' (t : Fin grid0.N) (h1 : cond1 (grid0.coords t)) : (scr.slice (Rect.unit (s := S2x64x8x1024) (k0_off76 (grid0.coords t)) ![1, 64, 1, 1024] (k0_off76_inb (grid0.coords t) h1)) (fun _ => rfl)).squeeze S64x1024 squeezes_S1x64x1x1024_S64x1024 = tile (Ring.sl 2 t.val) 0 := canon_last_tile0 t h1
theorem off_wait_cell1 : ∀ t : Fin grid0.N, k0_off4 (grid0.coords t) = ![(Ring.sl 2 t.val).val, 1] := by decide +kernel
@[sl_canon] theorem canon_wait_cell1 (t : Fin grid0.N) (h0 : cond0 (grid0.coords t)) : (cc0_scratch1.slice (Rect.unit (s := S2x8) (k0_off4 (grid0.coords t)) S1x1.size (k0_off4_inb (grid0.coords t) h0))).squeeze S_ squeezes_S1x1_S_ = cell (Ring.sl 2 t.val) 1 := cell_of (off_wait_cell1 t) _
@[sl_canon] theorem canon_wait_cell1' (t : Fin grid0.N) (h0 : cond0 (grid0.coords t)) : (cc0_scratch1.slice (Rect.unit (s := S2x8) (k0_off4 (grid0.coords t)) ![1, 1] (k0_off4_inb (grid0.coords t) h0))).squeeze S_ squeezes_S1x1_S_ = cell (Ring.sl 2 t.val) 1 := canon_wait_cell1 t h0
theorem off_wait_tile1 : ∀ t : Fin grid0.N, k0_off6 (grid0.coords t) = ![(Ring.sl 2 t.val).val, 0, 1, 0] := by decide +kernel
@[sl_canon] theorem canon_wait_tile1 (t : Fin grid0.N) (h0 : cond0 (grid0.coords t)) : (scr.slice (Rect.unit (s := S2x64x8x1024) (k0_off6 (grid0.coords t)) S1x64x1x1024.size (k0_off6_inb (grid0.coords t) h0)) (fun _ => rfl)).squeeze S64x1024 squeezes_S1x64x1x1024_S64x1024 = tile (Ring.sl 2 t.val) 1 := tile_of (off_wait_tile1 t) _
@[sl_canon] theorem canon_wait_tile1' (t : Fin grid0.N) (h0 : cond0 (grid0.coords t)) : (scr.slice (Rect.unit (s := S2x64x8x1024) (k0_off6 (grid0.coords t)) ![1, 64, 1, 1024] (k0_off6_inb (grid0.coords t) h0)) (fun _ => rfl)).squeeze S64x1024 squeezes_S1x64x1x1024_S64x1024 = tile (Ring.sl 2 t.val) 1 := canon_wait_tile1 t h0
theorem off_prev_cell1 : ∀ t : Fin grid0.N, k0_off53 (grid0.coords t) = ![(Ring.sl 2 (t.val + 1)).val, 1] := by decide +kernel
@[sl_canon] theorem canon_prev_cell1 (t : Fin grid0.N) (h1 : cond1 (grid0.coords t)) : (cc0_scratch1.slice (Rect.unit (s := S2x8) (k0_off53 (grid0.coords t)) S1x1.size (k0_off53_inb (grid0.coords t) h1))).squeeze S_ squeezes_S1x1_S_ = cell (Ring.sl 2 (t.val + 1)) 1 := cell_of (off_prev_cell1 t) _
@[sl_canon] theorem canon_prev_cell1' (t : Fin grid0.N) (h1 : cond1 (grid0.coords t)) : (cc0_scratch1.slice (Rect.unit (s := S2x8) (k0_off53 (grid0.coords t)) ![1, 1] (k0_off53_inb (grid0.coords t) h1))).squeeze S_ squeezes_S1x1_S_ = cell (Ring.sl 2 (t.val + 1)) 1 := canon_prev_cell1 t h1
theorem off_prev_tile1 : ∀ t : Fin grid0.N, k0_off55 (grid0.coords t) = ![(Ring.sl 2 (t.val + 1)).val, 0, 1, 0] := by decide +kernel
@[sl_canon] theorem canon_prev_tile1 (t : Fin grid0.N) (h1 : cond1 (grid0.coords t)) : (scr.slice (Rect.unit (s := S2x64x8x1024) (k0_off55 (grid0.coords t)) S1x64x1x1024.size (k0_off55_inb (grid0.coords t) h1)) (fun _ => rfl)).squeeze S64x1024 squeezes_S1x64x1x1024_S64x1024 = tile (Ring.sl 2 (t.val + 1)) 1 := tile_of (off_prev_tile1 t) _
@[sl_canon] theorem canon_prev_tile1' (t : Fin grid0.N) (h1 : cond1 (grid0.coords t)) : (scr.slice (Rect.unit (s := S2x64x8x1024) (k0_off55 (grid0.coords t)) ![1, 64, 1, 1024] (k0_off55_inb (grid0.coords t) h1)) (fun _ => rfl)).squeeze S64x1024 squeezes_S1x64x1x1024_S64x1024 = tile (Ring.sl 2 (t.val + 1)) 1 := canon_prev_tile1 t h1
theorem off_last_cell1 : ∀ t : Fin grid0.N, k0_off77 (grid0.coords t) = ![(Ring.sl 2 t.val).val, 1] := by decide +kernel
@[sl_canon] theorem canon_last_cell1 (t : Fin grid0.N) (h1 : cond1 (grid0.coords t)) : (cc0_scratch1.slice (Rect.unit (s := S2x8) (k0_off77 (grid0.coords t)) S1x1.size (k0_off77_inb (grid0.coords t) h1))).squeeze S_ squeezes_S1x1_S_ = cell (Ring.sl 2 t.val) 1 := cell_of (off_last_cell1 t) _
@[sl_canon] theorem canon_last_cell1' (t : Fin grid0.N) (h1 : cond1 (grid0.coords t)) : (cc0_scratch1.slice (Rect.unit (s := S2x8) (k0_off77 (grid0.coords t)) ![1, 1] (k0_off77_inb (grid0.coords t) h1))).squeeze S_ squeezes_S1x1_S_ = cell (Ring.sl 2 t.val) 1 := canon_last_cell1 t h1
theorem off_last_tile1 : ∀ t : Fin grid0.N, k0_off79 (grid0.coords t) = ![(Ring.sl 2 t.val).val, 0, 1, 0] := by decide +kernel
@[sl_canon] theorem canon_last_tile1 (t : Fin grid0.N) (h1 : cond1 (grid0.coords t)) : (scr.slice (Rect.unit (s := S2x64x8x1024) (k0_off79 (grid0.coords t)) S1x64x1x1024.size (k0_off79_inb (grid0.coords t) h1)) (fun _ => rfl)).squeeze S64x1024 squeezes_S1x64x1x1024_S64x1024 = tile (Ring.sl 2 t.val) 1 := tile_of (off_last_tile1 t) _
@[sl_canon] theorem canon_last_tile1' (t : Fin grid0.N) (h1 : cond1 (grid0.coords t)) : (scr.slice (Rect.unit (s := S2x64x8x1024) (k0_off79 (grid0.coords t)) ![1, 64, 1, 1024] (k0_off79_inb (grid0.coords t) h1)) (fun _ => rfl)).squeeze S64x1024 squeezes_S1x64x1x1024_S64x1024 = tile (Ring.sl 2 t.val) 1 := canon_last_tile1 t h1
theorem off_wait_cell2 : ∀ t : Fin grid0.N, k0_off7 (grid0.coords t) = ![(Ring.sl 2 t.val).val, 2] := by decide +kernel
@[sl_canon] theorem canon_wait_cell2 (t : Fin grid0.N) (h0 : cond0 (grid0.coords t)) : (cc0_scratch1.slice (Rect.unit (s := S2x8) (k0_off7 (grid0.coords t)) S1x1.size (k0_off7_inb (grid0.coords t) h0))).squeeze S_ squeezes_S1x1_S_ = cell (Ring.sl 2 t.val) 2 := cell_of (off_wait_cell2 t) _
@[sl_canon] theorem canon_wait_cell2' (t : Fin grid0.N) (h0 : cond0 (grid0.coords t)) : (cc0_scratch1.slice (Rect.unit (s := S2x8) (k0_off7 (grid0.coords t)) ![1, 1] (k0_off7_inb (grid0.coords t) h0))).squeeze S_ squeezes_S1x1_S_ = cell (Ring.sl 2 t.val) 2 := canon_wait_cell2 t h0
theorem off_wait_tile2 : ∀ t : Fin grid0.N, k0_off9 (grid0.coords t) = ![(Ring.sl 2 t.val).val, 0, 2, 0] := by decide +kernel
@[sl_canon] theorem canon_wait_tile2 (t : Fin grid0.N) (h0 : cond0 (grid0.coords t)) : (scr.slice (Rect.unit (s := S2x64x8x1024) (k0_off9 (grid0.coords t)) S1x64x1x1024.size (k0_off9_inb (grid0.coords t) h0)) (fun _ => rfl)).squeeze S64x1024 squeezes_S1x64x1x1024_S64x1024 = tile (Ring.sl 2 t.val) 2 := tile_of (off_wait_tile2 t) _
@[sl_canon] theorem canon_wait_tile2' (t : Fin grid0.N) (h0 : cond0 (grid0.coords t)) : (scr.slice (Rect.unit (s := S2x64x8x1024) (k0_off9 (grid0.coords t)) ![1, 64, 1, 1024] (k0_off9_inb (grid0.coords t) h0)) (fun _ => rfl)).squeeze S64x1024 squeezes_S1x64x1x1024_S64x1024 = tile (Ring.sl 2 t.val) 2 := canon_wait_tile2 t h0
theorem off_prev_cell2 : ∀ t : Fin grid0.N, k0_off56 (grid0.coords t) = ![(Ring.sl 2 (t.val + 1)).val, 2] := by decide +kernel
@[sl_canon] theorem canon_prev_cell2 (t : Fin grid0.N) (h1 : cond1 (grid0.coords t)) : (cc0_scratch1.slice (Rect.unit (s := S2x8) (k0_off56 (grid0.coords t)) S1x1.size (k0_off56_inb (grid0.coords t) h1))).squeeze S_ squeezes_S1x1_S_ = cell (Ring.sl 2 (t.val + 1)) 2 := cell_of (off_prev_cell2 t) _
@[sl_canon] theorem canon_prev_cell2' (t : Fin grid0.N) (h1 : cond1 (grid0.coords t)) : (cc0_scratch1.slice (Rect.unit (s := S2x8) (k0_off56 (grid0.coords t)) ![1, 1] (k0_off56_inb (grid0.coords t) h1))).squeeze S_ squeezes_S1x1_S_ = cell (Ring.sl 2 (t.val + 1)) 2 := canon_prev_cell2 t h1
theorem off_prev_tile2 : ∀ t : Fin grid0.N, k0_off58 (grid0.coords t) = ![(Ring.sl 2 (t.val + 1)).val, 0, 2, 0] := by decide +kernel
@[sl_canon] theorem canon_prev_tile2 (t : Fin grid0.N) (h1 : cond1 (grid0.coords t)) : (scr.slice (Rect.unit (s := S2x64x8x1024) (k0_off58 (grid0.coords t)) S1x64x1x1024.size (k0_off58_inb (grid0.coords t) h1)) (fun _ => rfl)).squeeze S64x1024 squeezes_S1x64x1x1024_S64x1024 = tile (Ring.sl 2 (t.val + 1)) 2 := tile_of (off_prev_tile2 t) _
@[sl_canon] theorem canon_prev_tile2' (t : Fin grid0.N) (h1 : cond1 (grid0.coords t)) : (scr.slice (Rect.unit (s := S2x64x8x1024) (k0_off58 (grid0.coords t)) ![1, 64, 1, 1024] (k0_off58_inb (grid0.coords t) h1)) (fun _ => rfl)).squeeze S64x1024 squeezes_S1x64x1x1024_S64x1024 = tile (Ring.sl 2 (t.val + 1)) 2 := canon_prev_tile2 t h1
theorem off_last_cell2 : ∀ t : Fin grid0.N, k0_off80 (grid0.coords t) = ![(Ring.sl 2 t.val).val, 2] := by decide +kernel
@[sl_canon] theorem canon_last_cell2 (t : Fin grid0.N) (h1 : cond1 (grid0.coords t)) : (cc0_scratch1.slice (Rect.unit (s := S2x8) (k0_off80 (grid0.coords t)) S1x1.size (k0_off80_inb (grid0.coords t) h1))).squeeze S_ squeezes_S1x1_S_ = cell (Ring.sl 2 t.val) 2 := cell_of (off_last_cell2 t) _
@[sl_canon] theorem canon_last_cell2' (t : Fin grid0.N) (h1 : cond1 (grid0.coords t)) : (cc0_scratch1.slice (Rect.unit (s := S2x8) (k0_off80 (grid0.coords t)) ![1, 1] (k0_off80_inb (grid0.coords t) h1))).squeeze S_ squeezes_S1x1_S_ = cell (Ring.sl 2 t.val) 2 := canon_last_cell2 t h1
theorem off_last_tile2 : ∀ t : Fin grid0.N, k0_off82 (grid0.coords t) = ![(Ring.sl 2 t.val).val, 0, 2, 0] := by decide +kernel
@[sl_canon] theorem canon_last_tile2 (t : Fin grid0.N) (h1 : cond1 (grid0.coords t)) : (scr.slice (Rect.unit (s := S2x64x8x1024) (k0_off82 (grid0.coords t)) S1x64x1x1024.size (k0_off82_inb (grid0.coords t) h1)) (fun _ => rfl)).squeeze S64x1024 squeezes_S1x64x1x1024_S64x1024 = tile (Ring.sl 2 t.val) 2 := tile_of (off_last_tile2 t) _
@[sl_canon] theorem canon_last_tile2' (t : Fin grid0.N) (h1 : cond1 (grid0.coords t)) : (scr.slice (Rect.unit (s := S2x64x8x1024) (k0_off82 (grid0.coords t)) ![1, 64, 1, 1024] (k0_off82_inb (grid0.coords t) h1)) (fun _ => rfl)).squeeze S64x1024 squeezes_S1x64x1x1024_S64x1024 = tile (Ring.sl 2 t.val) 2 := canon_last_tile2 t h1
theorem off_wait_cell3 : ∀ t : Fin grid0.N, k0_off10 (grid0.coords t) = ![(Ring.sl 2 t.val).val, 3] := by decide +kernel
@[sl_canon] theorem canon_wait_cell3 (t : Fin grid0.N) (h0 : cond0 (grid0.coords t)) : (cc0_scratch1.slice (Rect.unit (s := S2x8) (k0_off10 (grid0.coords t)) S1x1.size (k0_off10_inb (grid0.coords t) h0))).squeeze S_ squeezes_S1x1_S_ = cell (Ring.sl 2 t.val) 3 := cell_of (off_wait_cell3 t) _
@[sl_canon] theorem canon_wait_cell3' (t : Fin grid0.N) (h0 : cond0 (grid0.coords t)) : (cc0_scratch1.slice (Rect.unit (s := S2x8) (k0_off10 (grid0.coords t)) ![1, 1] (k0_off10_inb (grid0.coords t) h0))).squeeze S_ squeezes_S1x1_S_ = cell (Ring.sl 2 t.val) 3 := canon_wait_cell3 t h0
theorem off_wait_tile3 : ∀ t : Fin grid0.N, k0_off12 (grid0.coords t) = ![(Ring.sl 2 t.val).val, 0, 3, 0] := by decide +kernel
@[sl_canon] theorem canon_wait_tile3 (t : Fin grid0.N) (h0 : cond0 (grid0.coords t)) : (scr.slice (Rect.unit (s := S2x64x8x1024) (k0_off12 (grid0.coords t)) S1x64x1x1024.size (k0_off12_inb (grid0.coords t) h0)) (fun _ => rfl)).squeeze S64x1024 squeezes_S1x64x1x1024_S64x1024 = tile (Ring.sl 2 t.val) 3 := tile_of (off_wait_tile3 t) _
@[sl_canon] theorem canon_wait_tile3' (t : Fin grid0.N) (h0 : cond0 (grid0.coords t)) : (scr.slice (Rect.unit (s := S2x64x8x1024) (k0_off12 (grid0.coords t)) ![1, 64, 1, 1024] (k0_off12_inb (grid0.coords t) h0)) (fun _ => rfl)).squeeze S64x1024 squeezes_S1x64x1x1024_S64x1024 = tile (Ring.sl 2 t.val) 3 := canon_wait_tile3 t h0
theorem off_prev_cell3 : ∀ t : Fin grid0.N, k0_off59 (grid0.coords t) = ![(Ring.sl 2 (t.val + 1)).val, 3] := by decide +kernel
@[sl_canon] theorem canon_prev_cell3 (t : Fin grid0.N) (h1 : cond1 (grid0.coords t)) : (cc0_scratch1.slice (Rect.unit (s := S2x8) (k0_off59 (grid0.coords t)) S1x1.size (k0_off59_inb (grid0.coords t) h1))).squeeze S_ squeezes_S1x1_S_ = cell (Ring.sl 2 (t.val + 1)) 3 := cell_of (off_prev_cell3 t) _
@[sl_canon] theorem canon_prev_cell3' (t : Fin grid0.N) (h1 : cond1 (grid0.coords t)) : (cc0_scratch1.slice (Rect.unit (s := S2x8) (k0_off59 (grid0.coords t)) ![1, 1] (k0_off59_inb (grid0.coords t) h1))).squeeze S_ squeezes_S1x1_S_ = cell (Ring.sl 2 (t.val + 1)) 3 := canon_prev_cell3 t h1
theorem off_prev_tile3 : ∀ t : Fin grid0.N, k0_off61 (grid0.coords t) = ![(Ring.sl 2 (t.val + 1)).val, 0, 3, 0] := by decide +kernel
@[sl_canon] theorem canon_prev_tile3 (t : Fin grid0.N) (h1 : cond1 (grid0.coords t)) : (scr.slice (Rect.unit (s := S2x64x8x1024) (k0_off61 (grid0.coords t)) S1x64x1x1024.size (k0_off61_inb (grid0.coords t) h1)) (fun _ => rfl)).squeeze S64x1024 squeezes_S1x64x1x1024_S64x1024 = tile (Ring.sl 2 (t.val + 1)) 3 := tile_of (off_prev_tile3 t) _
@[sl_canon] theorem canon_prev_tile3' (t : Fin grid0.N) (h1 : cond1 (grid0.coords t)) : (scr.slice (Rect.unit (s := S2x64x8x1024) (k0_off61 (grid0.coords t)) ![1, 64, 1, 1024] (k0_off61_inb (grid0.coords t) h1)) (fun _ => rfl)).squeeze S64x1024 squeezes_S1x64x1x1024_S64x1024 = tile (Ring.sl 2 (t.val + 1)) 3 := canon_prev_tile3 t h1
theorem off_last_cell3 : ∀ t : Fin grid0.N, k0_off83 (grid0.coords t) = ![(Ring.sl 2 t.val).val, 3] := by decide +kernel
@[sl_canon] theorem canon_last_cell3 (t : Fin grid0.N) (h1 : cond1 (grid0.coords t)) : (cc0_scratch1.slice (Rect.unit (s := S2x8) (k0_off83 (grid0.coords t)) S1x1.size (k0_off83_inb (grid0.coords t) h1))).squeeze S_ squeezes_S1x1_S_ = cell (Ring.sl 2 t.val) 3 := cell_of (off_last_cell3 t) _
@[sl_canon] theorem canon_last_cell3' (t : Fin grid0.N) (h1 : cond1 (grid0.coords t)) : (cc0_scratch1.slice (Rect.unit (s := S2x8) (k0_off83 (grid0.coords t)) ![1, 1] (k0_off83_inb (grid0.coords t) h1))).squeeze S_ squeezes_S1x1_S_ = cell (Ring.sl 2 t.val) 3 := canon_last_cell3 t h1
theorem off_last_tile3 : ∀ t : Fin grid0.N, k0_off85 (grid0.coords t) = ![(Ring.sl 2 t.val).val, 0, 3, 0] := by decide +kernel
@[sl_canon] theorem canon_last_tile3 (t : Fin grid0.N) (h1 : cond1 (grid0.coords t)) : (scr.slice (Rect.unit (s := S2x64x8x1024) (k0_off85 (grid0.coords t)) S1x64x1x1024.size (k0_off85_inb (grid0.coords t) h1)) (fun _ => rfl)).squeeze S64x1024 squeezes_S1x64x1x1024_S64x1024 = tile (Ring.sl 2 t.val) 3 := tile_of (off_last_tile3 t) _
@[sl_canon] theorem canon_last_tile3' (t : Fin grid0.N) (h1 : cond1 (grid0.coords t)) : (scr.slice (Rect.unit (s := S2x64x8x1024) (k0_off85 (grid0.coords t)) ![1, 64, 1, 1024] (k0_off85_inb (grid0.coords t) h1)) (fun _ => rfl)).squeeze S64x1024 squeezes_S1x64x1x1024_S64x1024 = tile (Ring.sl 2 t.val) 3 := canon_last_tile3 t h1
theorem off_wait_cell4 : ∀ t : Fin grid0.N, k0_off13 (grid0.coords t) = ![(Ring.sl 2 t.val).val, 4] := by decide +kernel
@[sl_canon] theorem canon_wait_cell4 (t : Fin grid0.N) (h0 : cond0 (grid0.coords t)) : (cc0_scratch1.slice (Rect.unit (s := S2x8) (k0_off13 (grid0.coords t)) S1x1.size (k0_off13_inb (grid0.coords t) h0))).squeeze S_ squeezes_S1x1_S_ = cell (Ring.sl 2 t.val) 4 := cell_of (off_wait_cell4 t) _
@[sl_canon] theorem canon_wait_cell4' (t : Fin grid0.N) (h0 : cond0 (grid0.coords t)) : (cc0_scratch1.slice (Rect.unit (s := S2x8) (k0_off13 (grid0.coords t)) ![1, 1] (k0_off13_inb (grid0.coords t) h0))).squeeze S_ squeezes_S1x1_S_ = cell (Ring.sl 2 t.val) 4 := canon_wait_cell4 t h0
theorem off_wait_tile4 : ∀ t : Fin grid0.N, k0_off15 (grid0.coords t) = ![(Ring.sl 2 t.val).val, 0, 4, 0] := by decide +kernel
@[sl_canon] theorem canon_wait_tile4 (t : Fin grid0.N) (h0 : cond0 (grid0.coords t)) : (scr.slice (Rect.unit (s := S2x64x8x1024) (k0_off15 (grid0.coords t)) S1x64x1x1024.size (k0_off15_inb (grid0.coords t) h0)) (fun _ => rfl)).squeeze S64x1024 squeezes_S1x64x1x1024_S64x1024 = tile (Ring.sl 2 t.val) 4 := tile_of (off_wait_tile4 t) _
@[sl_canon] theorem canon_wait_tile4' (t : Fin grid0.N) (h0 : cond0 (grid0.coords t)) : (scr.slice (Rect.unit (s := S2x64x8x1024) (k0_off15 (grid0.coords t)) ![1, 64, 1, 1024] (k0_off15_inb (grid0.coords t) h0)) (fun _ => rfl)).squeeze S64x1024 squeezes_S1x64x1x1024_S64x1024 = tile (Ring.sl 2 t.val) 4 := canon_wait_tile4 t h0
theorem off_prev_cell4 : ∀ t : Fin grid0.N, k0_off62 (grid0.coords t) = ![(Ring.sl 2 (t.val + 1)).val, 4] := by decide +kernel
@[sl_canon] theorem canon_prev_cell4 (t : Fin grid0.N) (h1 : cond1 (grid0.coords t)) : (cc0_scratch1.slice (Rect.unit (s := S2x8) (k0_off62 (grid0.coords t)) S1x1.size (k0_off62_inb (grid0.coords t) h1))).squeeze S_ squeezes_S1x1_S_ = cell (Ring.sl 2 (t.val + 1)) 4 := cell_of (off_prev_cell4 t) _
@[sl_canon] theorem canon_prev_cell4' (t : Fin grid0.N) (h1 : cond1 (grid0.coords t)) : (cc0_scratch1.slice (Rect.unit (s := S2x8) (k0_off62 (grid0.coords t)) ![1, 1] (k0_off62_inb (grid0.coords t) h1))).squeeze S_ squeezes_S1x1_S_ = cell (Ring.sl 2 (t.val + 1)) 4 := canon_prev_cell4 t h1
theorem off_prev_tile4 : ∀ t : Fin grid0.N, k0_off64 (grid0.coords t) = ![(Ring.sl 2 (t.val + 1)).val, 0, 4, 0] := by decide +kernel
@[sl_canon] theorem canon_prev_tile4 (t : Fin grid0.N) (h1 : cond1 (grid0.coords t)) : (scr.slice (Rect.unit (s := S2x64x8x1024) (k0_off64 (grid0.coords t)) S1x64x1x1024.size (k0_off64_inb (grid0.coords t) h1)) (fun _ => rfl)).squeeze S64x1024 squeezes_S1x64x1x1024_S64x1024 = tile (Ring.sl 2 (t.val + 1)) 4 := tile_of (off_prev_tile4 t) _
@[sl_canon] theorem canon_prev_tile4' (t : Fin grid0.N) (h1 : cond1 (grid0.coords t)) : (scr.slice (Rect.unit (s := S2x64x8x1024) (k0_off64 (grid0.coords t)) ![1, 64, 1, 1024] (k0_off64_inb (grid0.coords t) h1)) (fun _ => rfl)).squeeze S64x1024 squeezes_S1x64x1x1024_S64x1024 = tile (Ring.sl 2 (t.val + 1)) 4 := canon_prev_tile4 t h1
theorem off_last_cell4 : ∀ t : Fin grid0.N, k0_off86 (grid0.coords t) = ![(Ring.sl 2 t.val).val, 4] := by decide +kernel
@[sl_canon] theorem canon_last_cell4 (t : Fin grid0.N) (h1 : cond1 (grid0.coords t)) : (cc0_scratch1.slice (Rect.unit (s := S2x8) (k0_off86 (grid0.coords t)) S1x1.size (k0_off86_inb (grid0.coords t) h1))).squeeze S_ squeezes_S1x1_S_ = cell (Ring.sl 2 t.val) 4 := cell_of (off_last_cell4 t) _
@[sl_canon] theorem canon_last_cell4' (t : Fin grid0.N) (h1 : cond1 (grid0.coords t)) : (cc0_scratch1.slice (Rect.unit (s := S2x8) (k0_off86 (grid0.coords t)) ![1, 1] (k0_off86_inb (grid0.coords t) h1))).squeeze S_ squeezes_S1x1_S_ = cell (Ring.sl 2 t.val) 4 := canon_last_cell4 t h1
theorem off_last_tile4 : ∀ t : Fin grid0.N, k0_off88 (grid0.coords t) = ![(Ring.sl 2 t.val).val, 0, 4, 0] := by decide +kernel
@[sl_canon] theorem canon_last_tile4 (t : Fin grid0.N) (h1 : cond1 (grid0.coords t)) : (scr.slice (Rect.unit (s := S2x64x8x1024) (k0_off88 (grid0.coords t)) S1x64x1x1024.size (k0_off88_inb (grid0.coords t) h1)) (fun _ => rfl)).squeeze S64x1024 squeezes_S1x64x1x1024_S64x1024 = tile (Ring.sl 2 t.val) 4 := tile_of (off_last_tile4 t) _
@[sl_canon] theorem canon_last_tile4' (t : Fin grid0.N) (h1 : cond1 (grid0.coords t)) : (scr.slice (Rect.unit (s := S2x64x8x1024) (k0_off88 (grid0.coords t)) ![1, 64, 1, 1024] (k0_off88_inb (grid0.coords t) h1)) (fun _ => rfl)).squeeze S64x1024 squeezes_S1x64x1x1024_S64x1024 = tile (Ring.sl 2 t.val) 4 := canon_last_tile4 t h1
theorem off_wait_cell5 : ∀ t : Fin grid0.N, k0_off16 (grid0.coords t) = ![(Ring.sl 2 t.val).val, 5] := by decide +kernel
@[sl_canon] theorem canon_wait_cell5 (t : Fin grid0.N) (h0 : cond0 (grid0.coords t)) : (cc0_scratch1.slice (Rect.unit (s := S2x8) (k0_off16 (grid0.coords t)) S1x1.size (k0_off16_inb (grid0.coords t) h0))).squeeze S_ squeezes_S1x1_S_ = cell (Ring.sl 2 t.val) 5 := cell_of (off_wait_cell5 t) _
@[sl_canon] theorem canon_wait_cell5' (t : Fin grid0.N) (h0 : cond0 (grid0.coords t)) : (cc0_scratch1.slice (Rect.unit (s := S2x8) (k0_off16 (grid0.coords t)) ![1, 1] (k0_off16_inb (grid0.coords t) h0))).squeeze S_ squeezes_S1x1_S_ = cell (Ring.sl 2 t.val) 5 := canon_wait_cell5 t h0
theorem off_wait_tile5 : ∀ t : Fin grid0.N, k0_off18 (grid0.coords t) = ![(Ring.sl 2 t.val).val, 0, 5, 0] := by decide +kernel
@[sl_canon] theorem canon_wait_tile5 (t : Fin grid0.N) (h0 : cond0 (grid0.coords t)) : (scr.slice (Rect.unit (s := S2x64x8x1024) (k0_off18 (grid0.coords t)) S1x64x1x1024.size (k0_off18_inb (grid0.coords t) h0)) (fun _ => rfl)).squeeze S64x1024 squeezes_S1x64x1x1024_S64x1024 = tile (Ring.sl 2 t.val) 5 := tile_of (off_wait_tile5 t) _
@[sl_canon] theorem canon_wait_tile5' (t : Fin grid0.N) (h0 : cond0 (grid0.coords t)) : (scr.slice (Rect.unit (s := S2x64x8x1024) (k0_off18 (grid0.coords t)) ![1, 64, 1, 1024] (k0_off18_inb (grid0.coords t) h0)) (fun _ => rfl)).squeeze S64x1024 squeezes_S1x64x1x1024_S64x1024 = tile (Ring.sl 2 t.val) 5 := canon_wait_tile5 t h0
theorem off_prev_cell5 : ∀ t : Fin grid0.N, k0_off65 (grid0.coords t) = ![(Ring.sl 2 (t.val + 1)).val, 5] := by decide +kernel
@[sl_canon] theorem canon_prev_cell5 (t : Fin grid0.N) (h1 : cond1 (grid0.coords t)) : (cc0_scratch1.slice (Rect.unit (s := S2x8) (k0_off65 (grid0.coords t)) S1x1.size (k0_off65_inb (grid0.coords t) h1))).squeeze S_ squeezes_S1x1_S_ = cell (Ring.sl 2 (t.val + 1)) 5 := cell_of (off_prev_cell5 t) _
@[sl_canon] theorem canon_prev_cell5' (t : Fin grid0.N) (h1 : cond1 (grid0.coords t)) : (cc0_scratch1.slice (Rect.unit (s := S2x8) (k0_off65 (grid0.coords t)) ![1, 1] (k0_off65_inb (grid0.coords t) h1))).squeeze S_ squeezes_S1x1_S_ = cell (Ring.sl 2 (t.val + 1)) 5 := canon_prev_cell5 t h1
theorem off_prev_tile5 : ∀ t : Fin grid0.N, k0_off67 (grid0.coords t) = ![(Ring.sl 2 (t.val + 1)).val, 0, 5, 0] := by decide +kernel
@[sl_canon] theorem canon_prev_tile5 (t : Fin grid0.N) (h1 : cond1 (grid0.coords t)) : (scr.slice (Rect.unit (s := S2x64x8x1024) (k0_off67 (grid0.coords t)) S1x64x1x1024.size (k0_off67_inb (grid0.coords t) h1)) (fun _ => rfl)).squeeze S64x1024 squeezes_S1x64x1x1024_S64x1024 = tile (Ring.sl 2 (t.val + 1)) 5 := tile_of (off_prev_tile5 t) _
@[sl_canon] theorem canon_prev_tile5' (t : Fin grid0.N) (h1 : cond1 (grid0.coords t)) : (scr.slice (Rect.unit (s := S2x64x8x1024) (k0_off67 (grid0.coords t)) ![1, 64, 1, 1024] (k0_off67_inb (grid0.coords t) h1)) (fun _ => rfl)).squeeze S64x1024 squeezes_S1x64x1x1024_S64x1024 = tile (Ring.sl 2 (t.val + 1)) 5 := canon_prev_tile5 t h1
theorem off_last_cell5 : ∀ t : Fin grid0.N, k0_off89 (grid0.coords t) = ![(Ring.sl 2 t.val).val, 5] := by decide +kernel
@[sl_canon] theorem canon_last_cell5 (t : Fin grid0.N) (h1 : cond1 (grid0.coords t)) : (cc0_scratch1.slice (Rect.unit (s := S2x8) (k0_off89 (grid0.coords t)) S1x1.size (k0_off89_inb (grid0.coords t) h1))).squeeze S_ squeezes_S1x1_S_ = cell (Ring.sl 2 t.val) 5 := cell_of (off_last_cell5 t) _
@[sl_canon] theorem canon_last_cell5' (t : Fin grid0.N) (h1 : cond1 (grid0.coords t)) : (cc0_scratch1.slice (Rect.unit (s := S2x8) (k0_off89 (grid0.coords t)) ![1, 1] (k0_off89_inb (grid0.coords t) h1))).squeeze S_ squeezes_S1x1_S_ = cell (Ring.sl 2 t.val) 5 := canon_last_cell5 t h1
theorem off_last_tile5 : ∀ t : Fin grid0.N, k0_off91 (grid0.coords t) = ![(Ring.sl 2 t.val).val, 0, 5, 0] := by decide +kernel
@[sl_canon] theorem canon_last_tile5 (t : Fin grid0.N) (h1 : cond1 (grid0.coords t)) : (scr.slice (Rect.unit (s := S2x64x8x1024) (k0_off91 (grid0.coords t)) S1x64x1x1024.size (k0_off91_inb (grid0.coords t) h1)) (fun _ => rfl)).squeeze S64x1024 squeezes_S1x64x1x1024_S64x1024 = tile (Ring.sl 2 t.val) 5 := tile_of (off_last_tile5 t) _
@[sl_canon] theorem canon_last_tile5' (t : Fin grid0.N) (h1 : cond1 (grid0.coords t)) : (scr.slice (Rect.unit (s := S2x64x8x1024) (k0_off91 (grid0.coords t)) ![1, 64, 1, 1024] (k0_off91_inb (grid0.coords t) h1)) (fun _ => rfl)).squeeze S64x1024 squeezes_S1x64x1x1024_S64x1024 = tile (Ring.sl 2 t.val) 5 := canon_last_tile5 t h1
theorem off_wait_cell6 : ∀ t : Fin grid0.N, k0_off19 (grid0.coords t) = ![(Ring.sl 2 t.val).val, 6] := by decide +kernel
@[sl_canon] theorem canon_wait_cell6 (t : Fin grid0.N) (h0 : cond0 (grid0.coords t)) : (cc0_scratch1.slice (Rect.unit (s := S2x8) (k0_off19 (grid0.coords t)) S1x1.size (k0_off19_inb (grid0.coords t) h0))).squeeze S_ squeezes_S1x1_S_ = cell (Ring.sl 2 t.val) 6 := cell_of (off_wait_cell6 t) _
@[sl_canon] theorem canon_wait_cell6' (t : Fin grid0.N) (h0 : cond0 (grid0.coords t)) : (cc0_scratch1.slice (Rect.unit (s := S2x8) (k0_off19 (grid0.coords t)) ![1, 1] (k0_off19_inb (grid0.coords t) h0))).squeeze S_ squeezes_S1x1_S_ = cell (Ring.sl 2 t.val) 6 := canon_wait_cell6 t h0
theorem off_wait_tile6 : ∀ t : Fin grid0.N, k0_off21 (grid0.coords t) = ![(Ring.sl 2 t.val).val, 0, 6, 0] := by decide +kernel
@[sl_canon] theorem canon_wait_tile6 (t : Fin grid0.N) (h0 : cond0 (grid0.coords t)) : (scr.slice (Rect.unit (s := S2x64x8x1024) (k0_off21 (grid0.coords t)) S1x64x1x1024.size (k0_off21_inb (grid0.coords t) h0)) (fun _ => rfl)).squeeze S64x1024 squeezes_S1x64x1x1024_S64x1024 = tile (Ring.sl 2 t.val) 6 := tile_of (off_wait_tile6 t) _
@[sl_canon] theorem canon_wait_tile6' (t : Fin grid0.N) (h0 : cond0 (grid0.coords t)) : (scr.slice (Rect.unit (s := S2x64x8x1024) (k0_off21 (grid0.coords t)) ![1, 64, 1, 1024] (k0_off21_inb (grid0.coords t) h0)) (fun _ => rfl)).squeeze S64x1024 squeezes_S1x64x1x1024_S64x1024 = tile (Ring.sl 2 t.val) 6 := canon_wait_tile6 t h0
theorem off_prev_cell6 : ∀ t : Fin grid0.N, k0_off68 (grid0.coords t) = ![(Ring.sl 2 (t.val + 1)).val, 6] := by decide +kernel
@[sl_canon] theorem canon_prev_cell6 (t : Fin grid0.N) (h1 : cond1 (grid0.coords t)) : (cc0_scratch1.slice (Rect.unit (s := S2x8) (k0_off68 (grid0.coords t)) S1x1.size (k0_off68_inb (grid0.coords t) h1))).squeeze S_ squeezes_S1x1_S_ = cell (Ring.sl 2 (t.val + 1)) 6 := cell_of (off_prev_cell6 t) _
@[sl_canon] theorem canon_prev_cell6' (t : Fin grid0.N) (h1 : cond1 (grid0.coords t)) : (cc0_scratch1.slice (Rect.unit (s := S2x8) (k0_off68 (grid0.coords t)) ![1, 1] (k0_off68_inb (grid0.coords t) h1))).squeeze S_ squeezes_S1x1_S_ = cell (Ring.sl 2 (t.val + 1)) 6 := canon_prev_cell6 t h1
theorem off_prev_tile6 : ∀ t : Fin grid0.N, k0_off70 (grid0.coords t) = ![(Ring.sl 2 (t.val + 1)).val, 0, 6, 0] := by decide +kernel
@[sl_canon] theorem canon_prev_tile6 (t : Fin grid0.N) (h1 : cond1 (grid0.coords t)) : (scr.slice (Rect.unit (s := S2x64x8x1024) (k0_off70 (grid0.coords t)) S1x64x1x1024.size (k0_off70_inb (grid0.coords t) h1)) (fun _ => rfl)).squeeze S64x1024 squeezes_S1x64x1x1024_S64x1024 = tile (Ring.sl 2 (t.val + 1)) 6 := tile_of (off_prev_tile6 t) _
@[sl_canon] theorem canon_prev_tile6' (t : Fin grid0.N) (h1 : cond1 (grid0.coords t)) : (scr.slice (Rect.unit (s := S2x64x8x1024) (k0_off70 (grid0.coords t)) ![1, 64, 1, 1024] (k0_off70_inb (grid0.coords t) h1)) (fun _ => rfl)).squeeze S64x1024 squeezes_S1x64x1x1024_S64x1024 = tile (Ring.sl 2 (t.val + 1)) 6 := canon_prev_tile6 t h1
theorem off_last_cell6 : ∀ t : Fin grid0.N, k0_off92 (grid0.coords t) = ![(Ring.sl 2 t.val).val, 6] := by decide +kernel
@[sl_canon] theorem canon_last_cell6 (t : Fin grid0.N) (h1 : cond1 (grid0.coords t)) : (cc0_scratch1.slice (Rect.unit (s := S2x8) (k0_off92 (grid0.coords t)) S1x1.size (k0_off92_inb (grid0.coords t) h1))).squeeze S_ squeezes_S1x1_S_ = cell (Ring.sl 2 t.val) 6 := cell_of (off_last_cell6 t) _
@[sl_canon] theorem canon_last_cell6' (t : Fin grid0.N) (h1 : cond1 (grid0.coords t)) : (cc0_scratch1.slice (Rect.unit (s := S2x8) (k0_off92 (grid0.coords t)) ![1, 1] (k0_off92_inb (grid0.coords t) h1))).squeeze S_ squeezes_S1x1_S_ = cell (Ring.sl 2 t.val) 6 := canon_last_cell6 t h1
theorem off_last_tile6 : ∀ t : Fin grid0.N, k0_off94 (grid0.coords t) = ![(Ring.sl 2 t.val).val, 0, 6, 0] := by decide +kernel
@[sl_canon] theorem canon_last_tile6 (t : Fin grid0.N) (h1 : cond1 (grid0.coords t)) : (scr.slice (Rect.unit (s := S2x64x8x1024) (k0_off94 (grid0.coords t)) S1x64x1x1024.size (k0_off94_inb (grid0.coords t) h1)) (fun _ => rfl)).squeeze S64x1024 squeezes_S1x64x1x1024_S64x1024 = tile (Ring.sl 2 t.val) 6 := tile_of (off_last_tile6 t) _
@[sl_canon] theorem canon_last_tile6' (t : Fin grid0.N) (h1 : cond1 (grid0.coords t)) : (scr.slice (Rect.unit (s := S2x64x8x1024) (k0_off94 (grid0.coords t)) ![1, 64, 1, 1024] (k0_off94_inb (grid0.coords t) h1)) (fun _ => rfl)).squeeze S64x1024 squeezes_S1x64x1x1024_S64x1024 = tile (Ring.sl 2 t.val) 6 := canon_last_tile6 t h1
theorem off_wait_cell7 : ∀ t : Fin grid0.N, k0_off22 (grid0.coords t) = ![(Ring.sl 2 t.val).val, 7] := by decide +kernel
@[sl_canon] theorem canon_wait_cell7 (t : Fin grid0.N) (h0 : cond0 (grid0.coords t)) : (cc0_scratch1.slice (Rect.unit (s := S2x8) (k0_off22 (grid0.coords t)) S1x1.size (k0_off22_inb (grid0.coords t) h0))).squeeze S_ squeezes_S1x1_S_ = cell (Ring.sl 2 t.val) 7 := cell_of (off_wait_cell7 t) _
@[sl_canon] theorem canon_wait_cell7' (t : Fin grid0.N) (h0 : cond0 (grid0.coords t)) : (cc0_scratch1.slice (Rect.unit (s := S2x8) (k0_off22 (grid0.coords t)) ![1, 1] (k0_off22_inb (grid0.coords t) h0))).squeeze S_ squeezes_S1x1_S_ = cell (Ring.sl 2 t.val) 7 := canon_wait_cell7 t h0
theorem off_wait_tile7 : ∀ t : Fin grid0.N, k0_off24 (grid0.coords t) = ![(Ring.sl 2 t.val).val, 0, 7, 0] := by decide +kernel
@[sl_canon] theorem canon_wait_tile7 (t : Fin grid0.N) (h0 : cond0 (grid0.coords t)) : (scr.slice (Rect.unit (s := S2x64x8x1024) (k0_off24 (grid0.coords t)) S1x64x1x1024.size (k0_off24_inb (grid0.coords t) h0)) (fun _ => rfl)).squeeze S64x1024 squeezes_S1x64x1x1024_S64x1024 = tile (Ring.sl 2 t.val) 7 := tile_of (off_wait_tile7 t) _
@[sl_canon] theorem canon_wait_tile7' (t : Fin grid0.N) (h0 : cond0 (grid0.coords t)) : (scr.slice (Rect.unit (s := S2x64x8x1024) (k0_off24 (grid0.coords t)) ![1, 64, 1, 1024] (k0_off24_inb (grid0.coords t) h0)) (fun _ => rfl)).squeeze S64x1024 squeezes_S1x64x1x1024_S64x1024 = tile (Ring.sl 2 t.val) 7 := canon_wait_tile7 t h0
theorem off_prev_cell7 : ∀ t : Fin grid0.N, k0_off71 (grid0.coords t) = ![(Ring.sl 2 (t.val + 1)).val, 7] := by decide +kernel
@[sl_canon] theorem canon_prev_cell7 (t : Fin grid0.N) (h1 : cond1 (grid0.coords t)) : (cc0_scratch1.slice (Rect.unit (s := S2x8) (k0_off71 (grid0.coords t)) S1x1.size (k0_off71_inb (grid0.coords t) h1))).squeeze S_ squeezes_S1x1_S_ = cell (Ring.sl 2 (t.val + 1)) 7 := cell_of (off_prev_cell7 t) _
@[sl_canon] theorem canon_prev_cell7' (t : Fin grid0.N) (h1 : cond1 (grid0.coords t)) : (cc0_scratch1.slice (Rect.unit (s := S2x8) (k0_off71 (grid0.coords t)) ![1, 1] (k0_off71_inb (grid0.coords t) h1))).squeeze S_ squeezes_S1x1_S_ = cell (Ring.sl 2 (t.val + 1)) 7 := canon_prev_cell7 t h1
theorem off_prev_tile7 : ∀ t : Fin grid0.N, k0_off73 (grid0.coords t) = ![(Ring.sl 2 (t.val + 1)).val, 0, 7, 0] := by decide +kernel
@[sl_canon] theorem canon_prev_tile7 (t : Fin grid0.N) (h1 : cond1 (grid0.coords t)) : (scr.slice (Rect.unit (s := S2x64x8x1024) (k0_off73 (grid0.coords t)) S1x64x1x1024.size (k0_off73_inb (grid0.coords t) h1)) (fun _ => rfl)).squeeze S64x1024 squeezes_S1x64x1x1024_S64x1024 = tile (Ring.sl 2 (t.val + 1)) 7 := tile_of (off_prev_tile7 t) _
@[sl_canon] theorem canon_prev_tile7' (t : Fin grid0.N) (h1 : cond1 (grid0.coords t)) : (scr.slice (Rect.unit (s := S2x64x8x1024) (k0_off73 (grid0.coords t)) ![1, 64, 1, 1024] (k0_off73_inb (grid0.coords t) h1)) (fun _ => rfl)).squeeze S64x1024 squeezes_S1x64x1x1024_S64x1024 = tile (Ring.sl 2 (t.val + 1)) 7 := canon_prev_tile7 t h1
theorem off_last_cell7 : ∀ t : Fin grid0.N, k0_off95 (grid0.coords t) = ![(Ring.sl 2 t.val).val, 7] := by decide +kernel
@[sl_canon] theorem canon_last_cell7 (t : Fin grid0.N) (h1 : cond1 (grid0.coords t)) : (cc0_scratch1.slice (Rect.unit (s := S2x8) (k0_off95 (grid0.coords t)) S1x1.size (k0_off95_inb (grid0.coords t) h1))).squeeze S_ squeezes_S1x1_S_ = cell (Ring.sl 2 t.val) 7 := cell_of (off_last_cell7 t) _
@[sl_canon] theorem canon_last_cell7' (t : Fin grid0.N) (h1 : cond1 (grid0.coords t)) : (cc0_scratch1.slice (Rect.unit (s := S2x8) (k0_off95 (grid0.coords t)) ![1, 1] (k0_off95_inb (grid0.coords t) h1))).squeeze S_ squeezes_S1x1_S_ = cell (Ring.sl 2 t.val) 7 := canon_last_cell7 t h1
theorem off_last_tile7 : ∀ t : Fin grid0.N, k0_off97 (grid0.coords t) = ![(Ring.sl 2 t.val).val, 0, 7, 0] := by decide +kernel
@[sl_canon] theorem canon_last_tile7 (t : Fin grid0.N) (h1 : cond1 (grid0.coords t)) : (scr.slice (Rect.unit (s := S2x64x8x1024) (k0_off97 (grid0.coords t)) S1x64x1x1024.size (k0_off97_inb (grid0.coords t) h1)) (fun _ => rfl)).squeeze S64x1024 squeezes_S1x64x1x1024_S64x1024 = tile (Ring.sl 2 t.val) 7 := tile_of (off_last_tile7 t) _
@[sl_canon] theorem canon_last_tile7' (t : Fin grid0.N) (h1 : cond1 (grid0.coords t)) : (scr.slice (Rect.unit (s := S2x64x8x1024) (k0_off97 (grid0.coords t)) ![1, 64, 1, 1024] (k0_off97_inb (grid0.coords t) h1)) (fun _ => rfl)).squeeze S64x1024 squeezes_S1x64x1x1024_S64x1024 = tile (Ring.sl 2 t.val) 7 := canon_last_tile7 t h1
end Canon

end Cert.KernelIdeal.Tail

end
-- ==== Proof.Tail.Slot.lean ====
module

public import proofs.«01_k».proof.Proof.Tail.Ring
public import Idealize.ShloMosaic.Lib.ValueIdx
public import Idealize.ShloMosaic.Lib.VecWindow
public import Idealize.ShloMosaic.Lib.Pointwise
public import Idealize.ShloMosaic.Lib.Pipeline.Value

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Value
/-- What one grid step adds to the running activations: the gated mixers, projected. -/
def gateVal (x0 x1 x2 : Vec F S512x1024 .bf16) (x3 x4 : Vec F S1x8x1024 .f32) (x5 : Vec F S512x1024 .bf16) (x6 : Vec F S512x2048 .bf16)
    (x7 : Vec F S2x32x4096 .bf16) (x9 : Vec F S8x1024 .f32) (x15 : Vec F S1024x1024 .bf16) (x16 : Vec F S512x1024 .bf16) (x17 : Vec F S1024x1024 .bf16) :
    FVec F S64x8x1024 .f32 :=
  k0_pay7 (k0_pay1 x7 x16) (k0_pay2 x3 x4 x0 x1 x2) (k0_pay3 x5) (k0_pay4 x5) k0_pay5 x15
    (View.ld x6 (Rect.unit ![0, 0] S512x1024.size inb_S512x2048_S512x1024_0_0))
    (View.ld x6 (Rect.unit ![0, 1024] S512x1024.size inb_S512x2048_S512x1024_0_1024)) x9 x17

/-- The activations after the second residual, from those before (`v67`) and what the mixers add (`v74`). -/
def mlpVal (v67 v74 : FVec F S64x8x1024 .f32) (x10 x11 x12 : Vec F S8x1024 .f32) (x13 : Vec F S1x1024 .f32)
    (x18 : Vec F S1024x4096 .bf16) (x19 : Vec F S4096x1024 .bf16) : FVec F S512x1024 .f32 :=
  k0_pay11 (k0_pay8 v67 v74) (k0_pay9 v67 v74 x13 x11 x10)
    (k0_pay10 v67 v74 x13 x11 x10 (View.ld x18 (Rect.unit ![0, 0] S1024x1024.size inb_S1024x4096_S1024x1024_0_0))
      (View.ld x19 (Rect.unit ![0, 0] S1024x1024.size inb_S4096x1024_S1024x1024_0_0)))
    (View.ld x18 (Rect.unit ![0, 1024] S1024x1024.size inb_S1024x4096_S1024x1024_0_1024))
    (View.ld x19 (Rect.unit ![1024, 0] S1024x1024.size inb_S4096x1024_S1024x1024_1024_0))
    (View.ld x18 (Rect.unit ![0, 2048] S1024x1024.size inb_S1024x4096_S1024x1024_0_2048))
    (View.ld x19 (Rect.unit ![2048, 0] S1024x1024.size inb_S4096x1024_S1024x1024_2048_0))
    (View.ld x18 (Rect.unit ![0, 3072] S1024x1024.size inb_S1024x4096_S1024x1024_0_3072))
    (View.ld x19 (Rect.unit ![3072, 0] S1024x1024.size inb_S4096x1024_S1024x1024_3072_0)) x12

/-- What a grid step puts into its slot, from the twenty blocks it is given. -/
def slotVal (x0 : Vec F S512x1024 .bf16) (x1 : Vec F S512x1024 .bf16) (x2 : Vec F S512x1024 .bf16) (x3 : Vec F S1x8x1024 .f32) (x4 : Vec F S1x8x1024 .f32) (x5 : Vec F S512x1024 .bf16) (x6 : Vec F S512x2048 .bf16) (x7 : Vec F S2x32x4096 .bf16) (x8 : Vec F S512x1024 .f32) (x9 : Vec F S8x1024 .f32) (x10 : Vec F S8x1024 .f32) (x11 : Vec F S8x1024 .f32) (x12 : Vec F S8x1024 .f32) (x13 : Vec F S1x1024 .f32) (x14 : Vec F S1x1024 .f32) (x15 : Vec F S1024x1024 .bf16) (x16 : Vec F S512x1024 .bf16) (x17 : Vec F S1024x1024 .bf16) (x18 : Vec F S1024x4096 .bf16) (x19 : Vec F S4096x1024 .bf16) : FVec F S1x64x8x1024 .f32 :=
  have v67 := k0_pay6 x8
  have v74 := gateVal x0 x1 x2 x3 x4 x5 x6 x7 x9 x15 x16 x17
  k0_pay14 (mlpVal v67 v74 x10 x11 x12 x13 x18 x19) (k0_pay12 x14) (mulf (mlpVal v67 v74 x10 x11 x12 x13 x18 x19) (mlpVal v67 v74 x10 x11 x12 x13 x18 x19))
end Value

/-- The row and the lane of an index of a chunk's rows. -/
def rowOf (i : S64x1024.Idx) : Fin 64 := i 0
def laneOf (i : S64x1024.Idx) : Fin 1024 := i 1
/-- Row `r` of chunk `u`, among the rows of the result. -/
def atChunk (u : Fin 32) (r : Fin 64) : Fin 2048 := ⟨64 * u.val + r.val, by have := u.isLt; have := r.isLt; omega⟩

/-- An index of a slot from its row and lane, at batch row `m`; and of the scratch, and of the result. -/
def atRow (m : Fin 8) (i : S64x1024.Idx) : S1x64x8x1024.Idx := ValueIdx.ix4 (0 : Fin 1) (rowOf i) m (laneOf i)
def scrIx (g : Fin 2) (m : Fin 8) (i : S64x1024.Idx) : S2x64x8x1024.Idx := ValueIdx.ix4 g (rowOf i) m (laneOf i)
def resIx (u : Fin 32) (m : Fin 8) (i : S64x1024.Idx) : S8x2048x1024.Idx := ValueIdx.ix3 m (atChunk u (rowOf i)) (laneOf i)

/-- Where a tile's element lies in the scratch. -/
theorem tile_emb (g : Fin 2) (m : Fin 8) (i : S64x1024.Idx) : (tile g m).view.emb i = scrIx g m i := by
  have h : (Shape.reshapeEquiv squeezes_S1x64x1x1024_S64x1024.numel_eq i : S1x64x1x1024.Idx)
      = ValueIdx.ix4 (0 : Fin 1) (rowOf i) (0 : Fin 1) (laneOf i) := by
    refine Shape.reshapeEquiv_eq_of_vals _ _ _ _ _ (rowMajor_val4 (d := ![1, 64, 1, 1024]) _ _ _ _ rfl rfl rfl) (rowMajor_val2 (d := ![64, 1024]) _ _ rfl) ?_
    simp [ValueIdx.ix4, rowOf, laneOf]
  refine (congrArg (tileBox (g, m)).emb h).trans ?_
  funext a; refine Fin.ext ?_
  refine (show _ = (![g.val, 0, m.val, 0] : Fin 4 → Nat) a + 1 * ((ValueIdx.ix4 (0 : Fin 1) (rowOf i) (0 : Fin 1) (laneOf i) : S1x64x1x1024.Idx) a).val from rfl).trans ?_
  fin_cases a <;> simp [ValueIdx.ix4, scrIx]

/-- Where a piece's element lies in the result. -/
theorem piece_emb (u : Fin 32) (m : Fin 8) (i : S64x1024.Idx) : (piece u m).view.emb i = resIx u m i := by
  have h : (Shape.reshapeEquiv squeezes_S1x64x1024_S64x1024.numel_eq i : S1x64x1024.Idx)
      = ValueIdx.ix3 (0 : Fin 1) (rowOf i) (laneOf i) := by
    refine Shape.reshapeEquiv_eq_of_vals _ _ _ _ _ (rowMajor_val3 (d := ![1, 64, 1024]) _ _ _ rfl rfl) (rowMajor_val2 (d := ![64, 1024]) _ _ rfl) ?_
    simp [ValueIdx.ix3, rowOf, laneOf]
  refine (congrArg (pieceBox (u, m)).emb h).trans ?_
  funext a; refine Fin.ext ?_
  refine (show _ = (![m.val, 64 * u.val, 0] : Fin 3 → Nat) a + 1 * ((ValueIdx.ix3 (0 : Fin 1) (rowOf i) (laneOf i) : S1x64x1024.Idx) a).val from rfl).trans ?_
  fin_cases a <;> simp [ValueIdx.ix3, resIx, atChunk]

theorem tile_at (c : Dev nD) (g : Fin 2) (m : Fin 8) (f : ScrBuf (F := F) c) (i : S64x1024.Idx) :
    (tile g m).view.read (Elt F) f i = f (scrIx g m i) :=
  congrArg f (tile_emb g m i)
theorem piece_at (c : Dev nD) (u : Fin 32) (m : Fin 8) (f : ResBuf (F := F) c) (i : S64x1024.Idx) :
    (piece u m).view.read (Elt F) f i = f (resIx u m i) :=
  congrArg f (piece_emb u m i)

/-- What a tile reads after the step's one store over its whole slot. -/
theorem tile_read (c : Dev nD) (g : Fin 2) (m : Fin 8) (off : Fin 4 → Nat) (h : off = ![g.val, 0, 0, 0])
    (inb : ∀ a, off a + S1x64x8x1024.size a ≤ S2x64x8x1024.size a) (e : ScrBuf (F := F) c) (w : S1x64x8x1024.Idx → Elt F .f32) (i : S64x1024.Idx) :
    (tile g m).view.read (Elt F) (View.write (Elt F) (scr.access (Rect.unit off S1x64x8x1024.size inb)) e w Finset.univ) i = w (atRow m i) := by
  subst h
  refine (tile_at c g m _ i).trans ?_
  have : scrIx g m i
      = (scr.access (Rect.unit (![g.val, 0, 0, 0] : Fin 4 → Nat) S1x64x8x1024.size inb)).emb (atRow m i) := by
    show _ = (Rect.unit (s := S2x64x8x1024) ![g.val, 0, 0, 0] S1x64x8x1024.size inb).emb (atRow m i)
    funext a; refine Fin.ext ?_
    refine Eq.trans ?_ (show (![g.val, 0, 0, 0] : Fin 4 → Nat) a + 1 * (atRow m i a).val = _ from rfl)
    fin_cases a <;> simp [ValueIdx.ix4, scrIx, atRow]
  refine (congrArg _ this).trans ?_
  exact View.write_emb_of_mem (Val := Elt F) _ _ (Finset.mem_univ _)

variable (c : Dev nD)

/-- Chunk `u`'s rows of the result, at contents `G`, are what the slot contents `w` put there. -/
def Puts (G : ResBuf (F := F) c) (u : Fin 32) (w : S1x64x8x1024.Idx → Elt F .f32) : Prop :=
  ∀ (m : Fin 8) (i : S64x1024.Idx), (piece u m).view.read (Elt F) G i = w (atRow m i)

/-- What a view reads after one write over the whole of it; and where the contents then agree with others that read the same. -/
theorem read_writes_whole {sig : RefSig} {κ : Kind} {sp : Space} {s : Shape} {e : EltTy} {Val : EltTy → Type} (v : View sig κ sp s e)
    (f : v.ty.Contents Val) (w : s.Idx → Val e) : v.read Val (v.writes Val f [⟨Rect.whole s, w⟩]) = w := by
  funext i
  have hi : (v.slice (Rect.whole s)).emb i = v.emb i := by
    show v.emb ((Rect.whole s).emb i) = _; rw [Rect.emb_whole_apply]
  rw [View.read_apply, ← hi, View.writes_singleton]
  have := View.write_emb_of_mem (v := v.slice (Rect.whole s)) (Val := Val) f w (x := i) (Finset.mem_univ _)
  refine (congrArg _ this).trans ?_
  simp
theorem writes_whole_congr {sig : RefSig} {κ : Kind} {sp : Space} {s : Shape} {e : EltTy} {Val : EltTy → Type} (v : View sig κ sp s e)
    (f G : v.ty.Contents Val) (w : s.Idx → Val e) (h : ∀ i, v.read Val G i = w i) (x : v.ty.Idx) (hx : x ∈ v.set) :
    v.writes Val f [⟨Rect.whole s, w⟩] x = G x := by
  obtain ⟨i, rfl⟩ := View.exists_emb_of_mem_set v hx
  have h1 := (congrFun (read_writes_whole v f w) i).trans (h i).symm
  rw [View.read_apply, View.read_apply] at h1
  exact cast_inj _ |>.1 h1

/-- A piece written whole with the values `G` has there is held at `G`. -/
theorem piece_written (G : ResBuf (F := F) c) (u : Fin 32) (m : Fin 8) (p : ResBuf (F := F) c) (w : S64x1024.Idx → Elt F .f32)
    (h : ∀ i, (piece u m).view.read (Elt F) G i = w i) :
    pieceP c u m ((piece u m).view.writes (Elt F) p [⟨Rect.whole S64x1024, w⟩]) = pieceP c u m G :=
  pointsTo_congr fun x hx => writes_whole_congr (piece u m).view p G w h x hx

/-- The copy out of a slot's row, in flight, once the slot holds what chunk `u`'s rows are to be. -/
theorem flight_put (G : ResBuf (F := F) c) (g : Fin 2) (m : Fin 8) (u : Fin 32) (p : ResBuf (F := F) c) (e : ScrBuf (F := F) c) (a : ℕ)
    (w : S64x1024.Idx → Elt F .f32) (h : ∀ i, (piece u m).view.read (Elt F) G i = w i) :
    (Transfers.Flight countersEmb (c : Thread nD τ) (cellR g m) default a
      iprop(pieceP (F := F) c u m ((piece u m).view.writes (Elt F) p [⟨Rect.whole S64x1024, w⟩]) ∗ tileP c g m e) : sProp 𝕄)
    = Transfers.Flight countersEmb (c : Thread nD τ) (cellR g m) default a iprop(pieceP (F := F) c u m G ∗ tileP c g m e) := by
  rw [piece_written c G u m p w h]

theorem flight_to (G : ResBuf (F := F) c) (g : Fin 2) (m : Fin 8) (u : Fin 32) (p : ResBuf (F := F) c) (e : ScrBuf (F := F) c) (a : ℕ)
    (w : S64x1024.Idx → Elt F .f32) :
    iprop((Transfers.Flight countersEmb (c : Thread nD τ) (cellR g m) default a
        iprop(pieceP (F := F) c u m ((piece u m).view.writes (Elt F) p [⟨Rect.whole S64x1024, w⟩]) ∗ tileP c g m e))
      ∗ ⌜∀ i, (piece u m).view.read (Elt F) G i = w i⌝)
    ⊢ (Transfers.Flight countersEmb (c : Thread nD τ) (cellR g m) default a iprop(pieceP (F := F) c u m G ∗ tileP c g m e) : sProp 𝕄) := by
  iintro ⟨H, %h⟩
  have := Entails.of_eq (flight_put c G g m u p e a w h)
  iapply this
  iexact H

theorem piece_to (G : ResBuf (F := F) c) (u : Fin 32) (m : Fin 8) (p : ResBuf (F := F) c) (w : S64x1024.Idx → Elt F .f32) :
    iprop(pieceP (F := F) c u m ((piece u m).view.writes (Elt F) p [⟨Rect.whole S64x1024, w⟩])
      ∗ ⌜∀ i, (piece u m).view.read (Elt F) G i = w i⌝) ⊢ (pieceP (F := F) c u m G : sProp 𝕄) := by
  iintro ⟨H, %h⟩
  have := Entails.of_eq (piece_written c G u m p w h)
  iapply this
  iexact H

theorem zero2 : (![0, 0] : Fin 2 → Nat) = fun _ => 0 := by decide
theorem zero3 : (![0, 0, 0] : Fin 3 → Nat) = fun _ => 0 := by decide
/-- A load of the whole of a block is the block. -/
theorem full_S512x1024 {e : EltTy} (x : Vec F S512x1024 e) (inb : ∀ a, (![0, 0] : Fin 2 → Nat) a + (![512, 1024] : Fin 2 → Nat) a ≤ S512x1024.size a) :
    View.ld x (Rect.unit (s := S512x1024) ![0, 0] ![512, 1024] inb) = x := View.ld_unit_zero zero2 inb x
theorem full_S8x1024 {e : EltTy} (x : Vec F S8x1024 e) (inb : ∀ a, (![0, 0] : Fin 2 → Nat) a + (![8, 1024] : Fin 2 → Nat) a ≤ S8x1024.size a) :
    View.ld x (Rect.unit (s := S8x1024) ![0, 0] ![8, 1024] inb) = x := View.ld_unit_zero zero2 inb x
theorem full_S1x1024 {e : EltTy} (x : Vec F S1x1024 e) (inb : ∀ a, (![0, 0] : Fin 2 → Nat) a + (![1, 1024] : Fin 2 → Nat) a ≤ S1x1024.size a) :
    View.ld x (Rect.unit (s := S1x1024) ![0, 0] ![1, 1024] inb) = x := View.ld_unit_zero zero2 inb x
theorem full_S1024x1024 {e : EltTy} (x : Vec F S1024x1024 e) (inb : ∀ a, (![0, 0] : Fin 2 → Nat) a + (![1024, 1024] : Fin 2 → Nat) a ≤ S1024x1024.size a) :
    View.ld x (Rect.unit (s := S1024x1024) ![0, 0] ![1024, 1024] inb) = x := View.ld_unit_zero zero2 inb x
theorem full_S1x8x1024 {e : EltTy} (x : Vec F S1x8x1024 e) (inb : ∀ a, (![0, 0, 0] : Fin 3 → Nat) a + (![1, 8, 1024] : Fin 3 → Nat) a ≤ S1x8x1024.size a) :
    View.ld x (Rect.unit (s := S1x8x1024) ![0, 0, 0] ![1, 8, 1024] inb) = x := View.ld_unit_zero zero3 inb x
theorem full_S2x32x4096 {e : EltTy} (x : Vec F S2x32x4096 e) (inb : ∀ a, (![0, 0, 0] : Fin 3 → Nat) a + (![2, 32, 4096] : Fin 3 → Nat) a ≤ S2x32x4096.size a) :
    View.ld x (Rect.unit (s := S2x32x4096) ![0, 0, 0] ![2, 32, 4096] inb) = x := View.ld_unit_zero zero3 inb x

/-- Chunk `u`'s rows of the result are what a step's slot put there, whatever the slot held before. -/
theorem puts_slot {G : ResBuf (F := F) c} {u : Fin 32} {w : S1x64x8x1024.Idx → Elt F .f32} (hG : Puts c G u w) (g : Fin 2) (m : Fin 8)
    (off : Fin 4 → Nat) (h : off = ![g.val, 0, 0, 0])
    (inb : ∀ a, off a + S1x64x8x1024.size a ≤ S2x64x8x1024.size a) (e : ScrBuf (F := F) c) (i : S64x1024.Idx) :
    (piece u m).view.read (Elt F) G i
      = (tile g m).view.read (Elt F) (View.write (Elt F) (scr.access (Rect.unit off S1x64x8x1024.size inb)) e w Finset.univ) i :=
  (hG m i).trans (tile_read c g m off h inb e w i).symm
end Cert.KernelIdeal.Tail
-- ==== Proof.Tail.RunSteady.lean ====
module

public import proofs.«01_k».proof.Proof.Tail.Slot

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem run_steady (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S512x1024 .bf16) (harg6 : arg6.IsWhole) (arg7 : Memref sig .tc .vmem S512x2048 .bf16) (harg7 : arg7.IsWhole) (arg8 : Memref sig .tc .vmem S2x32x4096 .bf16) (harg8 : arg8.IsWhole) (arg9 : Memref sig .tc .vmem S512x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x4096 .bf16) (harg19 : arg19.IsWhole) (arg20 : Memref sig .tc .vmem S4096x1024 .bf16) (harg20 : arg20.IsWhole)
    (x0 : Vec F S512x1024 .bf16) (x1 : Vec F S512x1024 .bf16) (x2 : Vec F S512x1024 .bf16) (x3 : Vec F S1x8x1024 .f32) (x4 : Vec F S1x8x1024 .f32) (x5 : Vec F S512x1024 .bf16) (x6 : Vec F S512x2048 .bf16) (x7 : Vec F S2x32x4096 .bf16) (x8 : Vec F S512x1024 .f32) (x9 : Vec F S8x1024 .f32) (x10 : Vec F S8x1024 .f32) (x11 : Vec F S8x1024 .f32) (x12 : Vec F S8x1024 .f32) (x13 : Vec F S1x1024 .f32) (x14 : Vec F S1x1024 .f32) (x15 : Vec F S1024x1024 .bf16) (x16 : Vec F S512x1024 .bf16) (x17 : Vec F S1024x1024 .bf16) (x18 : Vec F S1024x4096 .bf16) (x19 : Vec F S4096x1024 .bf16) (hc0 : cond0 (grid0.coords t)) (hc1 : ¬cond1 (grid0.coords t)) (G : ResBuf (F := F) c)
    (hG : Puts c G (Ring.bk 32 t.val) (slotVal x0 x1 x2 x3 x4 x5 x6 x7 x8 x9 x10 x11 x12 x13 x14 x15 x16 x17 x18 x19)) :
    ∀ (W : Waits sig Unit) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ aheadP (F := F) c (Ring.bk 32 t.val) ∗ inflP c G (Ring.sl 2 t.val) (Ring.bk 32 (t.val - 2)) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ behindP c G (Ring.bk 32 (t.val - 2)) ∗ inflP c G (Ring.sl 2 t.val) (Ring.bk 32 t.val) ∗ (∃ W', owes (c : Thread nD τ) 0 W')) -∗ K ⟨⟩))
      ⊢ wp frame (wpE (defs₀ (F := F)) Variants.none c none) Set.univ (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Memref.whole main_v3) (Memref.isWhole_whole _) scr (Memref.isWhole_whole _) cc0_scratch1) K := by
  intro W K
  haveI : Fact (cond0 (grid0.coords t)) := ⟨hc0⟩
  haveI : Fact (¬cond1 (grid0.coords t)) := ⟨hc1⟩
  simp only [cc0_tail_eq_skeleton]; unfold cc0_tail_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨⟨%p0, Hp0⟩, ⟨%p1, Hp1⟩, ⟨%p2, Hp2⟩, ⟨%p3, Hp3⟩, ⟨%p4, Hp4⟩, ⟨%p5, Hp5⟩, ⟨%p6, Hp6⟩, ⟨%p7, Hp7⟩⟩, ⟨%e0, HF0, HF1, HF2, HF3, HF4, HF5, HF6, HF7⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  sl_exec (disch := first | sl_exact hc0 | sl_exact hc1)
  ihave HS := (Entails.of_eq (slot_eq_tiles (F := F) c (Ring.sl 2 t.val) e0).symm) $$ [HF0_src HF1_src HF2_src HF3_src HF4_src HF5_src HF6_src HF7_src]
  · isplitl [HF0_src]
    · iexact HF0_src
    isplitl [HF1_src]
    · iexact HF1_src
    isplitl [HF2_src]
    · iexact HF2_src
    isplitl [HF3_src]
    · iexact HF3_src
    isplitl [HF4_src]
    · iexact HF4_src
    isplitl [HF5_src]
    · iexact HF5_src
    isplitl [HF6_src]
    · iexact HF6_src
    iexact HF7_src
  sl_exec (disch := first | sl_exact hc0 | sl_exact hc1)
  ihave HT := (Entails.of_eq (slot_eq_tiles (F := F) c (Ring.sl 2 t.val) _)) $$ HS
  icases HT with ⟨Ht0, Ht1, Ht2, Ht3, Ht4, Ht5, Ht6, Ht7⟩
  sl_exec (disch := first | sl_exact hc0 | sl_exact hc1)
  sl_step
  have hput : ∀ (m : Fin 8) (i : S64x1024.Idx), (piece (Ring.bk 32 t.val) m).view.read (Elt F) G i
      = (tile (Ring.sl 2 t.val) m).view.read (Elt F) (run_steady.sl.HS_w1 c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 e0) i := by
    intro m i
    refine (puts_slot c hG (Ring.sl 2 t.val) m _ (off_store t) (k0_off25_inb _) e0 i).trans ?_
    unfold run_steady.sl.HS_w1
    refine congrArg (fun w => (tile (Ring.sl 2 t.val) m).view.read (Elt F) (View.write (Elt F) (scr.access (Rect.unit (k0_off25 (grid0.coords t)) S1x64x8x1024.size (k0_off25_inb _))) e0 w Finset.univ) i) ?_
    try unfold run_steady.sl.r_12
    try unfold run_steady.sl.r_11
    try unfold run_steady.sl.r_10
    try unfold run_steady.sl.r_9
    try unfold run_steady.sl.r_8
    try unfold run_steady.sl.r_7
    try unfold run_steady.sl.r_6
    try unfold run_steady.sl.r_5
    try unfold run_steady.sl.r_4
    try unfold run_steady.sl.r_3
    try unfold run_steady.sl.r_2
    try unfold run_steady.sl.r_1
    try unfold run_steady.sl.r_0
    try unfold run_steady.sl.r
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, full_S512x1024, full_S8x1024, full_S1x1024, full_S1024x1024, full_S1x8x1024, full_S2x32x4096]
    rfl
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; isplitr
    · ipureintro; exact harg17.read_unread _
    iexact H16
  isplitl [H17]
  · iexists _; isplitr
    · ipureintro; exact harg18.read_unread _
    iexact H17
  isplitl [H18]
  · iexists _; isplitr
    · ipureintro; exact harg19.read_unread _
    iexact H18
  isplitl [H19]
  · iexists _; isplitr
    · ipureintro; exact harg20.read_unread _
    iexact H19
  isplitl [HF0_dst HF1_dst HF2_dst HF3_dst HF4_dst HF5_dst HF6_dst HF7_dst]
  · isplitl [HF0_dst]
    · iexact HF0_dst
    isplitl [HF1_dst]
    · iexact HF1_dst
    isplitl [HF2_dst]
    · iexact HF2_dst
    isplitl [HF3_dst]
    · iexact HF3_dst
    isplitl [HF4_dst]
    · iexact HF4_dst
    isplitl [HF5_dst]
    · iexact HF5_dst
    isplitl [HF6_dst]
    · iexact HF6_dst
    iexact HF7_dst
  isplitl [HF0 HF1 HF2 HF3 HF4 HF5 HF6 HF7]
  · iexists _
    isplitl [HF0]
    · iapply (flight_to (F := F) c G (Ring.sl 2 t.val) 0 (Ring.bk 32 t.val) p0 _ 8192 _)
      isplitl [HF0]
      · iexact HF0
      ipureintro
      intro i
      exact hput 0 i
    isplitl [HF1]
    · iapply (flight_to (F := F) c G (Ring.sl 2 t.val) 1 (Ring.bk 32 t.val) p1 _ 8192 _)
      isplitl [HF1]
      · iexact HF1
      ipureintro
      intro i
      exact hput 1 i
    isplitl [HF2]
    · iapply (flight_to (F := F) c G (Ring.sl 2 t.val) 2 (Ring.bk 32 t.val) p2 _ 8192 _)
      isplitl [HF2]
      · iexact HF2
      ipureintro
      intro i
      exact hput 2 i
    isplitl [HF3]
    · iapply (flight_to (F := F) c G (Ring.sl 2 t.val) 3 (Ring.bk 32 t.val) p3 _ 8192 _)
      isplitl [HF3]
      · iexact HF3
      ipureintro
      intro i
      exact hput 3 i
    isplitl [HF4]
    · iapply (flight_to (F := F) c G (Ring.sl 2 t.val) 4 (Ring.bk 32 t.val) p4 _ 8192 _)
      isplitl [HF4]
      · iexact HF4
      ipureintro
      intro i
      exact hput 4 i
    isplitl [HF5]
    · iapply (flight_to (F := F) c G (Ring.sl 2 t.val) 5 (Ring.bk 32 t.val) p5 _ 8192 _)
      isplitl [HF5]
      · iexact HF5
      ipureintro
      intro i
      exact hput 5 i
    isplitl [HF6]
    · iapply (flight_to (F := F) c G (Ring.sl 2 t.val) 6 (Ring.bk 32 t.val) p6 _ 8192 _)
      isplitl [HF6]
      · iexact HF6
      ipureintro
      intro i
      exact hput 6 i
    iapply (flight_to (F := F) c G (Ring.sl 2 t.val) 7 (Ring.bk 32 t.val) p7 _ 8192 _)
    isplitl [HF7]
    · iexact HF7
    ipureintro
    intro i
    exact hput 7 i
  iexists _; iexact HW
end Cert.KernelIdeal.Tail
-- ==== Proof.Tail.RunBoot.lean ====
module

public import proofs.«01_k».proof.Proof.Tail.Slot

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
theorem run_boot (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S512x1024 .bf16) (harg6 : arg6.IsWhole) (arg7 : Memref sig .tc .vmem S512x2048 .bf16) (harg7 : arg7.IsWhole) (arg8 : Memref sig .tc .vmem S2x32x4096 .bf16) (harg8 : arg8.IsWhole) (arg9 : Memref sig .tc .vmem S512x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x4096 .bf16) (harg19 : arg19.IsWhole) (arg20 : Memref sig .tc .vmem S4096x1024 .bf16) (harg20 : arg20.IsWhole)
    (x0 : Vec F S512x1024 .bf16) (x1 : Vec F S512x1024 .bf16) (x2 : Vec F S512x1024 .bf16) (x3 : Vec F S1x8x1024 .f32) (x4 : Vec F S1x8x1024 .f32) (x5 : Vec F S512x1024 .bf16) (x6 : Vec F S512x2048 .bf16) (x7 : Vec F S2x32x4096 .bf16) (x8 : Vec F S512x1024 .f32) (x9 : Vec F S8x1024 .f32) (x10 : Vec F S8x1024 .f32) (x11 : Vec F S8x1024 .f32) (x12 : Vec F S8x1024 .f32) (x13 : Vec F S1x1024 .f32) (x14 : Vec F S1x1024 .f32) (x15 : Vec F S1024x1024 .bf16) (x16 : Vec F S512x1024 .bf16) (x17 : Vec F S1024x1024 .bf16) (x18 : Vec F S1024x4096 .bf16) (x19 : Vec F S4096x1024 .bf16) (hc0 : ¬cond0 (grid0.coords t)) (hc1 : ¬cond1 (grid0.coords t)) (G : ResBuf (F := F) c)
    (hG : Puts c G (Ring.bk 32 t.val) (slotVal x0 x1 x2 x3 x4 x5 x6 x7 x8 x9 x10 x11 x12 x13 x14 x15 x16 x17 x18 x19)) :
    ∀ (W : Waits sig Unit) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ aheadP (F := F) c (Ring.bk 32 t.val) ∗ freeP (F := F) c (Ring.sl 2 t.val) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ inflP c G (Ring.sl 2 t.val) (Ring.bk 32 t.val) ∗ (∃ W', owes (c : Thread nD τ) 0 W')) -∗ K ⟨⟩))
      ⊢ wp frame (wpE (defs₀ (F := F)) Variants.none c none) Set.univ (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Memref.whole main_v3) (Memref.isWhole_whole _) scr (Memref.isWhole_whole _) cc0_scratch1) K := by
  intro W K
  haveI : Fact (¬cond0 (grid0.coords t)) := ⟨hc0⟩
  haveI : Fact (¬cond1 (grid0.coords t)) := ⟨hc1⟩
  simp only [cc0_tail_eq_skeleton]; unfold cc0_tail_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨⟨%p0, Hp0⟩, ⟨%p1, Hp1⟩, ⟨%p2, Hp2⟩, ⟨%p3, Hp3⟩, ⟨%p4, Hp4⟩, ⟨%p5, Hp5⟩, ⟨%p6, Hp6⟩, ⟨%p7, Hp7⟩⟩, ⟨⟨HF0, HF1, HF2, HF3, HF4, HF5, HF6, HF7⟩, ⟨%e0, HS⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  sl_exec (disch := first | sl_exact hc0 | sl_exact hc1)
  ihave HT := (Entails.of_eq (slot_eq_tiles (F := F) c (Ring.sl 2 t.val) _)) $$ HS
  icases HT with ⟨Ht0, Ht1, Ht2, Ht3, Ht4, Ht5, Ht6, Ht7⟩
  sl_exec (disch := first | sl_exact hc0 | sl_exact hc1)
  sl_step
  have hput : ∀ (m : Fin 8) (i : S64x1024.Idx), (piece (Ring.bk 32 t.val) m).view.read (Elt F) G i
      = (tile (Ring.sl 2 t.val) m).view.read (Elt F) (run_boot.sl.HS_w1 c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 e0) i := by
    intro m i
    refine (puts_slot c hG (Ring.sl 2 t.val) m _ (off_store t) (k0_off25_inb _) e0 i).trans ?_
    unfold run_boot.sl.HS_w1
    refine congrArg (fun w => (tile (Ring.sl 2 t.val) m).view.read (Elt F) (View.write (Elt F) (scr.access (Rect.unit (k0_off25 (grid0.coords t)) S1x64x8x1024.size (k0_off25_inb _))) e0 w Finset.univ) i) ?_
    try unfold run_boot.sl.r_12
    try unfold run_boot.sl.r_11
    try unfold run_boot.sl.r_10
    try unfold run_boot.sl.r_9
    try unfold run_boot.sl.r_8
    try unfold run_boot.sl.r_7
    try unfold run_boot.sl.r_6
    try unfold run_boot.sl.r_5
    try unfold run_boot.sl.r_4
    try unfold run_boot.sl.r_3
    try unfold run_boot.sl.r_2
    try unfold run_boot.sl.r_1
    try unfold run_boot.sl.r_0
    try unfold run_boot.sl.r
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, full_S512x1024, full_S8x1024, full_S1x1024, full_S1024x1024, full_S1x8x1024, full_S2x32x4096]
    rfl
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; isplitr
    · ipureintro; exact harg17.read_unread _
    iexact H16
  isplitl [H17]
  · iexists _; isplitr
    · ipureintro; exact harg18.read_unread _
    iexact H17
  isplitl [H18]
  · iexists _; isplitr
    · ipureintro; exact harg19.read_unread _
    iexact H18
  isplitl [H19]
  · iexists _; isplitr
    · ipureintro; exact harg20.read_unread _
    iexact H19
  isplitl [HF0 HF1 HF2 HF3 HF4 HF5 HF6 HF7]
  · iexists _
    isplitl [HF0]
    · iapply (flight_to (F := F) c G (Ring.sl 2 t.val) 0 (Ring.bk 32 t.val) p0 _ 8192 _)
      isplitl [HF0]
      · iexact HF0
      ipureintro
      intro i
      exact hput 0 i
    isplitl [HF1]
    · iapply (flight_to (F := F) c G (Ring.sl 2 t.val) 1 (Ring.bk 32 t.val) p1 _ 8192 _)
      isplitl [HF1]
      · iexact HF1
      ipureintro
      intro i
      exact hput 1 i
    isplitl [HF2]
    · iapply (flight_to (F := F) c G (Ring.sl 2 t.val) 2 (Ring.bk 32 t.val) p2 _ 8192 _)
      isplitl [HF2]
      · iexact HF2
      ipureintro
      intro i
      exact hput 2 i
    isplitl [HF3]
    · iapply (flight_to (F := F) c G (Ring.sl 2 t.val) 3 (Ring.bk 32 t.val) p3 _ 8192 _)
      isplitl [HF3]
      · iexact HF3
      ipureintro
      intro i
      exact hput 3 i
    isplitl [HF4]
    · iapply (flight_to (F := F) c G (Ring.sl 2 t.val) 4 (Ring.bk 32 t.val) p4 _ 8192 _)
      isplitl [HF4]
      · iexact HF4
      ipureintro
      intro i
      exact hput 4 i
    isplitl [HF5]
    · iapply (flight_to (F := F) c G (Ring.sl 2 t.val) 5 (Ring.bk 32 t.val) p5 _ 8192 _)
      isplitl [HF5]
      · iexact HF5
      ipureintro
      intro i
      exact hput 5 i
    isplitl [HF6]
    · iapply (flight_to (F := F) c G (Ring.sl 2 t.val) 6 (Ring.bk 32 t.val) p6 _ 8192 _)
      isplitl [HF6]
      · iexact HF6
      ipureintro
      intro i
      exact hput 6 i
    iapply (flight_to (F := F) c G (Ring.sl 2 t.val) 7 (Ring.bk 32 t.val) p7 _ 8192 _)
    isplitl [HF7]
    · iexact HF7
    ipureintro
    intro i
    exact hput 7 i
  iexists _; iexact HW
end Cert.KernelIdeal.Tail
-- ==== Proof.Tail.RunLast.lean ====
module

public import proofs.«01_k».proof.Proof.Tail.Slot

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
theorem run_last (c : Dev nD) (t : Fin grid0.N) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S512x1024 .bf16) (harg6 : arg6.IsWhole) (arg7 : Memref sig .tc .vmem S512x2048 .bf16) (harg7 : arg7.IsWhole) (arg8 : Memref sig .tc .vmem S2x32x4096 .bf16) (harg8 : arg8.IsWhole) (arg9 : Memref sig .tc .vmem S512x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x4096 .bf16) (harg19 : arg19.IsWhole) (arg20 : Memref sig .tc .vmem S4096x1024 .bf16) (harg20 : arg20.IsWhole)
    (x0 : Vec F S512x1024 .bf16) (x1 : Vec F S512x1024 .bf16) (x2 : Vec F S512x1024 .bf16) (x3 : Vec F S1x8x1024 .f32) (x4 : Vec F S1x8x1024 .f32) (x5 : Vec F S512x1024 .bf16) (x6 : Vec F S512x2048 .bf16) (x7 : Vec F S2x32x4096 .bf16) (x8 : Vec F S512x1024 .f32) (x9 : Vec F S8x1024 .f32) (x10 : Vec F S8x1024 .f32) (x11 : Vec F S8x1024 .f32) (x12 : Vec F S8x1024 .f32) (x13 : Vec F S1x1024 .f32) (x14 : Vec F S1x1024 .f32) (x15 : Vec F S1024x1024 .bf16) (x16 : Vec F S512x1024 .bf16) (x17 : Vec F S1024x1024 .bf16) (x18 : Vec F S1024x4096 .bf16) (x19 : Vec F S4096x1024 .bf16) (hc0 : cond0 (grid0.coords t)) (hc1 : cond1 (grid0.coords t)) (G : ResBuf (F := F) c)
    (hG : Puts c G (Ring.bk 32 t.val) (slotVal x0 x1 x2 x3 x4 x5 x6 x7 x8 x9 x10 x11 x12 x13 x14 x15 x16 x17 x18 x19)) :
    ∀ (W : Waits sig Unit) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ aheadP (F := F) c (Ring.bk 32 t.val) ∗ inflP c G (Ring.sl 2 t.val) (Ring.bk 32 (t.val - 2)) ∗ inflP c G (Ring.sl 2 (t.val + 1)) (Ring.bk 32 (t.val - 1)) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ behindP c G (Ring.bk 32 t.val) ∗ behindP c G (Ring.bk 32 (t.val - 2)) ∗ behindP c G (Ring.bk 32 (t.val - 1))
            ∗ freeP (F := F) c (Ring.sl 2 t.val) ∗ freeP (F := F) c (Ring.sl 2 (t.val + 1)) ∗ (∃ W', owes (c : Thread nD τ) 0 W')) -∗ K ⟨⟩))
      ⊢ wp frame (wpE (defs₀ (F := F)) Variants.none c none) Set.univ (cc0_tail (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (Memref.whole main_v3) (Memref.isWhole_whole _) scr (Memref.isWhole_whole _) cc0_scratch1) K := by
  intro W K
  haveI : Fact (cond0 (grid0.coords t)) := ⟨hc0⟩
  haveI : Fact (cond1 (grid0.coords t)) := ⟨hc1⟩
  simp only [cc0_tail_eq_skeleton]; unfold cc0_tail_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨⟨%p0, Hp0⟩, ⟨%p1, Hp1⟩, ⟨%p2, Hp2⟩, ⟨%p3, Hp3⟩, ⟨%p4, Hp4⟩, ⟨%p5, Hp5⟩, ⟨%p6, Hp6⟩, ⟨%p7, Hp7⟩⟩, ⟨%e0, HF0, HF1, HF2, HF3, HF4, HF5, HF6, HF7⟩, ⟨%e1, HL0, HL1, HL2, HL3, HL4, HL5, HL6, HL7⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  sl_exec (disch := first | sl_exact hc0 | sl_exact hc1)
  ihave HS := (Entails.of_eq (slot_eq_tiles (F := F) c (Ring.sl 2 t.val) e0).symm) $$ [HF0_src HF1_src HF2_src HF3_src HF4_src HF5_src HF6_src HF7_src]
  · isplitl [HF0_src]
    · iexact HF0_src
    isplitl [HF1_src]
    · iexact HF1_src
    isplitl [HF2_src]
    · iexact HF2_src
    isplitl [HF3_src]
    · iexact HF3_src
    isplitl [HF4_src]
    · iexact HF4_src
    isplitl [HF5_src]
    · iexact HF5_src
    isplitl [HF6_src]
    · iexact HF6_src
    iexact HF7_src
  sl_exec (disch := first | sl_exact hc0 | sl_exact hc1)
  ihave HT := (Entails.of_eq (slot_eq_tiles (F := F) c (Ring.sl 2 t.val) _)) $$ HS
  icases HT with ⟨Ht0, Ht1, Ht2, Ht3, Ht4, Ht5, Ht6, Ht7⟩
  sl_exec (disch := first | sl_exact hc0 | sl_exact hc1)
  sl_step
  have hput : ∀ (m : Fin 8) (i : S64x1024.Idx), (piece (Ring.bk 32 t.val) m).view.read (Elt F) G i
      = (tile (Ring.sl 2 t.val) m).view.read (Elt F) (run_last.sl.HS_w1 c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 e0) i := by
    intro m i
    refine (puts_slot c hG (Ring.sl 2 t.val) m _ (off_store t) (k0_off25_inb _) e0 i).trans ?_
    unfold run_last.sl.HS_w1
    refine congrArg (fun w => (tile (Ring.sl 2 t.val) m).view.read (Elt F) (View.write (Elt F) (scr.access (Rect.unit (k0_off25 (grid0.coords t)) S1x64x8x1024.size (k0_off25_inb _))) e0 w Finset.univ) i) ?_
    try unfold run_last.sl.r_12
    try unfold run_last.sl.r_11
    try unfold run_last.sl.r_10
    try unfold run_last.sl.r_9
    try unfold run_last.sl.r_8
    try unfold run_last.sl.r_7
    try unfold run_last.sl.r_6
    try unfold run_last.sl.r_5
    try unfold run_last.sl.r_4
    try unfold run_last.sl.r_3
    try unfold run_last.sl.r_2
    try unfold run_last.sl.r_1
    try unfold run_last.sl.r_0
    try unfold run_last.sl.r
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, full_S512x1024, full_S8x1024, full_S1x1024, full_S1024x1024, full_S1x8x1024, full_S2x32x4096]
    rfl
  iapply Hk
  isplitl [H0]
  · iexists _; isplitr
    · ipureintro; exact harg1.read_unread _
    iexact H0
  isplitl [H1]
  · iexists _; isplitr
    · ipureintro; exact harg2.read_unread _
    iexact H1
  isplitl [H2]
  · iexists _; isplitr
    · ipureintro; exact harg3.read_unread _
    iexact H2
  isplitl [H3]
  · iexists _; isplitr
    · ipureintro; exact harg4.read_unread _
    iexact H3
  isplitl [H4]
  · iexists _; isplitr
    · ipureintro; exact harg5.read_unread _
    iexact H4
  isplitl [H5]
  · iexists _; isplitr
    · ipureintro; exact harg6.read_unread _
    iexact H5
  isplitl [H6]
  · iexists _; isplitr
    · ipureintro; exact harg7.read_unread _
    iexact H6
  isplitl [H7]
  · iexists _; isplitr
    · ipureintro; exact harg8.read_unread _
    iexact H7
  isplitl [H8]
  · iexists _; isplitr
    · ipureintro; exact harg9.read_unread _
    iexact H8
  isplitl [H9]
  · iexists _; isplitr
    · ipureintro; exact harg10.read_unread _
    iexact H9
  isplitl [H10]
  · iexists _; isplitr
    · ipureintro; exact harg11.read_unread _
    iexact H10
  isplitl [H11]
  · iexists _; isplitr
    · ipureintro; exact harg12.read_unread _
    iexact H11
  isplitl [H12]
  · iexists _; isplitr
    · ipureintro; exact harg13.read_unread _
    iexact H12
  isplitl [H13]
  · iexists _; isplitr
    · ipureintro; exact harg14.read_unread _
    iexact H13
  isplitl [H14]
  · iexists _; isplitr
    · ipureintro; exact harg15.read_unread _
    iexact H14
  isplitl [H15]
  · iexists _; isplitr
    · ipureintro; exact harg16.read_unread _
    iexact H15
  isplitl [H16]
  · iexists _; isplitr
    · ipureintro; exact harg17.read_unread _
    iexact H16
  isplitl [H17]
  · iexists _; isplitr
    · ipureintro; exact harg18.read_unread _
    iexact H17
  isplitl [H18]
  · iexists _; isplitr
    · ipureintro; exact harg19.read_unread _
    iexact H18
  isplitl [H19]
  · iexists _; isplitr
    · ipureintro; exact harg20.read_unread _
    iexact H19
  isplitl [Hp0 Hp1 Hp2 Hp3 Hp4 Hp5 Hp6 Hp7]
  · isplitl [Hp0]
    · iapply (piece_to (F := F) c G (Ring.bk 32 t.val) 0 p0 _)
      isplitl [Hp0]
      · iexact Hp0
      ipureintro
      intro i
      exact hput 0 i
    isplitl [Hp1]
    · iapply (piece_to (F := F) c G (Ring.bk 32 t.val) 1 p1 _)
      isplitl [Hp1]
      · iexact Hp1
      ipureintro
      intro i
      exact hput 1 i
    isplitl [Hp2]
    · iapply (piece_to (F := F) c G (Ring.bk 32 t.val) 2 p2 _)
      isplitl [Hp2]
      · iexact Hp2
      ipureintro
      intro i
      exact hput 2 i
    isplitl [Hp3]
    · iapply (piece_to (F := F) c G (Ring.bk 32 t.val) 3 p3 _)
      isplitl [Hp3]
      · iexact Hp3
      ipureintro
      intro i
      exact hput 3 i
    isplitl [Hp4]
    · iapply (piece_to (F := F) c G (Ring.bk 32 t.val) 4 p4 _)
      isplitl [Hp4]
      · iexact Hp4
      ipureintro
      intro i
      exact hput 4 i
    isplitl [Hp5]
    · iapply (piece_to (F := F) c G (Ring.bk 32 t.val) 5 p5 _)
      isplitl [Hp5]
      · iexact Hp5
      ipureintro
      intro i
      exact hput 5 i
    isplitl [Hp6]
    · iapply (piece_to (F := F) c G (Ring.bk 32 t.val) 6 p6 _)
      isplitl [Hp6]
      · iexact Hp6
      ipureintro
      intro i
      exact hput 6 i
    iapply (piece_to (F := F) c G (Ring.bk 32 t.val) 7 p7 _)
    isplitl [Hp7]
    · iexact Hp7
    ipureintro
    intro i
    exact hput 7 i
  isplitl [HF0_dst HF1_dst HF2_dst HF3_dst HF4_dst HF5_dst HF6_dst HF7_dst]
  · isplitl [HF0_dst]
    · iexact HF0_dst
    isplitl [HF1_dst]
    · iexact HF1_dst
    isplitl [HF2_dst]
    · iexact HF2_dst
    isplitl [HF3_dst]
    · iexact HF3_dst
    isplitl [HF4_dst]
    · iexact HF4_dst
    isplitl [HF5_dst]
    · iexact HF5_dst
    isplitl [HF6_dst]
    · iexact HF6_dst
    iexact HF7_dst
  isplitl [HL0_dst HL1_dst HL2_dst HL3_dst HL4_dst HL5_dst HL6_dst HL7_dst]
  · isplitl [HL0_dst]
    · iexact HL0_dst
    isplitl [HL1_dst]
    · iexact HL1_dst
    isplitl [HL2_dst]
    · iexact HL2_dst
    isplitl [HL3_dst]
    · iexact HL3_dst
    isplitl [HL4_dst]
    · iexact HL4_dst
    isplitl [HL5_dst]
    · iexact HL5_dst
    isplitl [HL6_dst]
    · iexact HL6_dst
    iexact HL7_dst
  isplitl [HF0 Ht0 HF1 Ht1 HF2 Ht2 HF3 Ht3 HF4 Ht4 HF5 Ht5 HF6 Ht6 HF7 Ht7]
  · isplitl [HF0 HF1 HF2 HF3 HF4 HF5 HF6 HF7]
    · isplitl [HF0]
      · iexact HF0
      isplitl [HF1]
      · iexact HF1
      isplitl [HF2]
      · iexact HF2
      isplitl [HF3]
      · iexact HF3
      isplitl [HF4]
      · iexact HF4
      isplitl [HF5]
      · iexact HF5
      isplitl [HF6]
      · iexact HF6
      iexact HF7
    iexists _
    iapply (Entails.of_eq (slot_eq_tiles (F := F) c (Ring.sl 2 t.val) _).symm)
    isplitl [Ht0]
    · iexact Ht0
    isplitl [Ht1]
    · iexact Ht1
    isplitl [Ht2]
    · iexact Ht2
    isplitl [Ht3]
    · iexact Ht3
    isplitl [Ht4]
    · iexact Ht4
    isplitl [Ht5]
    · iexact Ht5
    isplitl [Ht6]
    · iexact Ht6
    iexact Ht7
  isplitl [HL0 HL0_src HL1 HL1_src HL2 HL2_src HL3 HL3_src HL4 HL4_src HL5 HL5_src HL6 HL6_src HL7 HL7_src]
  · isplitl [HL0 HL1 HL2 HL3 HL4 HL5 HL6 HL7]
    · isplitl [HL0]
      · iexact HL0
      isplitl [HL1]
      · iexact HL1
      isplitl [HL2]
      · iexact HL2
      isplitl [HL3]
      · iexact HL3
      isplitl [HL4]
      · iexact HL4
      isplitl [HL5]
      · iexact HL5
      isplitl [HL6]
      · iexact HL6
      iexact HL7
    iexists e1
    iapply (Entails.of_eq (slot_eq_tiles (F := F) c (Ring.sl 2 (t.val + 1)) e1).symm)
    isplitl [HL0_src]
    · iexact HL0_src
    isplitl [HL1_src]
    · iexact HL1_src
    isplitl [HL2_src]
    · iexact HL2_src
    isplitl [HL3_src]
    · iexact HL3_src
    isplitl [HL4_src]
    · iexact HL4_src
    isplitl [HL5_src]
    · iexact HL5_src
    isplitl [HL6_src]
    · iexact HL6_src
    iexact HL7_src
  iexists _; iexact HW
end Cert.KernelIdeal.Tail
-- ==== Proof.Tail.Body.lean ====
module

public import proofs.«01_k».proof.Proof.Tail.RunSteady
public import proofs.«01_k».proof.Proof.Tail.RunBoot
public import proofs.«01_k».proof.Proof.Tail.RunLast
public import Idealize.ShloMosaic.Lib.Pipeline.FrameValue
public import Idealize.ShloMosaic.Lib.Claim

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result ends with -/

/-- What the body stages at point `t`: the sixty-four finished rows of every sequence. -/
def valAt (c : Dev nD) (t : Fin 32) : FVec F S1x64x8x1024 .f32 :=
  (fun t : Fin cfg0.N => slotVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (Fin.cast N_0.symm t)

/-- The result: row `64 u + r` of a sequence is row `r` of what point `u` stages. -/
def final (c : Dev nD) : ResBuf (F := F) c := fun i : S8x2048x1024.Idx =>
  valAt m c ⟨(show Fin 2048 from i 1).val / 64, by have := (show Fin 2048 from i 1).isLt; omega⟩
    (ValueIdx.ix4 0 ⟨(show Fin 2048 from i 1).val % 64, Nat.mod_lt _ (by decide)⟩ (show Fin 8 from i 0) (show Fin 1024 from i 2))

/-- The buffers when the call is over: the result at `final`, the others as they were. -/
def finals (c : Dev nD) (b : Ref sig .tc) : Buf (Elt F) ((c : Thread nD τ).loc b) :=
  Function.update (β := fun b : Ref sig .tc => Buf (Elt F) ((c : Thread nD τ).loc b)) (V m c) main_v3 (final m c) b
theorem finals_res (c : Dev nD) : finals m c main_v3 = final m c := Function.update_self _ _ _

theorem final_res (c : Dev nD) (u : Fin 32) (k : Fin 8) (i : S64x1024.Idx) :
    final m c (resIx u k i) = valAt m c u (atRow k i) := by
  have h1 : (64 * u.val + (rowOf i).val) / 64 = u.val := by have := (rowOf i).isLt; omega
  have h2 : (64 * u.val + (rowOf i).val) % 64 = (rowOf i).val := by have := (rowOf i).isLt; omega
  show valAt m c ⟨(64 * u.val + (rowOf i).val) / 64, _⟩ (ValueIdx.ix4 0 ⟨(64 * u.val + (rowOf i).val) % 64, _⟩ k (laneOf i)) = _
  simp only [h1, h2]
  rfl

theorem puts_final (c : Dev nD) (t : Fin grid0.N) :
    Puts c (final m c) (Ring.bk 32 t.val) (slotVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  intro k i
  refine (piece_at (F := F) c _ k (final m c) i).trans ((final_res m c _ k i).trans ?_)
  have h : Fin.cast N_0.symm (Ring.bk 32 t.val) = t := Fin.ext (Ring.bk_val (by have h := t.isLt; have e := N_0; omega))
  unfold valAt
  rw [h]

/-! ## The data of the pipeline -/

/-- What the body keeps between two points: the generator's register and the ring. -/
def PhiR (c : Dev nD) (k : ℕ) : sProp 𝕄 := iprop((∃ r, prngReg c r) ∗ ringAt c (final m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨_ + 20, h⟩ => absurd h (Nat.not_lt.2 (Nat.le_add_left _ _))
  Φ t := PhiR m c t.val
  q w := Pipeline.shareOf spec0 w
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by dsimp only [dats]; simp only [Fin.coe_castSucc]
theorem PhiR_succ (c : Dev nD) (t : Fin cfg0.N) : (dats m 0 c).Φ t.succ = PhiR m c (t.val + 1) := by dsimp only [dats]; simp only [Fin.val_succ]
theorem stays0 (c : Dev nD) (t : Fin cfg0.N) : (dats m 0 c).after 0 t = iblk m c 0 t := by dsimp only [dats]
theorem held0 (c : Dev nD) (t : Fin cfg0.N) (d) : (dats m 0 c).before 0 t d = iblk m c 0 t :=
  ((dats m 0 c).before_in_eq_fetched 0 rfl (fun _ => rfl) (fun _ _ _ => rfl) (fun t => by rw [stays0]; unfold Dat.blockOf iblk; rw [A_eq]; try rfl) t d).trans
    (by unfold Dat.fetched Dat.blockOf iblk; rw [A_eq]; try rfl)
abbrev stg0 (t : Fin cfg0.N) : Memref sig .tc .vmem S512x1024 .bf16 := win0_0.stage (cfg0.slots t 0)
theorem stays1 (c : Dev nD) (t : Fin cfg0.N) : (dats m 0 c).after 1 t = iblk m c 1 t := by dsimp only [dats]
theorem held1 (c : Dev nD) (t : Fin cfg0.N) (d) : (dats m 0 c).before 1 t d = iblk m c 1 t :=
  ((dats m 0 c).before_in_eq_fetched 1 rfl (fun _ => rfl) (fun _ _ _ => rfl) (fun t => by rw [stays1]; unfold Dat.blockOf iblk; rw [A_eq]; try rfl) t d).trans
    (by unfold Dat.fetched Dat.blockOf iblk; rw [A_eq]; try rfl)
abbrev stg1 (t : Fin cfg0.N) : Memref sig .tc .vmem S512x1024 .bf16 := win0_1.stage (cfg0.slots t 1)
theorem stays2 (c : Dev nD) (t : Fin cfg0.N) : (dats m 0 c).after 2 t = iblk m c 2 t := by dsimp only [dats]
theorem held2 (c : Dev nD) (t : Fin cfg0.N) (d) : (dats m 0 c).before 2 t d = iblk m c 2 t :=
  ((dats m 0 c).before_in_eq_fetched 2 rfl (fun _ => rfl) (fun _ _ _ => rfl) (fun t => by rw [stays2]; unfold Dat.blockOf iblk; rw [A_eq]; try rfl) t d).trans
    (by unfold Dat.fetched Dat.blockOf iblk; rw [A_eq]; try rfl)
abbrev stg2 (t : Fin cfg0.N) : Memref sig .tc .vmem S512x1024 .bf16 := win0_2.stage (cfg0.slots t 2)
theorem stays3 (c : Dev nD) (t : Fin cfg0.N) : (dats m 0 c).after 3 t = iblk m c 3 t := by dsimp only [dats]
theorem held3 (c : Dev nD) (t : Fin cfg0.N) (d) : (dats m 0 c).before 3 t d = iblk m c 3 t :=
  ((dats m 0 c).before_in_eq_fetched 3 rfl (fun _ => rfl) (fun _ _ _ => rfl) (fun t => by rw [stays3]; unfold Dat.blockOf iblk; rw [A_eq]; try rfl) t d).trans
    (by unfold Dat.fetched Dat.blockOf iblk; rw [A_eq]; try rfl)
abbrev stg3 (t : Fin cfg0.N) : Memref sig .tc .vmem S1x8x1024 .f32 := win0_3.stage (cfg0.slots t 3)
theorem stays4 (c : Dev nD) (t : Fin cfg0.N) : (dats m 0 c).after 4 t = iblk m c 4 t := by dsimp only [dats]
theorem held4 (c : Dev nD) (t : Fin cfg0.N) (d) : (dats m 0 c).before 4 t d = iblk m c 4 t :=
  ((dats m 0 c).before_in_eq_fetched 4 rfl (fun _ => rfl) (fun _ _ _ => rfl) (fun t => by rw [stays4]; unfold Dat.blockOf iblk; rw [A_eq]; try rfl) t d).trans
    (by unfold Dat.fetched Dat.blockOf iblk; rw [A_eq]; try rfl)
abbrev stg4 (t : Fin cfg0.N) : Memref sig .tc .vmem S1x8x1024 .f32 := win0_4.stage (cfg0.slots t 4)
theorem stays5 (c : Dev nD) (t : Fin cfg0.N) : (dats m 0 c).after 5 t = iblk m c 5 t := by dsimp only [dats]
theorem held5 (c : Dev nD) (t : Fin cfg0.N) (d) : (dats m 0 c).before 5 t d = iblk m c 5 t :=
  ((dats m 0 c).before_in_eq_fetched 5 rfl (fun _ => rfl) (fun _ _ _ => rfl) (fun t => by rw [stays5]; unfold Dat.blockOf iblk; rw [A_eq]; try rfl) t d).trans
    (by unfold Dat.fetched Dat.blockOf iblk; rw [A_eq]; try rfl)
abbrev stg5 (t : Fin cfg0.N) : Memref sig .tc .vmem S512x1024 .bf16 := win0_5.stage (cfg0.slots t 5)
theorem stays6 (c : Dev nD) (t : Fin cfg0.N) : (dats m 0 c).after 6 t = iblk m c 6 t := by dsimp only [dats]
theorem held6 (c : Dev nD) (t : Fin cfg0.N) (d) : (dats m 0 c).before 6 t d = iblk m c 6 t :=
  ((dats m 0 c).before_in_eq_fetched 6 rfl (fun _ => rfl) (fun _ _ _ => rfl) (fun t => by rw [stays6]; unfold Dat.blockOf iblk; rw [A_eq]; try rfl) t d).trans
    (by unfold Dat.fetched Dat.blockOf iblk; rw [A_eq]; try rfl)
abbrev stg6 (t : Fin cfg0.N) : Memref sig .tc .vmem S512x2048 .bf16 := win0_6.stage (cfg0.slots t 6)
theorem stays7 (c : Dev nD) (t : Fin cfg0.N) : (dats m 0 c).after 7 t = iblk m c 7 t := by dsimp only [dats]
theorem held7 (c : Dev nD) (t : Fin cfg0.N) (d) : (dats m 0 c).before 7 t d = iblk m c 7 t :=
  ((dats m 0 c).before_in_eq_fetched 7 rfl (fun _ => rfl) (fun _ _ _ => rfl) (fun t => by rw [stays7]; unfold Dat.blockOf iblk; rw [A_eq]; try rfl) t d).trans
    (by unfold Dat.fetched Dat.blockOf iblk; rw [A_eq]; try rfl)
abbrev stg7 (t : Fin cfg0.N) : Memref sig .tc .vmem S2x32x4096 .bf16 := win0_7.stage (cfg0.slots t 7)
theorem stays8 (c : Dev nD) (t : Fin cfg0.N) : (dats m 0 c).after 8 t = iblk m c 8 t := by dsimp only [dats]
theorem held8 (c : Dev nD) (t : Fin cfg0.N) (d) : (dats m 0 c).before 8 t d = iblk m c 8 t :=
  ((dats m 0 c).before_in_eq_fetched 8 rfl (fun _ => rfl) (fun _ _ _ => rfl) (fun t => by rw [stays8]; unfold Dat.blockOf iblk; rw [A_eq]; try rfl) t d).trans
    (by unfold Dat.fetched Dat.blockOf iblk; rw [A_eq]; try rfl)
abbrev stg8 (t : Fin cfg0.N) : Memref sig .tc .vmem S512x1024 .f32 := win0_8.stage (cfg0.slots t 8)
theorem stays9 (c : Dev nD) (t : Fin cfg0.N) : (dats m 0 c).after 9 t = iblk m c 9 t := by dsimp only [dats]
theorem held9 (c : Dev nD) (t : Fin cfg0.N) (d) : (dats m 0 c).before 9 t d = iblk m c 9 t :=
  ((dats m 0 c).before_in_eq_fetched 9 rfl (fun _ => rfl) (fun _ _ _ => rfl) (fun t => by rw [stays9]; unfold Dat.blockOf iblk; rw [A_eq]; try rfl) t d).trans
    (by unfold Dat.fetched Dat.blockOf iblk; rw [A_eq]; try rfl)
abbrev stg9 (t : Fin cfg0.N) : Memref sig .tc .vmem S8x1024 .f32 := win0_9.stage (cfg0.slots t 9)
theorem stays10 (c : Dev nD) (t : Fin cfg0.N) : (dats m 0 c).after 10 t = iblk m c 10 t := by dsimp only [dats]
theorem held10 (c : Dev nD) (t : Fin cfg0.N) (d) : (dats m 0 c).before 10 t d = iblk m c 10 t :=
  ((dats m 0 c).before_in_eq_fetched 10 rfl (fun _ => rfl) (fun _ _ _ => rfl) (fun t => by rw [stays10]; unfold Dat.blockOf iblk; rw [A_eq]; try rfl) t d).trans
    (by unfold Dat.fetched Dat.blockOf iblk; rw [A_eq]; try rfl)
abbrev stg10 (t : Fin cfg0.N) : Memref sig .tc .vmem S8x1024 .f32 := win0_10.stage (cfg0.slots t 10)
theorem stays11 (c : Dev nD) (t : Fin cfg0.N) : (dats m 0 c).after 11 t = iblk m c 11 t := by dsimp only [dats]
theorem held11 (c : Dev nD) (t : Fin cfg0.N) (d) : (dats m 0 c).before 11 t d = iblk m c 11 t :=
  ((dats m 0 c).before_in_eq_fetched 11 rfl (fun _ => rfl) (fun _ _ _ => rfl) (fun t => by rw [stays11]; unfold Dat.blockOf iblk; rw [A_eq]; try rfl) t d).trans
    (by unfold Dat.fetched Dat.blockOf iblk; rw [A_eq]; try rfl)
abbrev stg11 (t : Fin cfg0.N) : Memref sig .tc .vmem S8x1024 .f32 := win0_11.stage (cfg0.slots t 11)
theorem stays12 (c : Dev nD) (t : Fin cfg0.N) : (dats m 0 c).after 12 t = iblk m c 12 t := by dsimp only [dats]
theorem held12 (c : Dev nD) (t : Fin cfg0.N) (d) : (dats m 0 c).before 12 t d = iblk m c 12 t :=
  ((dats m 0 c).before_in_eq_fetched 12 rfl (fun _ => rfl) (fun _ _ _ => rfl) (fun t => by rw [stays12]; unfold Dat.blockOf iblk; rw [A_eq]; try rfl) t d).trans
    (by unfold Dat.fetched Dat.blockOf iblk; rw [A_eq]; try rfl)
abbrev stg12 (t : Fin cfg0.N) : Memref sig .tc .vmem S8x1024 .f32 := win0_12.stage (cfg0.slots t 12)
theorem stays13 (c : Dev nD) (t : Fin cfg0.N) : (dats m 0 c).after 13 t = iblk m c 13 t := by dsimp only [dats]
theorem held13 (c : Dev nD) (t : Fin cfg0.N) (d) : (dats m 0 c).before 13 t d = iblk m c 13 t :=
  ((dats m 0 c).before_in_eq_fetched 13 rfl (fun _ => rfl) (fun _ _ _ => rfl) (fun t => by rw [stays13]; unfold Dat.blockOf iblk; rw [A_eq]; try rfl) t d).trans
    (by unfold Dat.fetched Dat.blockOf iblk; rw [A_eq]; try rfl)
abbrev stg13 (t : Fin cfg0.N) : Memref sig .tc .vmem S1x1024 .f32 := win0_13.stage (cfg0.slots t 13)
theorem stays14 (c : Dev nD) (t : Fin cfg0.N) : (dats m 0 c).after 14 t = iblk m c 14 t := by dsimp only [dats]
theorem held14 (c : Dev nD) (t : Fin cfg0.N) (d) : (dats m 0 c).before 14 t d = iblk m c 14 t :=
  ((dats m 0 c).before_in_eq_fetched 14 rfl (fun _ => rfl) (fun _ _ _ => rfl) (fun t => by rw [stays14]; unfold Dat.blockOf iblk; rw [A_eq]; try rfl) t d).trans
    (by unfold Dat.fetched Dat.blockOf iblk; rw [A_eq]; try rfl)
abbrev stg14 (t : Fin cfg0.N) : Memref sig .tc .vmem S1x1024 .f32 := win0_14.stage (cfg0.slots t 14)
theorem stays15 (c : Dev nD) (t : Fin cfg0.N) : (dats m 0 c).after 15 t = iblk m c 15 t := by dsimp only [dats]
theorem held15 (c : Dev nD) (t : Fin cfg0.N) (d) : (dats m 0 c).before 15 t d = iblk m c 15 t :=
  ((dats m 0 c).before_in_eq_fetched 15 rfl (fun _ => rfl) (fun _ _ _ => rfl) (fun t => by rw [stays15]; unfold Dat.blockOf iblk; rw [A_eq]; try rfl) t d).trans
    (by unfold Dat.fetched Dat.blockOf iblk; rw [A_eq]; try rfl)
abbrev stg15 (t : Fin cfg0.N) : Memref sig .tc .vmem S1024x1024 .bf16 := win0_15.stage (cfg0.slots t 15)
theorem stays16 (c : Dev nD) (t : Fin cfg0.N) : (dats m 0 c).after 16 t = iblk m c 16 t := by dsimp only [dats]
theorem held16 (c : Dev nD) (t : Fin cfg0.N) (d) : (dats m 0 c).before 16 t d = iblk m c 16 t :=
  ((dats m 0 c).before_in_eq_fetched 16 rfl (fun _ => rfl) (fun _ _ _ => rfl) (fun t => by rw [stays16]; unfold Dat.blockOf iblk; rw [A_eq]; try rfl) t d).trans
    (by unfold Dat.fetched Dat.blockOf iblk; rw [A_eq]; try rfl)
abbrev stg16 (t : Fin cfg0.N) : Memref sig .tc .vmem S512x1024 .bf16 := win0_16.stage (cfg0.slots t 16)
theorem stays17 (c : Dev nD) (t : Fin cfg0.N) : (dats m 0 c).after 17 t = iblk m c 17 t := by dsimp only [dats]
theorem held17 (c : Dev nD) (t : Fin cfg0.N) (d) : (dats m 0 c).before 17 t d = iblk m c 17 t :=
  ((dats m 0 c).before_in_eq_fetched 17 rfl (fun _ => rfl) (fun _ _ _ => rfl) (fun t => by rw [stays17]; unfold Dat.blockOf iblk; rw [A_eq]; try rfl) t d).trans
    (by unfold Dat.fetched Dat.blockOf iblk; rw [A_eq]; try rfl)
abbrev stg17 (t : Fin cfg0.N) : Memref sig .tc .vmem S1024x1024 .bf16 := win0_17.stage (cfg0.slots t 17)
theorem stays18 (c : Dev nD) (t : Fin cfg0.N) : (dats m 0 c).after 18 t = iblk m c 18 t := by dsimp only [dats]
theorem held18 (c : Dev nD) (t : Fin cfg0.N) (d) : (dats m 0 c).before 18 t d = iblk m c 18 t :=
  ((dats m 0 c).before_in_eq_fetched 18 rfl (fun _ => rfl) (fun _ _ _ => rfl) (fun t => by rw [stays18]; unfold Dat.blockOf iblk; rw [A_eq]; try rfl) t d).trans
    (by unfold Dat.fetched Dat.blockOf iblk; rw [A_eq]; try rfl)
abbrev stg18 (t : Fin cfg0.N) : Memref sig .tc .vmem S1024x4096 .bf16 := win0_18.stage (cfg0.slots t 18)
theorem stays19 (c : Dev nD) (t : Fin cfg0.N) : (dats m 0 c).after 19 t = iblk m c 19 t := by dsimp only [dats]
theorem held19 (c : Dev nD) (t : Fin cfg0.N) (d) : (dats m 0 c).before 19 t d = iblk m c 19 t :=
  ((dats m 0 c).before_in_eq_fetched 19 rfl (fun _ => rfl) (fun _ _ _ => rfl) (fun t => by rw [stays19]; unfold Dat.blockOf iblk; rw [A_eq]; try rfl) t d).trans
    (by unfold Dat.fetched Dat.blockOf iblk; rw [A_eq]; try rfl)
abbrev stg19 (t : Fin cfg0.N) : Memref sig .tc .vmem S4096x1024 .bf16 := win0_19.stage (cfg0.slots t 19)

/-! ## The body at each point -/

def bodyPre (c : Dev nD) (t : Fin cfg0.N) : sProp 𝕄 :=
  iprop((dats m 0 c).Φ t.castSucc ∗ (dats m 0 c).owesAt () t.castSucc ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)) ∗ (∃ d, owns (c : Thread nD τ) (stg8 t) fullShare ((dats m 0 c).before 8 t d)) ∗ (∃ d, owns (c : Thread nD τ) (stg9 t) fullShare ((dats m 0 c).before 9 t d)) ∗ (∃ d, owns (c : Thread nD τ) (stg10 t) fullShare ((dats m 0 c).before 10 t d)) ∗ (∃ d, owns (c : Thread nD τ) (stg11 t) fullShare ((dats m 0 c).before 11 t d)) ∗ (∃ d, owns (c : Thread nD τ) (stg12 t) fullShare ((dats m 0 c).before 12 t d)) ∗ (∃ d, owns (c : Thread nD τ) (stg13 t) fullShare ((dats m 0 c).before 13 t d)) ∗ (∃ d, owns (c : Thread nD τ) (stg14 t) fullShare ((dats m 0 c).before 14 t d)) ∗ (∃ d, owns (c : Thread nD τ) (stg15 t) fullShare ((dats m 0 c).before 15 t d)) ∗ (∃ d, owns (c : Thread nD τ) (stg16 t) fullShare ((dats m 0 c).before 16 t d)) ∗ (∃ d, owns (c : Thread nD τ) (stg17 t) fullShare ((dats m 0 c).before 17 t d)) ∗ (∃ d, owns (c : Thread nD τ) (stg18 t) fullShare ((dats m 0 c).before 18 t d)) ∗ (∃ d, owns (c : Thread nD τ) (stg19 t) fullShare ((dats m 0 c).before 19 t d)))
def bodyPost (c : Dev nD) (t : Fin cfg0.N) : sProp 𝕄 :=
  iprop((dats m 0 c).Φ t.succ ∗ (dats m 0 c).owesAt () t.succ ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t) ∗ owns (c : Thread nD τ) (stg6 t) fullShare ((dats m 0 c).after 6 t) ∗ owns (c : Thread nD τ) (stg7 t) fullShare ((dats m 0 c).after 7 t) ∗ owns (c : Thread nD τ) (stg8 t) fullShare ((dats m 0 c).after 8 t) ∗ owns (c : Thread nD τ) (stg9 t) fullShare ((dats m 0 c).after 9 t) ∗ owns (c : Thread nD τ) (stg10 t) fullShare ((dats m 0 c).after 10 t) ∗ owns (c : Thread nD τ) (stg11 t) fullShare ((dats m 0 c).after 11 t) ∗ owns (c : Thread nD τ) (stg12 t) fullShare ((dats m 0 c).after 12 t) ∗ owns (c : Thread nD τ) (stg13 t) fullShare ((dats m 0 c).after 13 t) ∗ owns (c : Thread nD τ) (stg14 t) fullShare ((dats m 0 c).after 14 t) ∗ owns (c : Thread nD τ) (stg15 t) fullShare ((dats m 0 c).after 15 t) ∗ owns (c : Thread nD τ) (stg16 t) fullShare ((dats m 0 c).after 16 t) ∗ owns (c : Thread nD τ) (stg17 t) fullShare ((dats m 0 c).after 17 t) ∗ owns (c : Thread nD τ) (stg18 t) fullShare ((dats m 0 c).after 18 t) ∗ owns (c : Thread nD τ) (stg19 t) fullShare ((dats m 0 c).after 19 t))

set_option maxHeartbeats 6000000 in
theorem body_first (c : Dev nD) (t : Fin cfg0.N) (h0 : t.val = 0) : bodyPre m c t ⊢ wp frame (wpE (defs₀ (F := F)) Variants.none c none) Set.univ (bodyAt0 t) (fun _ => bodyPost m c t) := by
  have hN : t.val < 32 := lt_of_lt_of_eq t.isLt N_0
  have hc0 : ¬cond0 (grid0.coords t) := fun h => by have := (cond0_iff t).mp h; omega
  have hc1 : ¬cond1 (grid0.coords t) := fun h => by have := (cond1_iff t).mp h; omega
  unfold bodyPre bodyPost bodyAt0
  simp only [held0, held1, held2, held3, held4, held5, held6, held7, held8, held9, held10, held11, held12, held13, held14, held15, held16, held17, held18, held19]
  rw [stays0, stays1, stays2, stays3, stays4, stays5, stays6, stays7, stays8, stays9, stays10, stays11, stays12, stays13, stays14, stays15, stays16, stays17, stays18, stays19]
  rw [PhiR_castSucc, PhiR_succ]
  unfold Dat.owesAt Pipeline.owesWithin
  rw [show (dats m 0 c).owed t.castSucc = 0 from rfl, show (dats m 0 c).owed t.succ = 0 from rfl]
  unfold PhiR ringAt
  rw [Ring.AtBΦ_lt _ _ _ _ _ t.val (by omega), Ring.AtB2_zero' 2 _ _ _ _ t.val h0]
  rw [Ring.AtBΦ_lt _ _ _ _ _ (t.val + 1) (by omega), Ring.AtB22_next_zero' _ _ _ _ t.val h0]
  iintro ⟨⟨Hg, ⟨⟨Ha, Hr⟩, Hf, Hf2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (run_boot c t (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) hc0 hc1 (final m c) (puts_final m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Ha]; · iexact Ha
  isplitl [Hf]; · iexact Hf
  isplitl [HW]; · iexact HW
  iintro ⟨H0, H1, H2, H3, H4, H5, H6, H7, H8, H9, H10, H11, H12, H13, H14, H15, H16, H17, H18, H19, Hi, ⟨%W', HW⟩⟩
  isplitl [Hg Hr Hf2 Hi]
  · isplitl [Hg]; · iexact Hg
    isplitl [Hr]; · iexact Hr
    isplitl [Hf2]; · iexact Hf2
    iexact Hi
  isplitl [HW]
  · iexists W'
    isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 6000000 in
theorem body_second (c : Dev nD) (t : Fin cfg0.N) (h0 : t.val = 1) : bodyPre m c t ⊢ wp frame (wpE (defs₀ (F := F)) Variants.none c none) Set.univ (bodyAt0 t) (fun _ => bodyPost m c t) := by
  have hN : t.val < 32 := lt_of_lt_of_eq t.isLt N_0
  have hc0 : ¬cond0 (grid0.coords t) := fun h => by have := (cond0_iff t).mp h; omega
  have hc1 : ¬cond1 (grid0.coords t) := fun h => by have := (cond1_iff t).mp h; omega
  unfold bodyPre bodyPost bodyAt0
  simp only [held0, held1, held2, held3, held4, held5, held6, held7, held8, held9, held10, held11, held12, held13, held14, held15, held16, held17, held18, held19]
  rw [stays0, stays1, stays2, stays3, stays4, stays5, stays6, stays7, stays8, stays9, stays10, stays11, stays12, stays13, stays14, stays15, stays16, stays17, stays18, stays19]
  rw [PhiR_castSucc, PhiR_succ]
  unfold Dat.owesAt Pipeline.owesWithin
  rw [show (dats m 0 c).owed t.castSucc = 0 from rfl, show (dats m 0 c).owed t.succ = 0 from rfl]
  unfold PhiR ringAt
  rw [Ring.AtBΦ_lt _ _ _ _ _ t.val (by omega), Ring.AtB22_one' _ _ _ _ t.val h0 (by decide)]
  rw [Ring.AtBΦ_lt _ _ _ _ _ (t.val + 1) (by omega), Ring.AtB22_next_one' _ _ _ _ t.val h0]
  iintro ⟨⟨Hg, ⟨⟨Ha, Hr⟩, Hf, Hi2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (run_boot c t (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) hc0 hc1 (final m c) (puts_final m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Ha]; · iexact Ha
  isplitl [Hf]; · iexact Hf
  isplitl [HW]; · iexact HW
  iintro ⟨H0, H1, H2, H3, H4, H5, H6, H7, H8, H9, H10, H11, H12, H13, H14, H15, H16, H17, H18, H19, Hi, ⟨%W', HW⟩⟩
  isplitl [Hg Hr Hi2 Hi]
  · isplitl [Hg]; · iexact Hg
    isplitl [Hr]; · iexact Hr
    isplitl [Hi2]; · iexact Hi2
    iexact Hi
  isplitl [HW]
  · iexists W'
    isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 6000000 in
theorem body_steady (c : Dev nD) (t : Fin cfg0.N) (h2 : 2 ≤ t.val) (h31 : t.val < 31) : bodyPre m c t ⊢ wp frame (wpE (defs₀ (F := F)) Variants.none c none) Set.univ (bodyAt0 t) (fun _ => bodyPost m c t) := by
  have hN : t.val < 32 := lt_of_lt_of_eq t.isLt N_0
  have hc0 : cond0 (grid0.coords t) := (cond0_iff t).mpr h2
  have hc1 : ¬cond1 (grid0.coords t) := fun h => by have := (cond1_iff t).mp h; omega
  unfold bodyPre bodyPost bodyAt0
  simp only [held0, held1, held2, held3, held4, held5, held6, held7, held8, held9, held10, held11, held12, held13, held14, held15, held16, held17, held18, held19]
  rw [stays0, stays1, stays2, stays3, stays4, stays5, stays6, stays7, stays8, stays9, stays10, stays11, stays12, stays13, stays14, stays15, stays16, stays17, stays18, stays19]
  rw [PhiR_castSucc, PhiR_succ]
  unfold Dat.owesAt Pipeline.owesWithin
  rw [show (dats m 0 c).owed t.castSucc = 0 from rfl, show (dats m 0 c).owed t.succ = 0 from rfl]
  unfold PhiR ringAt
  rw [Ring.AtBΦ_lt _ _ _ _ _ t.val (by omega), Ring.AtB22_here _ _ _ _ t.val h2 (by omega)]
  rw [Ring.AtBΦ_lt _ _ _ _ _ (t.val + 1) (by omega), Ring.AtB22_next _ _ _ _ t.val h2 (by omega)]
  iintro ⟨⟨Hg, ⟨⟨Ha, Hr⟩, Hb, Hi1, Hi2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (run_steady c t (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) hc0 hc1 (final m c) (puts_final m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Ha]; · iexact Ha
  isplitl [Hi1]; · iexact Hi1
  isplitl [HW]; · iexact HW
  iintro ⟨H0, H1, H2, H3, H4, H5, H6, H7, H8, H9, H10, H11, H12, H13, H14, H15, H16, H17, H18, H19, Hb2, Hi, ⟨%W', HW⟩⟩
  isplitl [Hg Hr Hb Hb2 Hi2 Hi]
  · isplitl [Hg]; · iexact Hg
    isplitl [Hr]; · iexact Hr
    isplitl [Hb Hb2]; · isplitl [Hb2]; · iexact Hb2
                        iexact Hb
    isplitl [Hi2]; · iexact Hi2
    iexact Hi
  isplitl [HW]
  · iexists W'
    isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 6000000 in
theorem body_last (c : Dev nD) (t : Fin cfg0.N) (h31 : t.val = 31) : bodyPre m c t ⊢ wp frame (wpE (defs₀ (F := F)) Variants.none c none) Set.univ (bodyAt0 t) (fun _ => bodyPost m c t) := by
  have hN : t.val < 32 := lt_of_lt_of_eq t.isLt N_0
  have hc0 : cond0 (grid0.coords t) := (cond0_iff t).mpr (by omega)
  have hc1 : cond1 (grid0.coords t) := (cond1_iff t).mpr h31
  unfold bodyPre bodyPost bodyAt0
  simp only [held0, held1, held2, held3, held4, held5, held6, held7, held8, held9, held10, held11, held12, held13, held14, held15, held16, held17, held18, held19]
  rw [stays0, stays1, stays2, stays3, stays4, stays5, stays6, stays7, stays8, stays9, stays10, stays11, stays12, stays13, stays14, stays15, stays16, stays17, stays18, stays19]
  rw [PhiR_castSucc, PhiR_succ]
  unfold Dat.owesAt Pipeline.owesWithin
  rw [show (dats m 0 c).owed t.castSucc = 0 from rfl, show (dats m 0 c).owed t.succ = 0 from rfl]
  unfold PhiR ringAt
  rw [Ring.AtBΦ_lt _ _ _ _ _ t.val (by omega), Ring.AtB22_here_last _ _ _ _ t.val (by omega) (by omega)]
  rw [Ring.AtBΦ_end _ _ _ _ _ (t.val + 1) (by omega), Ring.AtB22_drained _ _ t.val (by omega) (by omega)]
  iintro ⟨⟨Hg, ⟨Ha, Hb, Hi1, Hi2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (run_last c t (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) hc0 hc1 (final m c) (puts_final m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [Ha]; · iexact Ha
  isplitl [Hi1]; · iexact Hi1
  isplitl [Hi2]; · iexact Hi2
  isplitl [HW]; · iexact HW
  iintro ⟨H0, H1, H2, H3, H4, H5, H6, H7, H8, H9, H10, H11, H12, H13, H14, H15, H16, H17, H18, H19, Hb0, Hb1, Hb2, Hf0, Hf1, ⟨%W', HW⟩⟩
  isplitl [Hg Hb Hb0 Hb1 Hb2 Hf0 Hf1]
  · isplitl [Hg]; · iexact Hg
    isplitl [Hb Hb0 Hb1 Hb2]
    · isplitl [Hb0]; · iexact Hb0
      isplitl [Hb1]; · iexact Hb1
      isplitl [Hb2]; · iexact Hb2
      iexact Hb
    isplitl [Hf0]; · iexact Hf0
    iexact Hf1
  isplitl [HW]
  · iexists W'
    isplitr
    · ipureintro; exact fun _ _ => Or.inl trivial
    · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem sound_body (c : Dev nD) (t : Fin cfg0.N) : bodyPre m c t ⊢ wp frame (wpE (defs₀ (F := F)) Variants.none c none) Set.univ (bodyAt0 t) (fun _ => bodyPost m c t) := by
  have hN : t.val < 32 := lt_of_lt_of_eq t.isLt N_0
  rcases (show t.val = 0 ∨ t.val = 1 ∨ (2 ≤ t.val ∧ t.val < 31) ∨ t.val = 31 by omega) with h | h | ⟨h, h'⟩ | h
  · exact body_first m c t h
  · exact body_second m c t h
  · exact body_steady m c t h h'
  · exact body_last m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ :=
  fun t => by rw [bigSep_W0, bigSep_W0, defs₀_row]; exact triple_restated (sound_body m c t) rfl .rfl fun _ => .rfl

/-! ## The launch -/

abbrev heldRefs : Finset (Ref sig .tc) := {}
abbrev putRefs : Finset (Ref sig .tc) := {main_v3}
theorem heldRefs_sub : heldRefs ⊆ Pipeline.restRefs sig spec0 := by decide
theorem putRefs_sub : putRefs ⊆ Pipeline.restRefs sig spec0 \ heldRefs := by decide

theorem held_none (c : Dev nD) :
    (bigSep heldRefs (fun b => ((c : Thread nD τ).loc b) ↦{fullShare} V m c b) : sProp 𝕄) = iprop(emp) := by
  rw [BI.bigSep_eq_bigSepL_of_eq [] (by decide) (by decide)]; rfl
theorem put_one (c : Dev nD) (W : (b : Ref sig .tc) → Buf (Elt F) ((c : Thread nD τ).loc b)) :
    (Pipeline.routed putRefs c W : sProp 𝕄) = (((c : Thread nD τ).loc main_v3) ↦{fullShare} W main_v3 : sProp 𝕄) := by
  unfold Pipeline.routed; rw [BI.bigSep_eq_bigSepL_of_eq [main_v3] (by decide) (by decide)]; rfl

/-- What is held around the call, conjunct by conjunct. -/
theorem around_eq (c : Dev nD) (W : (c : Dev nD) → (b : Ref sig .tc) → Buf (Elt F) ((c : Thread nD τ).loc b)) :
    (Pipeline.ΦDRG osem spec0 heldRefs putRefs (V m) W c : sProp 𝕄)
      = iprop((∃ d, owns (c : Thread nD τ) scr fullShare d) ∗ (∃ r, prngReg c r)
          ∗ (bigSep Finset.univ fun g : Fin 2 => each (cellP (F := F) c g)) ∗ emp ∗ (((c : Thread nD τ).loc main_v3) ↦{fullShare} W c main_v3)) := by
  rw [Pipeline.ΦDRG_eq, scopedRest0_eq, cells_eq, held_none, put_one]; simp only [scr, owns_whole]; try rfl

end Cert.KernelIdeal.Tail
end
-- ==== Proof.Tail.Launch.lean ====
module

public import proofs.«01_k».proof.Proof.Tail.Body

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem free_all (c : Dev nD) : iprop((bigSep Finset.univ fun g : Fin 2 => each (cellP (F := F) c g)) ∗ bigSep Finset.univ fun g : Fin 2 => iprop(∃ e, slotP (F := F) c g e))
    = (bigSep Finset.univ (freeP (F := F) c) : sProp 𝕄) := (BI.bigSep_sep' _ _ _).symm

theorem ahead_all (c : Dev nD) (f : ResBuf (F := F) c) : (bigSep Finset.univ (fun u : Fin 32 => each fun k => pieceP (F := F) c u k f) : sProp 𝕄) ⊢ bigSep Finset.univ (aheadP (F := F) c) :=
  bigSep_mono fun u _ => ahead_of (F := F) c f u
theorem Phi_last (c : Dev nD) : (dats m 0 c).Φ (Fin.last cfg0.N) = PhiR m c 32 := by
  dsimp only [dats]; rw [Fin.val_last]; exact congrArg (PhiR m c) N_0

theorem opens (c : Dev nD) : Pipeline.ΦDRG osem spec0 heldRefs putRefs (V m) (V m) c ⊢ (dats m 0 c).Φ 0 := by
  rw [show (dats m 0 c).Φ 0 = PhiR m c 0 from rfl]
  refine (Entails.of_eq (around_eq m c (V m))).trans ?_
  unfold PhiR ringAt
  rw [Ring.AtBΦ_lt _ _ _ _ _ 0 (by decide), Ring.AtB_zero]
  unfold Ring.AtB₀
  rw [← free_all, whole_pieces]
  iintro ⟨Hs, Hg, Hc, -, Hp⟩
  isplitl [Hg]; · iexact Hg
  isplitl [Hp]
  · iapply (ahead_all (F := F) c (V m c main_v3)); iexact Hp
  isplitl [Hc]; · iexact Hc
  iapply (whole_slots (F := F) c); iexact Hs

theorem closes (c : Dev nD) : (dats m 0 c).Φ (Fin.last cfg0.N) ⊢ Pipeline.ΦDRG osem spec0 heldRefs putRefs (V m) (finals m) c := by
  rw [Phi_last]
  refine BIBase.Entails.trans ?_ (Entails.of_eq (around_eq m c (finals m)).symm)
  unfold PhiR ringAt
  rw [Ring.AtBΦ_end _ _ _ _ _ 32 rfl]
  unfold Ring.AtBEnd
  rw [← free_all, finals_res, whole_pieces]
  iintro ⟨Hg, Hp, Hc, Hs⟩
  isplitl [Hs]; · iapply (slots_whole (F := F) c); iexact Hs
  isplitl [Hg]; · iexact Hg
  isplitl [Hc]; · iexact Hc
  isplitr; · iempintro
  iexact Hp

set_option maxHeartbeats 800000 in
theorem starts : Pipeline.HMain (Ix := Unit) (Name := ℕ) (U := Pipeline.UD sig nD τ) (Lvl := ℕ) cfgs 0 defs₀ Variants.none m main (V m) :=
  Pipeline.hmain_prefix cfgs 0 defs₀ Variants.none m main hostOps0 hostOps0_sub hostOps0_fresh main_chain

set_option backward.isDefEq.respectTransparency.types false in
/-- Every execution ends, with the result at `final`, the arguments as they were and every counter at zero. -/
theorem run_main : θ_run defs (onTc (τ := τ) (main (F := F))) ⟨m, fun _ => 0, ρ⟩ (fun r => Pipeline.FramePostRG cfgs (dats m) 0 putRefs (V m) (finals m) r ∧ r.2.sem = fun _ => 0) :=
  Pipeline.θ_run_frame_dmaRG_shared (Q' := _) cfgs (dats m) (0 : Fin 1) launch₀0 osem defs₀ Variants.none osem_own heldRefs putRefs heldRefs_sub putRefs_sub m ρ main
    (hbody := fun c => (body_obligation m c).loose) (hq := fun _ _ _ => rfl) (howed := fun _ _ => rfl) (V := V m) (hmain := starts m) (hA := A_eq m)
    (G := finals m) (hin := opens m) (hout := closes m)

set_option maxHeartbeats 4000000 in
/-- The same, read at the result and at each argument. -/
theorem run_result : θ_run defs (onTc (τ := τ) (main (F := F))) ⟨m, fun _ => 0, ρ⟩ (fun r => (∀ c : Dev nD,
      r.2.mem ((c.tc : Thread nD τ).loc main_v3) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r ⟨h, hs⟩ => ⟨fun c => ⟨(h.2 c main_v3 (by decide)).trans (finals_res m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).1 8).trans (((dats m 0 c).arrAt_in 8 rfl _).trans ((A_eq m c 8).trans (V_main_arg8 m c))),
      ((h.1 c).1 12).trans (((dats m 0 c).arrAt_in 12 rfl _).trans ((A_eq m c 12).trans (V_main_arg9 m c))),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).1 15).trans (((dats m 0 c).arrAt_in 15 rfl _).trans ((A_eq m c 15).trans (V_main_arg12 m c))),
      ((h.1 c).1 16).trans (((dats m 0 c).arrAt_in 16 rfl _).trans ((A_eq m c 16).trans (V_main_arg13 m c))),
      ((h.1 c).1 17).trans (((dats m 0 c).arrAt_in 17 rfl _).trans ((A_eq m c 17).trans (V_main_arg14 m c))),
      ((h.1 c).1 18).trans (((dats m 0 c).arrAt_in 18 rfl _).trans ((A_eq m c 18).trans (V_main_arg15 m c))),
      ((h.1 c).1 19).trans (((dats m 0 c).arrAt_in 19 rfl _).trans ((A_eq m c 19).trans (V_main_arg16 m c)))⟩, hs⟩) (run_main m ρ)

end Cert.KernelIdeal.Tail
end
-- ==== Proof.Tail.Frames.lean ====
module

public import proofs.«01_k».proof.Defs
public import proofs.«01_k».proof.Proof.Tail.Launch
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Tail

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Cert.KernelIdeal.Tail.run_result (F := Ideal) m ρ)

set_option backward.isDefEq.respectTransparency false in
theorem same_main : Cert.Kernel.main (F := Bits) = Cert.KernelIdeal.main (F := Bits) := rfl
set_option smartUnfolding false in
theorem same_defs₀ : Cert.Kernel.defs₀ (F := Bits) = Cert.KernelIdeal.defs₀ (F := Bits) := rfl
theorem same_defs : Cert.Kernel.defs (F := Bits) = Cert.KernelIdeal.defs (F := Bits) := by
  unfold Cert.Kernel.defs; rw [same_defs₀]; rfl

set_option backward.isDefEq.respectTransparency false in
theorem frame_kernel : Cert.quiescent_Kernel := fun m ρ _ => by
  rw [same_main, same_defs]
  exact (θ_run Cert.KernelIdeal.defs _ _).mono (fun _ h => ⟨fun c => (h.1 c).2, h.2⟩) (Cert.KernelIdeal.Tail.run_result (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Tail
end
-- ==== Proof.Tail.Row.lean ====
module

public import Idealize.ShloMosaic.Lib.Pointwise
public import Idealize.ShloMosaic.Lib.IdealHost

@[expose] public section

set_option maxRecDepth 16384

noncomputable section

/-! One row of the layer's tail over the extended reals: what a position of a sample yields, from its rows of the arguments. -/

namespace Cert.Tail.Row

open Idealize.ShloMosaic

/-- A row of `n` entries. -/
abbrev R (n : ℕ) : Type := Fin n → EReal

abbrev half : EReal := Ideal.ofBits .f32 0x3F000000#32

theorem half_eq : half = (((1 : ℝ) / 2 : ℝ) : EReal) := by
  simp [half, Ideal.ofBits, Ideal.ieee, -EReal.coe_mul]; norm_num

theorem half_eq_bf16 : Ideal.ofBits .bf16 0x3F00#16 = half := by
  rw [half_eq]
  simp [Ideal.ofBits, Ideal.ieee, -EReal.coe_mul]; norm_num

/-- Half a hyperbolic tangent of half the argument, raised by a half, is the logistic function. -/
theorem logistic_of_tanh (x : EReal) : half * Ideal.tanh (half * x) + half = Ideal.logistic x := by
  rw [half_eq]
  induction x using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [show (1 : EReal) = ((1 : ℝ) : EReal) by norm_cast, ← EReal.coe_mul, ← EReal.coe_add]
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← h1, ← Real.exp_add]; congr 1; ring
    have hp := Real.exp_pos (1 / 2 * r)
    rw [h1, h2]
    generalize Real.exp (1 / 2 * r) = a at hp
    field_simp
    ring

/-- The tanh form of the Gaussian error unit. -/
def act (u : EReal) : EReal :=
  u * (half * (1 + Ideal.tanh (Ideal.ofBits .f32 0x3F4C422A#32 * (u + Ideal.ofBits .f32 0x3D372713#32 * (u * u * u)))))

/-- The first residual: what the gated mixers add to the row. -/
def resid (ls pf pb hf hb uy : R 1024) (ug : R 2048) (yf : R 512) (xt gt1 : R 1024)
    (wl : Fin 1024 → R 1024) (wf : Fin 512 → R 1024) (wo : Fin 1024 → R 1024) : R 1024 := fun d =>
  xt d + gt1 d * ∑ k : Fin 1024,
    (Ideal.logistic (ug ⟨k.val, by omega⟩) * (∑ l : Fin 1024, (ls l + pf l * hf l + pb l * hb l) * act (uy l) * wl l k)
      + Ideal.logistic (ug ⟨1024 + k.val, by omega⟩) * (∑ l : Fin 512, yf l * wf l k)) * wo k d

/-- A row scaled by the inverse of its root mean square. -/
def norm (x : R 1024) : R 1024 := fun d =>
  x d * Ideal.rsqrt (Ideal.div (∑ k : Fin 1024, x k * x k) (Ideal.ofBits .f32 0x44800000#32) + Ideal.ofBits .f32 0x358637BD#32)

/-- The modulated row the feed-forward part reads. -/
def modulated (x gm sh2 sc2 : R 1024) : R 1024 := fun d => norm x d * gm d * (1 + sc2 d) + sh2 d

/-- The hidden units. -/
def hidden (h : R 1024) (w1 : Fin 1024 → R 4096) : R 4096 := fun k => max (∑ l : Fin 1024, h l * w1 l k) 0

/-- The second residual: what the squared hidden units add to the row. -/
def mlp (x h : R 1024) (w1 : Fin 1024 → R 4096) (w2 : Fin 4096 → R 1024) (gt2 : R 1024) : R 1024 := fun d =>
  x d + gt2 d * ∑ k : Fin 4096, hidden h w1 k * hidden h w1 k * w2 k d

/-- The whole tail of a row. -/
def out (ls pf pb hf hb uy : R 1024) (ug : R 2048) (yf : R 512) (xt gt1 sh2 sc2 gt2 gm gf : R 1024)
    (wl : Fin 1024 → R 1024) (wf : Fin 512 → R 1024) (wo : Fin 1024 → R 1024) (w1 : Fin 1024 → R 4096) (w2 : Fin 4096 → R 1024) :
    R 1024 := fun d =>
  norm (mlp (resid ls pf pb hf hb uy ug yf xt gt1 wl wf wo)
    (modulated (resid ls pf pb hf hb uy ug yf xt gt1 wl wf wo) gm sh2 sc2) w1 w2 gt2) d * gf d

/-- A sum over the hidden units, taken in four blocks. -/
theorem sum_blocks (f : R 4096) :
    ∑ k : Fin 4096, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [Fin.sum_univ_tiles 4 1024 rfl, Fin.sum_univ_four]
  refine congrArg₂ (· + ·) (congrArg₂ (· + ·) (congrArg₂ (· + ·) ?_ rfl) rfl) rfl
  refine Finset.sum_congr rfl fun k _ => congrArg f (Fin.ext ?_)
  show 0 * 1024 + k.val = k.val
  omega

/-- An array of extended reals. -/
abbrev A (n : ℕ) (d : Fin n → ℕ) : Type := Shape.Idx ⟨n, d⟩ → EReal

/-- Row `p` of sample `b` of the tail, from the whole arguments. -/
def ofArrays (ls pf pb : A 2 ![16384, 1024]) (hf hb : A 3 ![32, 8, 1024]) (uy : A 2 ![16384, 1024]) (ug : A 2 ![16384, 2048])
    (yf : A 3 ![2, 1024, 4096]) (xt : A 2 ![16384, 1024]) (mo : A 2 ![16, 6144]) (gm : A 2 ![1, 1024]) (gf : A 1 ![1024])
    (wl : A 2 ![1024, 1024]) (wf : A 2 ![512, 1024]) (wo : A 2 ![1024, 1024]) (w1 : A 2 ![1024, 4096]) (w2 : A 2 ![4096, 1024])
    (b : Fin 8) (p : Fin 2048) : R 1024 :=
  out (fun l => ls (ix2 (⟨p.val * 8 + b.val, by omega⟩ : Fin 16384) l)) (fun l => pf (ix2 (⟨p.val * 8 + b.val, by omega⟩ : Fin 16384) l))
    (fun l => pb (ix2 (⟨p.val * 8 + b.val, by omega⟩ : Fin 16384) l))
    (fun l => hf (ix3 (⟨p.val / 64, by omega⟩ : Fin 32) b l)) (fun l => hb (ix3 (⟨p.val / 64, by omega⟩ : Fin 32) b l))
    (fun l => uy (ix2 (⟨p.val * 8 + b.val, by omega⟩ : Fin 16384) l)) (fun l => ug (ix2 (⟨p.val * 8 + b.val, by omega⟩ : Fin 16384) l))
    (fun l => yf (ix3 (⟨p.val % 2, by omega⟩ : Fin 2) (⟨p.val / 2, by omega⟩ : Fin 1024) (⟨b.val * 512 + l.val, by omega⟩ : Fin 4096)))
    (fun l => xt (ix2 (⟨p.val * 8 + b.val, by omega⟩ : Fin 16384) l))
    (fun l => mo (ix2 (⟨b.val, by omega⟩ : Fin 16) (⟨2048 + l.val, by omega⟩ : Fin 6144)))
    (fun l => mo (ix2 (⟨b.val, by omega⟩ : Fin 16) (⟨3072 + l.val, by omega⟩ : Fin 6144)))
    (fun l => mo (ix2 (⟨b.val, by omega⟩ : Fin 16) (⟨4096 + l.val, by omega⟩ : Fin 6144)))
    (fun l => mo (ix2 (⟨b.val, by omega⟩ : Fin 16) (⟨5120 + l.val, by omega⟩ : Fin 6144)))
    (fun l => gm (ix2 0 l)) (fun l => gf (ix1 l)) (fun l k => wl (ix2 l k)) (fun l k => wf (ix2 l k)) (fun l k => wo (ix2 l k))
    (fun l k => w1 (ix2 l k)) (fun l k => w2 (ix2 l k))

end Cert.Tail.Row
-- ==== Proof.Tail.ValKernel.lean ====
module

public import proofs.«01_k».proof.Proof.Tail.Slot
public import proofs.«01_k».proof.Proof.Tail.Row

@[expose] public section

set_option maxRecDepth 16384

noncomputable section

/-! The kernel's grid step, row by row: an element of its slot is an element of a row of the tail. -/

namespace Cert.KernelIdeal.Tail

open Cert.KernelIdeal.Gen
open Idealize.ShloMosaic
open Cert.Tail

/-- The row of a slot at position `a` of its chunk and sample `b`. -/
def rw8 (a : Fin 64) (b : Fin 8) : Fin 512 := ⟨a.val * 8 + b.val, by omega⟩

/-- Sixty-four copies of a tile of eight rows, one under the other. -/
def tile64 (v : FVec Ideal S8x1024 .bf16) : FVec Ideal S512x1024 .bf16 :=
  concatenate S512x1024 0 (List.ofFn fun _ : Fin 64 => (⟨S8x1024, v⟩ : (s : Shape) × (s.Idx → Ideal .bf16)))
    (by rw [List.ofFn_const]; exact concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S512x1024_d0)

theorem tile64_apply (v : FVec Ideal S8x1024 .bf16) (a : Fin 64) (b : Fin 8) (d : Fin 1024) :
    tile64 v (ix2 (rw8 a b) d) = v (ix2 b d) := by
  refine concatenate_ofFn_apply (t := S512x1024) (s₁ := S8x1024) (0 : Fin 2) (fun _ => v) _ rfl 8 rfl (ix2 (rw8 a b) d) a ?_ (ix2 b d) ?_ ?_
  · show (a.val * 8 + b.val) / 8 = a.val
    omega
  · show b.val = (a.val * 8 + b.val) % 8
    omega
  · intro l hl
    fin_cases l
    · exact absurd rfl hl
    · rfl

theorem pay2_eq (hf hb : Vec Ideal S1x8x1024 .f32) (ls pf pb : Vec Ideal S512x1024 .bf16) :
    k0_pay2 hf hb ls pf pb = addf (addf ls (mulf pf (tile64 (truncf .bf16 (shapeCast S8x1024 hf shapeCasts_S1x8x1024_S8x1024) bitsLt_bf16_f32))))
      (mulf pb (tile64 (truncf .bf16 (shapeCast S8x1024 hb shapeCasts_S1x8x1024_S8x1024) bitsLt_bf16_f32))) := rfl

theorem pay2_apply (hf hb : Vec Ideal S1x8x1024 .f32) (ls pf pb : Vec Ideal S512x1024 .bf16) (a : Fin 64) (b : Fin 8) (d : Fin 1024) :
    k0_pay2 hf hb ls pf pb (ix2 (rw8 a b) d)
      = ls (ix2 (rw8 a b) d) + pf (ix2 (rw8 a b) d) * hf (ix3 0 b d) + pb (ix2 (rw8 a b) d) * hb (ix3 0 b d) := by
  rw [pay2_eq]
  pointwise [tile64_apply]

theorem pay1_apply (x : Vec Ideal S2x32x4096 .bf16) (w : Vec Ideal S512x1024 .bf16) (a : Fin 64) (b : Fin 8) (d : Fin 1024) :
    k0_pay1 x w (ix2 (rw8 a b) d)
      = ∑ k : Fin 512, x (ix3 (⟨a.val % 2, by omega⟩ : Fin 2) (⟨a.val / 2, by omega⟩ : Fin 32) (⟨b.val * 512 + k.val, by omega⟩ : Fin 4096)) * w (ix2 k d) := by
  unfold k0_pay1
  pointwise
  refine Finset.sum_congr rfl fun k _ => ?_
  refine congrArg₂ (· * ·) (congrArg x ?_) rfl
  refine congr (congrArg₂ ix3 (Fin.ext ?_) (Fin.ext ?_)) (Fin.ext ?_)
  · show (a.val * 8 + b.val) / 8 % 2 = a.val % 2
    omega
  · show (a.val * 8 + b.val) / 16 = a.val / 2
    omega
  · show (a.val * 8 + b.val) % 8 * 512 + k.val = b.val * 512 + k.val
    omega

theorem unit_apply (x : Vec Ideal S512x1024 .bf16) (i : S512x1024.Idx) (s : EReal) :
    s * (k0_pay3 x i * (1 + Ideal.tanh (k0_pay5 (F := Ideal) i * k0_pay4 x i))) = s * Row.act (x i) := by
  unfold k0_pay3 k0_pay4 k0_pay5
  pointwise
  rw [Row.half_eq_bf16, Row.act, mul_comm Row.half (x i), mul_assoc]

end Cert.KernelIdeal.Tail
-- ==== Proof.Tail.ValSlot.lean ====
module

public import proofs.«01_k».proof.Proof.Tail.ValKernel

@[expose] public section

set_option maxRecDepth 16384

noncomputable section

/-! The kernel's grid step, row by row: the residuals, the feed-forward part and the last normalisation. -/

namespace Cert.KernelIdeal.Tail

open Cert.KernelIdeal.Gen
open Idealize.ShloMosaic
open Cert.Tail

section Step

variable (x0 x1 x2 : Vec Ideal S512x1024 .bf16) (x3 x4 : Vec Ideal S1x8x1024 .f32) (x5 : Vec Ideal S512x1024 .bf16)
  (x6 : Vec Ideal S512x2048 .bf16) (x7 : Vec Ideal S2x32x4096 .bf16) (x8 : Vec Ideal S512x1024 .f32)
  (x9 x10 x11 x12 : Vec Ideal S8x1024 .f32) (x13 x14 : Vec Ideal S1x1024 .f32) (x15 : Vec Ideal S1024x1024 .bf16)
  (x16 : Vec Ideal S512x1024 .bf16) (x17 : Vec Ideal S1024x1024 .bf16)
  (x18 : Vec Ideal S1024x4096 .bf16) (x19 : Vec Ideal S4096x1024 .bf16) (a : Fin 64) (b : Fin 8)

/-- The first residual of a row of the step. -/
def residAt : Row.R 1024 :=
  Row.resid (fun l => x0 (ix2 (rw8 a b) l)) (fun l => x1 (ix2 (rw8 a b) l)) (fun l => x2 (ix2 (rw8 a b) l))
    (fun l => x3 (ix3 0 b l)) (fun l => x4 (ix3 0 b l)) (fun l => x5 (ix2 (rw8 a b) l)) (fun l => x6 (ix2 (rw8 a b) l))
    (fun l => x7 (ix3 (⟨a.val % 2, by omega⟩ : Fin 2) (⟨a.val / 2, by omega⟩ : Fin 32) (⟨b.val * 512 + l.val, by omega⟩ : Fin 4096)))
    (fun l => x8 (ix2 (rw8 a b) l)) (fun l => x9 (ix2 b l)) (fun l k => x15 (ix2 l k)) (fun l k => x16 (ix2 l k)) (fun l k => x17 (ix2 l k))

theorem residAt_eq (d : Fin 1024) :
    addf (k0_pay6 x8) (gateVal x0 x1 x2 x3 x4 x5 x6 x7 x9 x15 x16 x17) (ix3 a b d)
      = residAt x0 x1 x2 x3 x4 x5 x6 x7 x8 x9 x15 x16 x17 a b d := by
  unfold gateVal k0_pay6 k0_pay7
  pointwise
  refine congrArg₂ (· + ·) rfl (congrArg₂ (· * ·) rfl (Finset.sum_congr rfl fun k _ => ?_))
  refine congrArg₂ (· * ·) ?_ rfl
  refine congrArg₂ (· + ·) (congrArg₂ (· * ·) (Row.logistic_of_tanh _) (Finset.sum_congr rfl fun l _ => ?_))
    (congrArg₂ (· * ·) (Row.logistic_of_tanh _) (pay1_apply x7 x16 a b k))
  refine congrArg₂ (· * ·) ?_ rfl
  exact (unit_apply x5 (ix2 (rw8 a b) l) _).trans (congrArg₂ (· * ·) (pay2_apply x3 x4 x0 x1 x2 a b l) rfl)

/-- The modulated row of a pair of summands. -/
theorem pay9_apply (v w : FVec Ideal S64x8x1024 .f32) (x : Row.R 1024) (hx : ∀ d, addf v w (ix3 a b d) = x d) (d : Fin 1024) :
    k0_pay9 v w x13 x11 x10 (ix2 (rw8 a b) d)
      = Row.modulated x (fun l => x13 (ix2 0 l)) (fun l => x10 (ix2 b l)) (fun l => x11 (ix2 b l)) d := by
  have ha : ∀ h, (⟨(rw8 a b).val / 8, h⟩ : Fin 64) = a := fun h => Fin.ext (by show (a.val * 8 + b.val) / 8 = a.val; omega)
  have hb : ∀ h, (⟨(rw8 a b).val % 8, h⟩ : Fin 8) = b := fun h => Fin.ext (by show (a.val * 8 + b.val) % 8 = b.val; omega)
  have hx' : ∀ d, v (ix3 a b d) + w (ix3 a b d) = x d := hx
  unfold k0_pay9 k0_pay8
  pointwise
  simp only [ha, hb, hx']
  rfl

theorem mlpVal_apply (v w : FVec Ideal S64x8x1024 .f32) (x : Row.R 1024) (hx : ∀ d, addf v w (ix3 a b d) = x d) (d : Fin 1024) :
    mlpVal v w x10 x11 x12 x13 x18 x19 (ix2 (rw8 a b) d)
      = Row.mlp x (Row.modulated x (fun l => x13 (ix2 0 l)) (fun l => x10 (ix2 b l)) (fun l => x11 (ix2 b l)))
          (fun l k => x18 (ix2 l k)) (fun l k => x19 (ix2 l k)) (fun l => x12 (ix2 b l)) d := by
  have ha : ∀ h, (⟨(rw8 a b).val / 8, h⟩ : Fin 64) = a := fun h => Fin.ext (by show (a.val * 8 + b.val) / 8 = a.val; omega)
  have hb : ∀ h, (⟨(rw8 a b).val % 8, h⟩ : Fin 8) = b := fun h => Fin.ext (by show (a.val * 8 + b.val) % 8 = b.val; omega)
  have hr : ∀ h, (⟨a.val * 8 + b.val, h⟩ : Fin 512) = rw8 a b := fun h => rfl
  have hx' : ∀ d, v (ix3 a b d) + w (ix3 a b d) = x d := hx
  unfold mlpVal k0_pay11 k0_pay10 k0_pay8
  pointwise
  simp only [ha, hb, hr, hx', pay9_apply x10 x11 x13 a b v w x hx]
  rw [Row.mlp, Row.sum_blocks]
  rfl

theorem slotVal_apply (d : Fin 1024) :
    slotVal x0 x1 x2 x3 x4 x5 x6 x7 x8 x9 x10 x11 x12 x13 x14 x15 x16 x17 x18 x19 (ix4 0 a b d)
      = Row.out (fun l => x0 (ix2 (rw8 a b) l)) (fun l => x1 (ix2 (rw8 a b) l)) (fun l => x2 (ix2 (rw8 a b) l))
          (fun l => x3 (ix3 0 b l)) (fun l => x4 (ix3 0 b l)) (fun l => x5 (ix2 (rw8 a b) l)) (fun l => x6 (ix2 (rw8 a b) l))
          (fun l => x7 (ix3 (⟨a.val % 2, by omega⟩ : Fin 2) (⟨a.val / 2, by omega⟩ : Fin 32) (⟨b.val * 512 + l.val, by omega⟩ : Fin 4096)))
          (fun l => x8 (ix2 (rw8 a b) l)) (fun l => x9 (ix2 b l)) (fun l => x10 (ix2 b l)) (fun l => x11 (ix2 b l)) (fun l => x12 (ix2 b l))
          (fun l => x13 (ix2 0 l)) (fun l => x14 (ix2 0 l)) (fun l k => x15 (ix2 l k)) (fun l k => x16 (ix2 l k)) (fun l k => x17 (ix2 l k))
          (fun l k => x18 (ix2 l k)) (fun l k => x19 (ix2 l k)) d := by
  have hr : ∀ h, (⟨a.val * 8 + b.val, h⟩ : Fin 512) = rw8 a b := fun h => rfl
  unfold slotVal k0_pay14 k0_pay12
  pointwise
  simp only [hr, mlpVal_apply x10 x11 x12 x13 x18 x19 a b _ _ _ (residAt_eq x0 x1 x2 x3 x4 x5 x6 x7 x8 x9 x15 x16 x17 a b)]
  rfl

end Step

end Cert.KernelIdeal.Tail
-- ==== Proof.Tail.Blocks.lean ====
module

public import proofs.«01_k».proof.Proof.Tail.Body
public import proofs.«01_k».proof.Proof.Tail.ValSlot
public import Idealize.ShloMosaic.Lib.Pipeline.ValueKit

@[expose] public section

set_option maxRecDepth 16384

noncomputable section

/-! What a grid step is given: its blocks of the arguments, entry by entry. -/

namespace Cert.KernelIdeal.Tail

open Cert.KernelIdeal.Gen
open Idealize.ShloMosaic Idealize.ShloMosaic.TcCoe
open Idealize.SL.Sem

theorem idx : ∀ t : Fin cfg0.N, win0_0.index t = ![t.val, 0] ∧ win0_1.index t = ![t.val, 0] ∧ win0_2.index t = ![t.val, 0]
    ∧ win0_3.index t = ![t.val, 0, 0] ∧ win0_4.index t = ![t.val, 0, 0] ∧ win0_5.index t = ![t.val, 0] ∧ win0_6.index t = ![t.val, 0]
    ∧ win0_7.index t = ![0, t.val, 0] ∧ win0_8.index t = ![t.val, 0] ∧ win0_9.index t = ![0, 2] ∧ win0_10.index t = ![0, 3]
    ∧ win0_11.index t = ![0, 4] ∧ win0_12.index t = ![0, 5] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] :=
  (by decide +kernel : ∀ t : Fin grid0.N, _)

variable (m : (ℓ : Loc nD τ sig) → Buf (Elt Ideal) ℓ) (c : Dev nD) (t : Fin cfg0.N) (a : Fin 64) (b : Fin 8)

theorem step_lt : t.val < 32 := t.isLt

/-- A row of an argument whose rows are laid out position by position, its samples together. -/
def flatRow : Fin 16384 := ⟨(64 * t.val + a.val) * 8 + b.val, by have := step_lt t; omega⟩

theorem blk0 (l : Fin 1024) : iblk m c 0 t (ix2 (rw8 a b) l) = m ((c.tc : Thread nD τ).loc main_arg0) (ix2 (flatRow t a b) l) := by
  unfold rw8 flatRow
  blk_ext! [iblk, V, idx t]

theorem blk1 (l : Fin 1024) : iblk m c 1 t (ix2 (rw8 a b) l) = m ((c.tc : Thread nD τ).loc main_arg1) (ix2 (flatRow t a b) l) := by
  unfold rw8 flatRow
  blk_ext! [iblk, V, idx t]

theorem blk2 (l : Fin 1024) : iblk m c 2 t (ix2 (rw8 a b) l) = m ((c.tc : Thread nD τ).loc main_arg2) (ix2 (flatRow t a b) l) := by
  unfold rw8 flatRow
  blk_ext! [iblk, V, idx t]

theorem blk5 (l : Fin 1024) : iblk m c 5 t (ix2 (rw8 a b) l) = m ((c.tc : Thread nD τ).loc main_arg5) (ix2 (flatRow t a b) l) := by
  unfold rw8 flatRow
  blk_ext! [iblk, V, idx t]

theorem blk8 (l : Fin 1024) : iblk m c 8 t (ix2 (rw8 a b) l) = m ((c.tc : Thread nD τ).loc main_arg8) (ix2 (flatRow t a b) l) := by
  unfold rw8 flatRow
  blk_ext! [iblk, V, idx t]

theorem blk6 (l : Fin 2048) : iblk m c 6 t (ix2 (rw8 a b) l) = m ((c.tc : Thread nD τ).loc main_arg6) (ix2 (flatRow t a b) l) := by
  unfold rw8 flatRow
  blk_ext! [iblk, V, idx t]

theorem blk3 (l : Fin 1024) : iblk m c 3 t (ix3 0 b l) = m ((c.tc : Thread nD τ).loc main_arg3) (ix3 (⟨t.val, step_lt t⟩ : Fin 32) b l) := by
  blk_ext! [iblk, V, idx t]

theorem blk4 (l : Fin 1024) : iblk m c 4 t (ix3 0 b l) = m ((c.tc : Thread nD τ).loc main_arg4) (ix3 (⟨t.val, step_lt t⟩ : Fin 32) b l) := by
  blk_ext! [iblk, V, idx t]

theorem blk7 (l : Fin 512) :
    iblk m c 7 t (ix3 (⟨a.val % 2, by omega⟩ : Fin 2) (⟨a.val / 2, by omega⟩ : Fin 32) (⟨b.val * 512 + l.val, by omega⟩ : Fin 4096))
      = m ((c.tc : Thread nD τ).loc main_arg7)
          (ix3 (⟨(64 * t.val + a.val) % 2, by omega⟩ : Fin 2) (⟨(64 * t.val + a.val) / 2, by have := step_lt t; omega⟩ : Fin 1024)
            (⟨b.val * 512 + l.val, by omega⟩ : Fin 4096)) := by
  blk_ext! [iblk, V, idx t]

theorem blk9 (l : Fin 1024) : iblk m c 9 t (ix2 b l) = m ((c.tc : Thread nD τ).loc main_arg9)
    (ix2 (⟨b.val, by omega⟩ : Fin 16) (⟨2048 + l.val, by omega⟩ : Fin 6144)) := by
  blk_ext! [iblk, V, idx t]

theorem blk10 (l : Fin 1024) : iblk m c 10 t (ix2 b l) = m ((c.tc : Thread nD τ).loc main_arg9)
    (ix2 (⟨b.val, by omega⟩ : Fin 16) (⟨3072 + l.val, by omega⟩ : Fin 6144)) := by
  blk_ext! [iblk, V, idx t]

theorem blk11 (l : Fin 1024) : iblk m c 11 t (ix2 b l) = m ((c.tc : Thread nD τ).loc main_arg9)
    (ix2 (⟨b.val, by omega⟩ : Fin 16) (⟨4096 + l.val, by omega⟩ : Fin 6144)) := by
  blk_ext! [iblk, V, idx t]

theorem blk12 (l : Fin 1024) : iblk m c 12 t (ix2 b l) = m ((c.tc : Thread nD τ).loc main_arg9)
    (ix2 (⟨b.val, by omega⟩ : Fin 16) (⟨5120 + l.val, by omega⟩ : Fin 6144)) := by
  blk_ext! [iblk, V, idx t]

theorem blk13 (l : Fin 1024) : iblk m c 13 t (ix2 0 l) = m ((c.tc : Thread nD τ).loc main_arg10) (ix2 0 l) := by
  blk_ext! [iblk, V, idx t]

theorem blk14 (l : Fin 1024) : iblk m c 14 t (ix2 0 l) = m ((c.tc : Thread nD τ).loc main_arg11) (ix1 l) := by
  blk_ext! [iblk, V, idx t]

theorem blk15 (l k : Fin 1024) : iblk m c 15 t (ix2 l k) = m ((c.tc : Thread nD τ).loc main_arg12) (ix2 l k) := by
  blk_ext! [iblk, V, idx t]

theorem blk16 (l : Fin 512) (k : Fin 1024) : iblk m c 16 t (ix2 l k) = m ((c.tc : Thread nD τ).loc main_arg13) (ix2 l k) := by
  blk_ext! [iblk, V, idx t]

theorem blk17 (l k : Fin 1024) : iblk m c 17 t (ix2 l k) = m ((c.tc : Thread nD τ).loc main_arg14) (ix2 l k) := by
  blk_ext! [iblk, V, idx t]

theorem blk18 (l : Fin 1024) (k : Fin 4096) : iblk m c 18 t (ix2 l k) = m ((c.tc : Thread nD τ).loc main_arg15) (ix2 l k) := by
  blk_ext! [iblk, V, idx t]

theorem blk19 (l : Fin 4096) (k : Fin 1024) : iblk m c 19 t (ix2 l k) = m ((c.tc : Thread nD τ).loc main_arg16) (ix2 l k) := by
  blk_ext! [iblk, V, idx t]

end Cert.KernelIdeal.Tail
-- ==== Proof.Tail.ValRef.lean ====
module

public import proofs.«01_k».proof.Proof.Gen.ReferenceIdeal.Run
public import proofs.«01_k».proof.Proof.Tail.Row

@[expose] public section

set_option maxRecDepth 16384

noncomputable section

/-! The reference, row by row: position `t` of sample `b`. -/

namespace Cert.ReferenceIdeal.Tail

open Cert.ReferenceIdeal Cert.ReferenceIdeal.Gen Cert.ReferenceIdeal.Value
open Idealize.ShloMosaic Idealize.ShloMosaic.TcCoe
open Cert.Tail

variable (V0 : Valuation τ sig (Elt Ideal)) (b : Fin 8) (t : Fin 2048)

/-- A row of an argument whose rows are laid out position by position, its samples together. -/
def flat : Fin 16384 := ⟨t.val * 8 + b.val, by omega⟩

theorem v33_apply (d : Fin 1024) : res_main_v33 V0 (ix3 b t d) = V0 (Proc.devRef .tc main_arg5) (ix2 (flat b t) d) := by
  unfold res_main_v33
  pointwise
  rfl

theorem v60_apply (d : Fin 2048) : res_main_v60 V0 (ix3 b t d) = Ideal.logistic (V0 (Proc.devRef .tc main_arg6) (ix2 (flat b t) d)) := by
  unfold res_main_v60
  pointwise
  rfl

/-- Column `d` of part `k` of sample `b`'s modulation. -/
def modAt (o : ℕ) (ho : o + 1024 ≤ 6144) : Row.R 1024 := fun l =>
  V0 (Proc.devRef .tc main_arg9) (ix2 (⟨b.val, by omega⟩ : Fin 16) (⟨o + l.val, by omega⟩ : Fin 6144))

/-- The first residual of a row of the reference. -/
def residAt : Row.R 1024 :=
  Row.resid (fun l => V0 (Proc.devRef .tc main_arg0) (ix2 (flat b t) l)) (fun l => V0 (Proc.devRef .tc main_arg1) (ix2 (flat b t) l))
    (fun l => V0 (Proc.devRef .tc main_arg2) (ix2 (flat b t) l))
    (fun l => V0 (Proc.devRef .tc main_arg3) (ix3 (⟨t.val / 64, by omega⟩ : Fin 32) b l))
    (fun l => V0 (Proc.devRef .tc main_arg4) (ix3 (⟨t.val / 64, by omega⟩ : Fin 32) b l))
    (fun l => V0 (Proc.devRef .tc main_arg5) (ix2 (flat b t) l)) (fun l => V0 (Proc.devRef .tc main_arg6) (ix2 (flat b t) l))
    (fun l => V0 (Proc.devRef .tc main_arg7) (ix3 (⟨t.val % 2, by omega⟩ : Fin 2) (⟨t.val / 2, by omega⟩ : Fin 1024) (⟨b.val * 512 + l.val, by omega⟩ : Fin 4096)))
    (fun l => V0 (Proc.devRef .tc main_arg8) (ix2 (flat b t) l)) (modAt V0 b 2048 (by omega))
    (fun l k => V0 (Proc.devRef .tc main_arg12) (ix2 l k)) (fun l k => V0 (Proc.devRef .tc main_arg13) (ix2 l k))
    (fun l k => V0 (Proc.devRef .tc main_arg14) (ix2 l k))

theorem v72_apply (d : Fin 1024) : res_main_v72 V0 (ix3 b t d) = residAt V0 b t d := by
  unfold res_main_v72
  pointwise
  simp only [v33_apply, v60_apply]
  rfl

theorem v95_apply (k : Fin 4096) :
    res_main_v95 V0 (ix3 b t k)
      = Row.hidden (Row.modulated (residAt V0 b t) (fun l => V0 (Proc.devRef .tc main_arg10) (ix2 0 l))
          (modAt V0 b 3072 (by omega)) (modAt V0 b 4096 (by omega))) (fun l k => V0 (Proc.devRef .tc main_arg15) (ix2 l k)) k := by
  unfold res_main_v95
  pointwise
  simp only [v72_apply]
  rfl

theorem v101_apply (d : Fin 1024) :
    res_main_v101 V0 (ix3 b t d)
      = Row.mlp (residAt V0 b t) (Row.modulated (residAt V0 b t) (fun l => V0 (Proc.devRef .tc main_arg10) (ix2 0 l))
          (modAt V0 b 3072 (by omega)) (modAt V0 b 4096 (by omega))) (fun l k => V0 (Proc.devRef .tc main_arg15) (ix2 l k))
          (fun l k => V0 (Proc.devRef .tc main_arg16) (ix2 l k)) (modAt V0 b 5120 (by omega)) d := by
  unfold res_main_v101
  pointwise
  simp only [v72_apply, v95_apply]
  rfl

/-- A row of the result. -/
def outAt : Row.R 1024 :=
  Row.ofArrays (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) b t

/-- Every run of the reference leaves the rows of `outAt`, and its arguments as they were. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD, ∀ (b : Fin 8) (t : Fin 2048) (d : Fin 1024),
      r.2.mem ((c.tc : Thread nD τ).loc main_v114) (ix3 b t d) = outAt (StableHlo.launchContents m c) b t d := by
  refine (θ_run defs _ _).mono (fun r h c b t d => ?_) (run (F := Ideal) m ρ)
  refine (congrFun (h c).1 (ix3 b t d)).trans ?_

  pointwise
  simp only [v101_apply]
  rfl

end Cert.ReferenceIdeal.Tail
-- ==== Proof.Tail.Value.lean ====
module

public import proofs.«01_k».proof.Proof.Tail.Frames
public import proofs.«01_k».proof.Proof.Tail.Blocks
public import proofs.«01_k».proof.Proof.Tail.ValRef

@[expose] public section

set_option maxRecDepth 16384

noncomputable section

/-! The tail's value: over the extended reals the kernel leaves what the reference leaves. -/

namespace Cert.KernelIdeal.Tail

open Cert.KernelIdeal.Gen
open Idealize.ShloMosaic Idealize.ShloMosaic.TcCoe
open Idealize.SL.Sem
open Cert.Tail

theorem final_chunk (m : (ℓ : Loc nD τ sig) → Buf (Elt Ideal) ℓ) (c : Dev nD) (u : Fin 32) (a : Fin 64) (b : Fin 8) (d : Fin 1024) :
    final m c (ix3 b (atChunk u a) d)
      = Row.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b (atChunk u a) d := by
  refine (final_res m c u b (ix2 a d)).trans ?_
  refine (slotVal_apply _ _ _ _ _ _ _ _ _ _ _ _ _ _ _ _ _ _ _ _ a b d).trans ?_
  have hu : ∀ h, (⟨(atChunk u a).val / 64, h⟩ : Fin 32) = u := fun h => Fin.ext (by show (64 * u.val + a.val) / 64 = u.val; omega)
  simp only [blk0, blk1, blk2, blk3, blk4, blk5, blk6, blk7, blk8, blk9, blk10, blk11, blk12, blk13, blk14, blk15, blk16, blk17, blk18, blk19]
  unfold Row.ofArrays
  simp only [hu]
  rfl

theorem final_apply (m : (ℓ : Loc nD τ sig) → Buf (Elt Ideal) ℓ) (c : Dev nD) (b : Fin 8) (p : Fin 2048) (d : Fin 1024) :
    final m c (ix3 b p d)
      = Row.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b p d := by
  have hp : p = atChunk ⟨p.val / 64, by omega⟩ ⟨p.val % 64, by omega⟩ := Fin.ext (by show p.val = 64 * (p.val / 64) + p.val % 64; omega)
  rw [hp]
  exact final_chunk m c _ _ b d

end Cert.KernelIdeal.Tail

namespace Cert.Tail

open Idealize.ShloMosaic Idealize.SL.Sem

/-- The kernel's result and the reference's are the same rows of the same arguments. -/
theorem algebraic : Cert.algebraic_KernelIdeal_ReferenceIdeal := by
  intro m g m' g' _ hargs
  refine ⟨fun c => Cert.KernelIdeal.Tail.final m c, ?_, ?_⟩
  · exact (θ_run Cert.KernelIdeal.defs _ _).mono (fun _ h => h.1) (Cert.KernelIdeal.Tail.run_result (F := Ideal) m g)
  · have hrun := θ_run_and (Cert.ReferenceIdeal.Tail.run_rows m' g') (Cert.ReferenceIdeal.Value.run (F := Ideal) m' g')
    refine (θ_run Cert.ReferenceIdeal.defs _ _).mono (fun r h c => ⟨?_, (h.2 c).2⟩) hrun
    funext j
    idx_vars j
    refine (h.1 c j0 j1 j2).trans ((Eq.trans ?_ (Cert.KernelIdeal.Tail.final_apply m c j0 j1 j2).symm))
    obtain ⟨h0, h1, h2, h3, h4, h5, h6, h7, h8, h9, h10, h11, h12, h13, h14, h15, h16⟩ := hargs c
    show Row.ofArrays (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) j0 j1 j2 = _
    rw [h0, h1, h2, h3, h4, h5, h6, h7, h8, h9, h10, h11, h12, h13, h14, h15, h16]

end Cert.Tail
-- ==== Proof.Mixer.Real.lean ====
module

public import proofs.«01_k».proof.Pre_finite_uf
public import Idealize.ShloMosaic.Lib.ReduceAll
public import Idealize.ShloMosaic.Lib.IdealHost
public import Idealize.ShloMosaic.Lib.Pipeline.ValueKit

@[expose] public section

/-! The precondition read: every element of the sample is a real number. -/

set_option maxRecDepth 16384

noncomputable section

namespace Cert.Mixer

open Idealize.ShloMosaic Cert.Pre_finite_uf

instance preFacts : Cert.Pre_finite_uf.Facts where
  bitsLt_bf16_f32 := by decide
  bcast_S_S2048x4096 := by decide
  reducesTo_S2048x4096_S_d0_1 := by decide
  h_S_ := by decide

theorem top_word : Ideal.ofBits .f32 0x7F800000#32 = (⊤ : EReal) := by
  simp [Ideal.ofBits, Ideal.ieee]

theorem real_of_finite (x : FVec Ideal S2048x4096 .bf16) (a1 : FVec Ideal S4x4x8x1024 .f32) (a2 : FVec Ideal S32x4x8x1024 .f32)
    (a3 : FVec Ideal S1x1024x1024 .f32) (a4 : FVec Ideal S1x512x1024 .f32) (a5 : FVec Ideal S1x1024x1024 .f32)
    (a6 : FVec Ideal S1x1024x4096 .f32) (a7 : FVec Ideal S1x4096x1024 .f32)
    (h : Cert.Pre_finite_uf.fn (F := Ideal) x a1 a2 a3 a4 a5 a6 a7 = fun _ => 1#1) :
    ∃ r : Fin 2048 → Fin 4096 → ℝ, ∀ t c, x (Idealize.ShloMosaic.ix2 t c) = ((r t c : ℝ) : EReal) := by
  have hall : ∀ t c, ∃ r : ℝ, x (Idealize.ShloMosaic.ix2 t c) = (r : EReal) := by
    intro t c
    unfold Cert.Pre_finite_uf.fn at h
    have h1 := Host.reduce_andi_all _ _ _ _ _ (congrFun h Idealize.ShloMosaic.ix0) (Idealize.ShloMosaic.ix2 t c)
    pointwise at h1
    have h2 : max (x (Idealize.ShloMosaic.ix2 t c)) (-x (Idealize.ShloMosaic.ix2 t c)) < (⊤ : EReal) := by
      rw [top_word] at h1
      by_contra hn
      have h3 : BitVec.ofBool (decide (max (x (Idealize.ShloMosaic.ix2 t c)) (-x (Idealize.ShloMosaic.ix2 t c)) < (⊤ : EReal))) = 1#1 := h1
      rw [decide_eq_false hn] at h3
      exact absurd h3 (by decide)
    obtain ⟨ha, hb⟩ := max_lt_iff.mp h2
    refine ⟨EReal.toReal (x (Idealize.ShloMosaic.ix2 t c)), (EReal.coe_toReal ha.ne ?_).symm⟩
    intro hbot
    rw [hbot] at hb
    exact absurd hb (by simp)
  choose r hr using hall
  exact ⟨r, hr⟩

end Cert.Mixer
-- ==== Proof.Mixer.Carry.lean ====
module

public import Idealize.ShloMosaic.Lib.Pointwise
public import Idealize.ShloMosaic.Lib.IdealHost

/-! The recurrence across the chunks of a sequence, at one lane of one sample. -/

@[expose] public section

noncomputable section

namespace Cert.Mixer

open Idealize.ShloMosaic

/-- The state before step `n`, from zero: each step multiplies the state and adds. -/
def carry (a b : ℕ → EReal) : ℕ → EReal
  | 0 => 0
  | n + 1 => a n * carry a b n + b n

/-- The steps of a lane: those of the context's four chunks, then those of the latents' thirty-two. -/
def steps (c : Fin 4 → EReal) (e : Fin 32 → EReal) (n : ℕ) : EReal :=
  if h : n < 4 then c ⟨n, h⟩ else if h' : n - 4 < 32 then e ⟨n - 4, h'⟩ else 0

/-- The state entering chunk `k` of the latents, going forwards. -/
def forth (ec : Fin 4 → Fin 4 → EReal) (el : Fin 32 → Fin 4 → EReal) (k : ℕ) : EReal :=
  carry (steps (fun i => ec i 1) (fun i => el i 1)) (steps (fun i => ec i 0) (fun i => el i 0)) (4 + k)

/-- The state entering after `k` chunks of the latents, going backwards. -/
def back (ec : Fin 4 → Fin 4 → EReal) (el : Fin 32 → Fin 4 → EReal) (k : ℕ) : EReal :=
  carry (steps (fun i => ec ⟨3 - i.val, by omega⟩ 3) (fun i => el ⟨31 - i.val, by omega⟩ 3))
    (steps (fun i => ec ⟨3 - i.val, by omega⟩ 2) (fun i => el ⟨31 - i.val, by omega⟩ 2)) (4 + k)

theorem forth_zero (ec : Fin 4 → Fin 4 → EReal) (el : Fin 32 → Fin 4 → EReal) :
    forth ec el 0 = ec 3 1 * (ec 2 1 * (ec 1 1 * (ec 0 1 * 0 + ec 0 0) + ec 1 0) + ec 2 0) + ec 3 0 := rfl

theorem forth_succ (ec : Fin 4 → Fin 4 → EReal) (el : Fin 32 → Fin 4 → EReal) (k : ℕ) (hk : k < 32) :
    forth ec el (k + 1) = el ⟨k, hk⟩ 1 * forth ec el k + el ⟨k, hk⟩ 0 := by
  have h : ∀ (c : Fin 4 → EReal) (e : Fin 32 → EReal), steps c e (4 + k) = e ⟨k, hk⟩ := by
    intro c e
    rw [steps, dif_neg (by omega), dif_pos (by omega)]
    exact congrArg e (Fin.ext (by dsimp only; omega))
  rw [forth, ← Nat.add_assoc, carry, h, h]
  rfl

theorem back_zero (ec : Fin 4 → Fin 4 → EReal) (el : Fin 32 → Fin 4 → EReal) :
    back ec el 0 = ec 0 3 * (ec 1 3 * (ec 2 3 * (ec 3 3 * 0 + ec 3 2) + ec 2 2) + ec 1 2) + ec 0 2 := rfl

theorem back_succ (ec : Fin 4 → Fin 4 → EReal) (el : Fin 32 → Fin 4 → EReal) (k : ℕ) (hk : k < 32) :
    back ec el (k + 1) = el ⟨31 - k, by omega⟩ 3 * back ec el k + el ⟨31 - k, by omega⟩ 2 := by
  have h : ∀ (c : Fin 4 → EReal) (e : Fin 32 → EReal), steps c e (4 + k) = e ⟨k, hk⟩ := by
    intro c e
    rw [steps, dif_neg (by omega), dif_pos (by omega)]
    exact congrArg e (Fin.ext (by dsimp only; omega))
  rw [back, ← Nat.add_assoc, carry, h, h]
  rfl

end Cert.Mixer
-- ==== Proof.Mixer.KerRecur.lean ====
module

public import proofs.«01_k».proof.Proof.Gen.Kernel2Ideal.Value
public import Idealize.ShloMosaic.Lib.Pipeline.ValueKit
public import proofs.«01_k».proof.Proof.Mixer.Carry

@[expose] public section

/-! The kernel's recurrence: the state entering each chunk, at a lane. -/

set_option maxRecDepth 16384

noncomputable section

namespace Cert.Kernel2Ideal.Mixer

open Idealize.ShloMosaic Idealize.ShloMosaic.TcCoe Cert.Kernel2Ideal Cert.Kernel2Ideal.Gen Cert.Kernel2Ideal.Value Cert.Mixer

/-- The context's ends, at a lane. -/
abbrev ecAt (m : (ℓ : Loc nD τ sig) → Buf (Elt Ideal) ℓ) (c : Dev nD) (b : Fin 8) (l : Fin 1024) (i q : Fin 4) : EReal :=
  m ((c.tc : Thread nD τ).loc main_arg1) (Idealize.ShloMosaic.ix4 i q b l)

/-- The latents' ends, at a lane. -/
abbrev elAt (m : (ℓ : Loc nD τ sig) → Buf (Elt Ideal) ℓ) (c : Dev nD) (b : Fin 8) (l : Fin 1024) (i : Fin 32) (q : Fin 4) : EReal :=
  m ((c.tc : Thread nD τ).loc main_arg2) (Idealize.ShloMosaic.ix4 i q b l)

set_option maxHeartbeats 40000000 in
theorem hf_block (m : (ℓ : Loc nD τ sig) → Buf (Elt Ideal) ℓ) (c : Dev nD) (t : Fin cfg0.N) (y : S32x8x128.Idx) :
    (outsAt0 m c t).2.1 y
      = forth (fun i q => iblk m c 4 t (Idealize.ShloMosaic.ix4 i q (y 1) (y 2)))
          (fun i q => iblk m c 5 t (Idealize.ShloMosaic.ix4 i q (y 1) (y 2))) (y 0).val := by
  frame_out
  generalize iblk m c 4 t = e4
  generalize iblk m c 5 t = e5
  canon_tiles x h
  all_goals
    idx_vars x
    have z : x0.val = 0 := by omega
    have e1 : y 1 = x1 := Fin.ext h1
    have e2 : y 2 = x2 := Fin.ext h2
    rw [z] at h0
    rw [e1, e2, h0]
    clear h0 h1 h2 e1 e2
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl

set_option maxHeartbeats 40000000 in
theorem hb_block (m : (ℓ : Loc nD τ sig) → Buf (Elt Ideal) ℓ) (c : Dev nD) (t : Fin cfg0.N) (y : S32x8x128.Idx) :
    (outsAt0 m c t).2.2.1 y
      = back (fun i q => iblk m c 4 t (Idealize.ShloMosaic.ix4 i q (y 1) (y 2)))
          (fun i q => iblk m c 5 t (Idealize.ShloMosaic.ix4 i q (y 1) (y 2))) (31 - (y 0).val) := by
  frame_out
  generalize iblk m c 4 t = e4
  generalize iblk m c 5 t = e5
  canon_tiles x h
  all_goals
    idx_vars x
    have z : x0.val = 0 := by omega
    have e1 : y 1 = x1 := Fin.ext h1
    have e2 : y 2 = x2 := Fin.ext h2
    rw [z] at h0
    rw [e1, e2, h0]
    clear h0 h1 h2 e1 e2
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl

end Cert.Kernel2Ideal.Mixer
-- ==== Proof.Mixer.Places.lean ====
module

public import proofs.«01_k».proof.Proof.Gen.Kernel2Ideal.Value

@[expose] public section

/-! Where the kernel's blocks lie. -/

set_option maxRecDepth 16384

noncomputable section

namespace Cert.Kernel2Ideal.Mixer

open Idealize.ShloMosaic Idealize.ShloMosaic.TcCoe Cert.Kernel2Ideal Cert.Kernel2Ideal.Gen Cert.Kernel2Ideal.Value
open Idealize.SL.Sem

theorem idxs : ∀ t : Fin cfg0.N, win0_0.index t = ![0, t.val] ∧ win0_4.index t = ![0, 0, 0, t.val]
    ∧ win0_5.index t = ![0, 0, 0, t.val] ∧ win0_6.index t = ![t.val, 0] ∧ win0_7.index t = ![t.val, 0]
    ∧ win0_8.index t = ![t.val, 0] ∧ win0_9.index t = ![t.val, 0] ∧ win0_10.index t = ![t.val, 0]
    ∧ win0_11.index t = ![0, 0, t.val] ∧ win0_12.index t = ![0, 0, t.val] ∧ win0_13.index t = ![0, 0, t.val]
    ∧ win0_14.index t = ![t.val, 0] ∧ win0_15.index t = ![t.val, 0] ∧ win0_16.index t = ![t.val, 0]
    ∧ win0_17.index t = ![t.val, 0] ∧ win0_18.index t = ![t.val, 0] := by
  decide +kernel

end Cert.Kernel2Ideal.Mixer
-- ==== Proof.Mixer.OutRecur.lean ====
module

public import proofs.«01_k».proof.Proof.Mixer.KerRecur
public import proofs.«01_k».proof.Proof.Mixer.Places

@[expose] public section

/-! What the kernel leaves in its result arrays. -/

set_option maxRecDepth 16384

noncomputable section

namespace Cert.Kernel2Ideal.Mixer

open Idealize.ShloMosaic Idealize.ShloMosaic.TcCoe Cert.Kernel2Ideal Cert.Kernel2Ideal.Gen Cert.Kernel2Ideal.Value Cert.Mixer
open Idealize.SL.Sem

variable (m : (ℓ : Loc nD τ sig) → Buf (Elt Ideal) ℓ) (c : Dev nD)

set_option maxHeartbeats 40000000 in
theorem hf_array : (dats m 0 c).arrAt 12 cfg0.N
    = fun y => forth (fun i q => ecAt m c (y 1) (y 2) i q) (fun i q => elAt m c (y 1) (y 2) i q) (y 0).val := by
  refine (dats m 0 c).arrAt_eq_of_covers 12 _ (by decide +kernel) fun t hf y => ?_
  blk_simp
  rw [after0_12, hf_block]
  refine congr (congr (congrArg forth (funext fun i => funext fun q => ?_)) (funext fun i => funext fun q => ?_)) ?_
  · blk_ext! [iblk, V, idxs t]
  · blk_ext! [iblk, V, idxs t]
  · obtain ⟨h0, h4, h5, h6, h7, h8, h9, h10, h11, h12, h13, h14, h15, h16, h17, h18⟩ := idxs t
    rw [h12]
    show _ = 0 * 32 + (y 0).val
    omega

set_option maxHeartbeats 40000000 in
theorem hb_array : (dats m 0 c).arrAt 13 cfg0.N
    = fun y => back (fun i q => ecAt m c (y 1) (y 2) i q) (fun i q => elAt m c (y 1) (y 2) i q) (31 - (y 0).val) := by
  refine (dats m 0 c).arrAt_eq_of_covers 13 _ (by decide +kernel) fun t hf y => ?_
  blk_simp
  rw [after0_13, hb_block]
  refine congr (congr (congrArg back (funext fun i => funext fun q => ?_)) (funext fun i => funext fun q => ?_)) ?_
  · blk_ext! [iblk, V, idxs t]
  · blk_ext! [iblk, V, idxs t]
  · obtain ⟨h0, h4, h5, h6, h7, h8, h9, h10, h11, h12, h13, h14, h15, h16, h17, h18⟩ := idxs t
    rw [h13]
    show _ = (31 - (0 * 32 + (y 0).val))
    omega

end Cert.Kernel2Ideal.Mixer
-- ==== Proof.Mixer.Trig.lean ====
module

public import Idealize.ShloMosaic.Lib.IdealHost
public import Mathlib.Analysis.SpecialFunctions.Trigonometric.Basic
public import Mathlib.Analysis.SpecialFunctions.Trigonometric.Inverse

/-! The real discrete Fourier transform behind the mixer: positions folded in halves, frequencies mirrored. -/

@[expose] public section

noncomputable section

namespace Cert.Mixer

open Finset

/-- `cos (2πk/n)` -/
def cosT (n k : ℕ) : ℝ := Real.cos (2 * Real.pi * k / n)

/-- `sin (2πk/n)` -/
def sinT (n k : ℕ) : ℝ := Real.sin (2 * Real.pi * k / n)

theorem angle_mod (n k : ℕ) (hn : 0 < n) :
    2 * Real.pi * k / n = 2 * Real.pi / n * ((k % n : ℕ) : ℝ) + (k / n : ℕ) * (2 * Real.pi) := by
  have hn' : (n : ℝ) ≠ 0 := by positivity
  have h : (k : ℝ) = n * (k / n : ℕ) + (k % n : ℕ) := by exact_mod_cast (Nat.div_add_mod k n).symm
  rw [h]
  field_simp
  ring

theorem cosT_mod (n k : ℕ) (hn : 0 < n) : Real.cos (2 * Real.pi / n * ((k % n : ℕ) : ℝ)) = cosT n k := by
  rw [cosT, angle_mod n k hn, Real.cos_add_nat_mul_two_pi]

theorem sinT_mod (n k : ℕ) (hn : 0 < n) : Real.sin (2 * Real.pi / n * ((k % n : ℕ) : ℝ)) = sinT n k := by
  rw [sinT, angle_mod n k hn, Real.sin_add_nat_mul_two_pi]

theorem angle_half (s t : ℕ) :
    2 * Real.pi * ((s * (1024 + t) : ℕ) : ℝ) / ((2048 : ℕ) : ℝ)
      = 2 * Real.pi * ((s * t : ℕ) : ℝ) / ((2048 : ℕ) : ℝ) + s * Real.pi := by
  push_cast
  ring

theorem cosT_half (s t : ℕ) : cosT 2048 (s * (1024 + t)) = (-1) ^ s * cosT 2048 (s * t) := by
  rw [cosT, cosT, angle_half, Real.cos_add_nat_mul_pi]

theorem sinT_half (s t : ℕ) : sinT 2048 (s * (1024 + t)) = (-1) ^ s * sinT 2048 (s * t) := by
  rw [sinT, sinT, angle_half, Real.sin_add_nat_mul_pi]

theorem angle_mirror (s s' t : ℕ) (h : s + s' = 2048) :
    2 * Real.pi * ((s' * t : ℕ) : ℝ) / ((2048 : ℕ) : ℝ)
      = t * (2 * Real.pi) - 2 * Real.pi * ((s * t : ℕ) : ℝ) / ((2048 : ℕ) : ℝ) := by
  have h' : (s' : ℝ) = 2048 - s := by
    rw [eq_sub_iff_add_eq']
    exact_mod_cast h
  push_cast
  rw [h']
  ring

theorem cosT_mirror (s s' t : ℕ) (h : s + s' = 2048) : cosT 2048 (s' * t) = cosT 2048 (s * t) := by
  rw [cosT, cosT, angle_mirror s s' t h, Real.cos_nat_mul_two_pi_sub]

theorem sinT_mirror (s s' t : ℕ) (h : s + s' = 2048) : sinT 2048 (s' * t) = -sinT 2048 (s * t) := by
  rw [sinT, sinT, angle_mirror s s' t h, Real.sin_nat_mul_two_pi_sub]

/-- the channels' sum at a position -/
def chan (g : ℕ → ℕ → ℝ) (x : Fin 128 → ℝ) (d : ℕ) : ℝ := ∑ c : Fin 128, x c * g 128 (c.val * d)

/-- the positions' sum of the channels' sums -/
def spec (g : ℕ → ℕ → ℝ) (x : Fin 2048 → Fin 128 → ℝ) (s d : ℕ) : ℝ :=
  ∑ t : Fin 2048, g 2048 (s * t.val) * chan g (x t) d

/-- the real part of the transform in two dimensions, at position frequency `s` and channel frequency `d` -/
def mix (x : Fin 2048 → Fin 128 → ℝ) (s d : ℕ) : ℝ := (spec cosT x s d - spec sinT x s d) / 512

theorem scale : Real.sqrt 128 * Real.sqrt 2048 = 512 := by
  rw [← Real.sqrt_mul (by norm_num), show (128 * 2048 : ℝ) = 512 ^ 2 by norm_num, Real.sqrt_sq (by norm_num)]

/-- the two halves of the positions, with the tables scaled -/
def fold (g : ℕ → ℕ → ℝ) (x : Fin 2048 → Fin 128 → ℝ) (s d : ℕ) : ℝ :=
  ∑ t : Fin 1024, g 2048 (s * t.val) / Real.sqrt 2048
    * ((∑ c : Fin 128, x ⟨t.val, by omega⟩ c * (g 128 (c.val * d) / Real.sqrt 128))
      + (-1) ^ s * ∑ c : Fin 128, x ⟨1024 + t.val, by omega⟩ c * (g 128 (c.val * d) / Real.sqrt 128))

theorem fold_eq (g : ℕ → ℕ → ℝ) (x : Fin 2048 → Fin 128 → ℝ) (s d : ℕ)
    (hg : ∀ t, g 2048 (s * (1024 + t)) = (-1) ^ s * g 2048 (s * t)) : fold g x s d = spec g x s d / 512 := by
  have hs : spec g x s d = ∑ t : Fin 1024, (g 2048 (s * t.val) * chan g (x ⟨t.val, by omega⟩) d
      + g 2048 (s * (1024 + t.val)) * chan g (x ⟨1024 + t.val, by omega⟩) d) := by
    rw [sum_add_distrib]
    exact Fin.sum_univ_add (a := 1024) (b := 1024)
      (fun t : Fin (1024 + 1024) => g 2048 (s * t.val) * chan g (x t) d)
  have hc : ∀ y : Fin 128 → ℝ, (∑ c : Fin 128, y c * (g 128 (c.val * d) / Real.sqrt 128)) = chan g y d / Real.sqrt 128 := by
    intro y
    rw [chan, sum_div]
    exact sum_congr rfl fun c _ => by ring
  rw [hs, fold, sum_div]
  refine sum_congr rfl fun t _ => ?_
  rw [hc, hc, hg, ← scale]
  have h1 : Real.sqrt 128 ≠ 0 := by positivity
  have h2 : Real.sqrt 2048 ≠ 0 := by positivity
  field_simp

theorem fold_sub (x : Fin 2048 → Fin 128 → ℝ) (s d : ℕ) : fold cosT x s d - fold sinT x s d = mix x s d := by
  rw [fold_eq _ _ _ _ (cosT_half s), fold_eq _ _ _ _ (sinT_half s), mix, sub_div]

theorem fold_add (x : Fin 2048 → Fin 128 → ℝ) (s s' d : ℕ) (h : s + s' = 2048) :
    fold cosT x s d + fold sinT x s d = mix x s' d := by
  rw [fold_eq _ _ _ _ (cosT_half s), fold_eq _ _ _ _ (sinT_half s), mix, sub_div]
  have hc : spec cosT x s' d = spec cosT x s d := by
    simp only [spec, cosT_mirror s s' _ h]
  have hn : spec sinT x s' d = -spec sinT x s d := by
    simp only [spec, sinT_mirror s s' _ h, neg_mul, sum_neg_distrib]
  rw [hc, hn]
  ring

end Cert.Mixer
-- ==== Proof.Mixer.Angle.lean ====
module

public import Idealize.ShloMosaic.Lib.Pointwise
public import Idealize.ShloMosaic.Lib.IdealHost
public import Idealize.ShloMosaic.Lib.Affine
public import Idealize.ShloMosaic.Lib.Routing.BitFacts
public import proofs.«01_k».proof.Proof.Mixer.Trig

@[expose] public section

/-! The angles of both programs' tables, and the transform over the extended reals at real arguments. -/

set_option maxRecDepth 16384

noncomputable section

namespace Cert.Mixer

open Idealize.ShloMosaic

theorem two_eq : Ideal.ofBits .f32 1073741824#32 = ((2 : ℝ) : EReal) := by
  simp [Ideal.ofBits, Ideal.ieee, -EReal.coe_mul]
  norm_num

theorem one_eq : Ideal.ofBits .f32 0x3F800000#32 = ((1 : ℝ) : EReal) := by
  simp [Ideal.ofBits, Ideal.ieee, -EReal.coe_mul]
  norm_num

theorem f128_eq : Ideal.ofBits .f32 1124073472#32 = ((128 : ℝ) : EReal) := by
  simp [Ideal.ofBits, Ideal.ieee, -EReal.coe_mul]
  norm_num

theorem f512_eq : Ideal.ofBits .f32 1140850688#32 = ((512 : ℝ) : EReal) := by
  simp [Ideal.ofBits, Ideal.ieee, -EReal.coe_mul]
  norm_num

theorem f2048_eq : Ideal.ofBits .f32 1157627904#32 = ((2048 : ℝ) : EReal) := by
  simp [Ideal.ofBits, Ideal.ieee, -EReal.coe_mul]
  norm_num

theorem pi_eq : Ideal.acos (Ideal.ofBits .f32 3212836864#32) = ((Real.pi : ℝ) : EReal) := by
  have h : Ideal.ofBits .f32 3212836864#32 = ((-1 : ℝ) : EReal) := by
    simp [Ideal.ofBits, Ideal.ieee, -EReal.coe_mul]
    norm_num
  rw [h, Ideal.acos_coe, if_pos (by norm_num), Real.arccos_neg_one]

theorem toInt_ofNat (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

theorem div_real (x y : ℝ) (h : y ≠ 0) : Ideal.div (x : EReal) (y : EReal) = ((x / y : ℝ) : EReal) := by
  rw [Ideal.div_coe h, ← EReal.coe_mul, mul_one_div]

theorem mul_word (a b : ℕ) : IntOp.muli (BitVec.ofNat 32 a) (BitVec.ofNat 32 b) = BitVec.ofNat 32 (a * b) :=
  (BitVec.ofNat_mul a b).symm

theorem float_word (n : ℕ) (h : n < 2 ^ 31) :
    FloatOps.sitofp (F := Ideal) FTy.f32 (BitVec.ofNat 32 n) = ((n : ℝ) : EReal) := by
  show ((((BitVec.ofNat 32 n).toInt : ℤ) : ℝ) : EReal) = _
  rw [toInt_ofNat n h]
  norm_num

/-- The reference's angle at row `a` and column `b` of a table of `n`. -/
theorem angle_ref (a b n : ℕ) (N : EReal) (hN : N = ((n : ℝ) : EReal)) (hn : 0 < n) (h : a * b < 2 ^ 31) :
    Ideal.div (Ideal.ofBits FTy.f32 1073741824#32 * Ideal.acos (Ideal.ofBits FTy.f32 3212836864#32)
        * FloatOps.sitofp (F := Ideal) FTy.f32 (IntOp.muli (BitVec.ofNat 32 a) (BitVec.ofNat 32 b))) N
      = ((2 * Real.pi * ((a * b : ℕ) : ℝ) / n : ℝ) : EReal) := by
  have hn' : (n : ℝ) ≠ 0 := by positivity
  rw [hN, two_eq, pi_eq, mul_word, float_word _ h, ← EReal.coe_mul, ← EReal.coe_mul, div_real _ _ hn']

theorem cos_ref (a b n : ℕ) (N : EReal) (hN : N = ((n : ℝ) : EReal)) (hn : 0 < n) (h : a * b < 2 ^ 31) :
    Ideal.cos (Ideal.div (Ideal.ofBits FTy.f32 1073741824#32 * Ideal.acos (Ideal.ofBits FTy.f32 3212836864#32)
        * FloatOps.sitofp (F := Ideal) FTy.f32 (IntOp.muli (BitVec.ofNat 32 a) (BitVec.ofNat 32 b))) N) = ((cosT n (a * b) : ℝ) : EReal) := by
  rw [angle_ref a b n N hN hn h, Ideal.cos_coe, cosT]

theorem sin_ref (a b n : ℕ) (N : EReal) (hN : N = ((n : ℝ) : EReal)) (hn : 0 < n) (h : a * b < 2 ^ 31) :
    Ideal.sin (Ideal.div (Ideal.ofBits FTy.f32 1073741824#32 * Ideal.acos (Ideal.ofBits FTy.f32 3212836864#32)
        * FloatOps.sitofp (F := Ideal) FTy.f32 (IntOp.muli (BitVec.ofNat 32 a) (BitVec.ofNat 32 b))) N) = ((sinT n (a * b) : ℝ) : EReal) := by
  rw [angle_ref a b n N hN hn h, Ideal.sin_coe, sinT]

theorem add_word (a b : ℕ) : IntOp.addi (BitVec.ofNat 32 a) (BitVec.ofNat 32 b) = BitVec.ofNat 32 (a + b) :=
  (BitVec.ofNat_add a b).symm

theorem rem_word (a n : ℕ) (ha : a < 2 ^ 31) (hn : 0 < n) (hn' : n < 2 ^ 31) :
    IntOp.remsi ArithUnit.host (BitVec.ofNat 32 a) (BitVec.ofNat 32 n) = BitVec.ofNat 32 (a % n) := by
  have hc : ¬IntOp.SDivCorner (BitVec.ofNat 32 a) (BitVec.ofNat 32 n) :=
    IntOp.not_corner_of_pos (by rw [toInt_ofNat n hn']; exact_mod_cast hn)
  rw [IntOp.remsi, if_neg hc, Routing.srem_ofNat32 ha hn']

/-- The kernel's angle, from the product of its row and column reduced modulo `n`. -/
theorem angle_ker (a n : ℕ) (w : BitVec 32) (hw : w = BitVec.ofNat 32 a) (v : BitVec 32) (hv : v = BitVec.ofNat 32 n)
    (N : EReal) (hN : N = ((n : ℝ) : EReal)) (hn : 0 < n) (hn' : n < 2 ^ 31) (ha : a < 2 ^ 31) :
    Ideal.div (Ideal.ofBits FTy.f32 1073741824#32 * Ideal.acos (Ideal.ofBits FTy.f32 3212836864#32)) N
        * FloatOps.sitofp (F := Ideal) FTy.f32 (IntOp.remsi ArithUnit.host w v)
      = ((2 * Real.pi / n * ((a % n : ℕ) : ℝ) : ℝ) : EReal) := by
  have hn'' : (n : ℝ) ≠ 0 := by positivity
  rw [hw, hv, rem_word a n ha hn hn', hN, two_eq, pi_eq,
    float_word _ (lt_of_le_of_lt (Nat.mod_le a n) ha), ← EReal.coe_mul, div_real _ _ hn'', ← EReal.coe_mul]

theorem sqrt_real (x : ℝ) (h : 0 ≤ x) : Ideal.sqrt (x : EReal) = ((Real.sqrt x : ℝ) : EReal) := by
  rw [Ideal.sqrt_coe, if_neg (not_lt.mpr h)]

/-- An entry of the kernel's tables of cosines. -/
theorem cos_ker (a n : ℕ) (w : BitVec 32) (hw : w = BitVec.ofNat 32 a) (v : BitVec 32) (hv : v = BitVec.ofNat 32 n)
    (N : EReal) (hN : N = ((n : ℝ) : EReal)) (hn : 0 < n) (hn' : n < 2 ^ 31) (ha : a < 2 ^ 31) :
    Ideal.div (Ideal.cos (Ideal.div (Ideal.ofBits FTy.f32 1073741824#32 * Ideal.acos (Ideal.ofBits FTy.f32 3212836864#32)) N
        * FloatOps.sitofp (F := Ideal) FTy.f32 (IntOp.remsi ArithUnit.host w v))) (Ideal.sqrt N)
      = ((cosT n a / Real.sqrt n : ℝ) : EReal) := by
  have hp : (0 : ℝ) < n := by exact_mod_cast hn
  rw [angle_ker a n w hw v hv N hN hn hn' ha, Ideal.cos_coe, cosT_mod n a hn, hN, sqrt_real _ hp.le,
    div_real _ _ (Real.sqrt_pos.mpr hp).ne']

/-- An entry of the kernel's tables of sines. -/
theorem sin_ker (a n : ℕ) (w : BitVec 32) (hw : w = BitVec.ofNat 32 a) (v : BitVec 32) (hv : v = BitVec.ofNat 32 n)
    (N : EReal) (hN : N = ((n : ℝ) : EReal)) (hn : 0 < n) (hn' : n < 2 ^ 31) (ha : a < 2 ^ 31) :
    Ideal.div (Ideal.sin (Ideal.div (Ideal.ofBits FTy.f32 1073741824#32 * Ideal.acos (Ideal.ofBits FTy.f32 3212836864#32)) N
        * FloatOps.sitofp (F := Ideal) FTy.f32 (IntOp.remsi ArithUnit.host w v))) (Ideal.sqrt N)
      = ((sinT n a / Real.sqrt n : ℝ) : EReal) := by
  have hp : (0 : ℝ) < n := by exact_mod_cast hn
  rw [angle_ker a n w hw v hv N hN hn hn' ha, Ideal.sin_coe, sinT_mod n a hn, hN, sqrt_real _ hp.le,
    div_real _ _ (Real.sqrt_pos.mpr hp).ne']

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Mixer
-- ==== Proof.Mixer.Tables.lean ====
module

public import proofs.«01_k».proof.Proof.Gen.Kernel2Ideal.Value
public import Idealize.ShloMosaic.Lib.Pipeline.ValueKit
public import Idealize.ShloMosaic.Lib.Claim
public import Idealize.ShloMosaic.Lib.StableHlo.ReadAt
public import proofs.«01_k».proof.Proof.Mixer.Angle

@[expose] public section

/-! The kernel's three tables, at an index. -/

set_option maxRecDepth 16384

noncomputable section

namespace Cert.Kernel2Ideal.Mixer

open Idealize.ShloMosaic Idealize.ShloMosaic.TcCoe Cert.Kernel2Ideal Cert.Kernel2Ideal.Gen Cert.Kernel2Ideal.Value Cert.Mixer

variable (m : (ℓ : Loc nD τ sig) → Buf (Elt Ideal) ℓ) (c : Dev nD) (t : Fin cfg0.N)

theorem idx : ∀ t : Fin cfg0.N, win0_1.index t = ![0, 0] ∧ win0_2.index t = ![0, 0, 0, 0] ∧ win0_3.index t = ![0, 0, 0] := by
  decide +kernel

/-- The channels' table: cosines, then sines. -/
def chanT (k d : ℕ) : ℝ :=
  if d < 128 then cosT 128 (k * d) / Real.sqrt 128 else sinT 128 (k * (d - 128)) / Real.sqrt 128

/-- The positions' tables of parity `p`, cosines at `q = 0` and sines at `q = 1`. -/
def timeT (p q k d : ℕ) : ℝ :=
  if k + p < 513 then
    (if q < 1 then cosT 2048 ((2 * k + p) * d) / Real.sqrt 2048 else sinT 2048 ((2 * k + p) * d) / Real.sqrt 2048)
  else 0

/-- The mirror of parity `p`. -/
def flipT (p k d : ℕ) : ℝ := if d + p + k = 512 then 1 else 0

theorem chan_at (k : Fin 128) (d : Fin 256) :
    iblk m c 1 t (Idealize.ShloMosaic.ix2 k d) = V m c main_v56 (Idealize.ShloMosaic.ix2 k d) := by
  blk_ext [iblk, idx t]

theorem small_mul {a b A B : ℕ} (ha : a ≤ A) (hb : b ≤ B) (h : A * B < 2 ^ 31) : a * b < 2 ^ 31 :=
  lt_of_le_of_lt (Nat.mul_le_mul ha hb) h

theorem chan_val (k : Fin 128) (d : Fin 256) :
    V m c main_v56 (Idealize.ShloMosaic.ix2 k d) = ((chanT k.val d.val : ℝ) : EReal) := by
  unfold V
  after_reads_at
  split <;> after_reads_at
  · rename_i h
    rw [cos_ker (k.val * d.val) 128 _ (mul_word _ _) _ rfl _ f128_eq (by decide) (by decide)
      (small_mul k.isLt.le d.isLt.le (by decide)), chanT, if_pos h, Nat.cast_ofNat]
  · rename_i h
    rw [sin_ker (k.val * (d.val - 128)) 128 _ (mul_word _ _) _ rfl _ f128_eq (by decide) (by decide)
      (small_mul (B := 256) k.isLt.le (by omega) (by decide)), chanT, if_neg h, Nat.cast_ofNat]

theorem flip_at (p : Fin 2) (k : Fin 512) (d : Fin 528) :
    iblk m c 3 t (Idealize.ShloMosaic.ix3 p k d) = V m c main_v58 (Idealize.ShloMosaic.ix3 p k d) := by
  blk_ext [iblk, idx t]

theorem flip_word (p k d : ℕ) (hp : p < 2) (hk : k < 512) (hd : d < 528) :
    IntOp.cmpi CmpIPredicate.eq (BitVec.ofNat 32 d)
        (IntOp.subi (IntOp.subi (512#32) (BitVec.ofNat 32 p)) (BitVec.ofNat 32 k)) = 1 ↔ d + p + k = 512 := by
  have h1 : IntOp.subi (512#32) (BitVec.ofNat 32 p) = BitVec.ofNat 32 (512 - p) :=
    Routing.ofNat32_sub (a := 512) (by omega)
  rw [h1]
  have h2 : IntOp.subi (BitVec.ofNat 32 (512 - p)) (BitVec.ofNat 32 k) = BitVec.ofNat 32 (512 + 4294967296 - p - k) := by
    apply BitVec.eq_of_toNat_eq
    simp only [IntOp.subi, BitVec.toNat_sub, BitVec.toNat_ofNat]
    omega
  rw [h2]
  have h3 : (BitVec.ofNat 32 d == BitVec.ofNat 32 (512 + 4294967296 - p - k)) = decide (d + p + k = 512) := by
    rw [Bool.eq_iff_iff, beq_iff_eq, decide_eq_true_iff, ← BitVec.toNat_inj, BitVec.toNat_ofNat, BitVec.toNat_ofNat]
    omega
  show BitVec.ofBool (BitVec.ofNat 32 d == BitVec.ofNat 32 (512 + 4294967296 - p - k)) = 1 ↔ _
  rw [h3]
  by_cases h : d + p + k = 512 <;> simp [h]

theorem flip_val (p : Fin 2) (k : Fin 512) (d : Fin 528)  :
    V m c main_v58 (Idealize.ShloMosaic.ix3 p k d) = ((flipT p.val k.val d.val : ℝ) : EReal) := by
  unfold V
  after_reads_at
  rw [Scalar.select, flipT]
  by_cases h : d.val + p.val + k.val = 512
  · rw [if_pos ((flip_word _ _ _ p.isLt k.isLt d.isLt).mpr h), if_pos h, EReal.coe_one]
  · rw [if_neg (mt (flip_word _ _ _ p.isLt k.isLt d.isLt).mp h), if_neg h, EReal.coe_zero]

theorem time_at (p : Fin 2) (q : Fin 2) (k : Fin 528) (d : Fin 1024) :
    iblk m c 2 t (Idealize.ShloMosaic.ix4 p q k d) = V m c main_v57 (Idealize.ShloMosaic.ix4 p q k d) := by
  blk_ext [iblk, idx t]

theorem time_word (p k : ℕ) (hp : p < 2) (hk : k < 528) :
    IntOp.cmpi CmpIPredicate.slt (BitVec.ofNat 32 k) (IntOp.subi (513#32) (BitVec.ofNat 32 p)) = 1 ↔ k + p < 513 := by
  have h1 : IntOp.subi (513#32) (BitVec.ofNat 32 p) = BitVec.ofNat 32 (513 - p) :=
    Routing.ofNat32_sub (a := 513) (by omega)
  rw [h1]
  have h3 : (BitVec.ofNat 32 k).slt (BitVec.ofNat 32 (513 - p)) = decide (k + p < 513) := by
    rw [BitVec.slt, toInt_ofNat _ (by omega), toInt_ofNat _ (by omega)]
    exact decide_eq_decide.mpr (by omega)
  show BitVec.ofBool ((BitVec.ofNat 32 k).slt (BitVec.ofNat 32 (513 - p))) = 1 ↔ _
  rw [h3]
  by_cases h : k + p < 513 <;> simp [h]

theorem time_index (p k d : ℕ) :
    IntOp.muli (IntOp.addi (IntOp.muli (2#32) (BitVec.ofNat 32 k)) (BitVec.ofNat 32 p)) (BitVec.ofNat 32 d)
      = BitVec.ofNat 32 ((2 * k + p) * d) := by
  rw [show IntOp.muli (2#32) (BitVec.ofNat 32 k) = BitVec.ofNat 32 (2 * k) from mul_word 2 k, add_word, mul_word]

theorem time_val (p : Fin 2) (q : Fin 2) (k : Fin 528) (d : Fin 1024) :
    V m c main_v57 (Idealize.ShloMosaic.ix4 p q k d) = ((timeT p.val q.val k.val d.val : ℝ) : EReal) := by
  have hb : (2 * k.val + p.val) * d.val < 2 ^ 31 := small_mul (A := 2048) (B := 1024) (by omega) (by omega) (by decide)
  have hz : id (constant (F := Ideal) S_ FTy.f32 0#32) ix0 = ((0 : ℝ) : EReal) := by
    show Ideal.ofBits .f32 0#32 = _
    simp [Ideal.ofBits, Ideal.ieee]
  unfold V
  after_reads_at
  split <;> after_reads_at
  · rename_i h
    rw [cos_ker ((2 * k.val + p.val) * d.val) 2048 _ (time_index _ _ _) _ rfl _ f2048_eq (by decide) (by decide) hb,
      Scalar.select, timeT, if_pos h, Nat.cast_ofNat]
    by_cases h' : k.val + p.val < 513
    · rw [if_pos ((time_word _ _ p.isLt k.isLt).mpr h'), if_pos h']
    · rw [if_neg (mt (time_word _ _ p.isLt k.isLt).mp h'), if_neg h']
      exact hz
  · rename_i h
    rw [sin_ker ((2 * k.val + p.val) * d.val) 2048 _ (time_index _ _ _) _ rfl _ f2048_eq (by decide) (by decide) hb,
      Scalar.select, timeT, if_neg h, Nat.cast_ofNat]
    by_cases h' : k.val + p.val < 513
    · rw [if_pos ((time_word _ _ p.isLt k.isLt).mpr h'), if_pos h']
    · rw [if_neg (mt (time_word _ _ p.isLt k.isLt).mp h'), if_neg h']
      exact hz

end Cert.Kernel2Ideal.Mixer
-- ==== Proof.Mixer.KerFourier.lean ====
module

public import proofs.«01_k».proof.Proof.Gen.Kernel2Ideal.Value
public import Idealize.ShloMosaic.Lib.Pipeline.ValueKit
public import Idealize.ShloMosaic.Lib.Pipeline.ReadBack
public import proofs.«01_k».proof.Proof.Mixer.Tables

@[expose] public section

/-! The kernel's transform of its sample, at a position. -/

set_option maxRecDepth 16384

noncomputable section

namespace Cert.Kernel2Ideal.Mixer

open Idealize.ShloMosaic Idealize.ShloMosaic.TcCoe Cert.Kernel2Ideal Cert.Kernel2Ideal.Gen Cert.Kernel2Ideal.Value Cert.Mixer
open Idealize.SL.Sem

/-- A load after writes reads what the writes leave, whatever was there. -/
theorem reload {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L r.toLoadRect

/-- The channels' sum at a row of the sample, for the group and the frequency that a lane names. -/
def half (x : Fin 2048 → Fin 512 → ℝ) (g : ℕ → ℕ → ℝ) (r : Fin 2048) (l : Fin 512) : ℝ :=
  ∑ k : Fin 128, x r ⟨l.val / 128 * 128 + k.val, by omega⟩ * (g 128 (k.val * (l.val % 128)) / Real.sqrt 128)

/-- The halves of the positions folded: the cosines' sums, then the sines'. -/
def folded (x : Fin 2048 → Fin 512 → ℝ) (p : ℕ) (r : Fin 2048) (l : Fin 512) : ℝ :=
  if h : r.val < 1024 then half x cosT r l + (-1) ^ p * half x cosT ⟨1024 + r.val, by omega⟩ l
  else half x sinT ⟨r.val - 1024, by omega⟩ l + (-1) ^ p * half x sinT r l

theorem chan_cos (k d d' : ℕ) (h : d = d') (hd : d' < 128) : chanT k d = cosT 128 (k * d') / Real.sqrt 128 := by
  subst h
  rw [chanT, if_pos hd]

theorem chan_sin (k d d' : ℕ) (h : d = 128 + d') : chanT k d = sinT 128 (k * d') / Real.sqrt 128 := by
  subst h
  rw [chanT, if_neg (by omega), Nat.add_sub_cancel_left]

theorem half_of (x : Fin 2048 → Fin 512 → ℝ) (g : ℕ → ℕ → ℝ) (r : Fin 2048) (l : Fin 512) (f : Fin 128 → ℝ)
    (h : ∀ k : Fin 128, f k = x r ⟨l.val / 128 * 128 + k.val, by omega⟩ * (g 128 (k.val * (l.val % 128)) / Real.sqrt 128)) :
    ∑ k : Fin 128, f k = half x g r l :=
  Finset.sum_congr rfl fun k _ => h k

theorem term_of (x : Fin 2048 → Fin 512 → ℝ) (r r' : Fin 2048) (l l' : Fin 512) (j j' : ℝ) (hr : r'.val = r.val)
    (hl : l'.val = l.val) (hj : j' = j) : x r' l' * j' = x r l * j := by
  rw [hj, Fin.ext hr, Fin.ext hl]

theorem folded_cos_even (x : Fin 2048 → Fin 512 → ℝ) (p : ℕ) (r : Fin 2048) (l : Fin 512) (a b : ℝ) (hp : p = 0)
    (hr : r.val < 1024) (ha : a = half x cosT r l) (hb : b = half x cosT ⟨1024 + r.val, by omega⟩ l) :
    a + b = folded x p r l := by
  rw [folded, dif_pos hr, hp, pow_zero, one_mul, ha, hb]

theorem folded_cos_odd (x : Fin 2048 → Fin 512 → ℝ) (p : ℕ) (r : Fin 2048) (l : Fin 512) (a b : ℝ) (hp : p = 1)
    (hr : r.val < 1024) (ha : a = half x cosT r l) (hb : b = half x cosT ⟨1024 + r.val, by omega⟩ l) :
    a - b = folded x p r l := by
  rw [folded, dif_pos hr, hp, pow_one, neg_one_mul, ← sub_eq_add_neg, ha, hb]

theorem folded_sin_even (x : Fin 2048 → Fin 512 → ℝ) (p : ℕ) (r : Fin 2048) (l : Fin 512) (a b : ℝ) (hp : p = 0)
    (hr : ¬ r.val < 1024) (ha : a = half x sinT ⟨r.val - 1024, by omega⟩ l) (hb : b = half x sinT r l) :
    a + b = folded x p r l := by
  rw [folded, dif_neg hr, hp, pow_zero, one_mul, ha, hb]

theorem folded_sin_odd (x : Fin 2048 → Fin 512 → ℝ) (p : ℕ) (r : Fin 2048) (l : Fin 512) (a b : ℝ) (hp : p = 1)
    (hr : ¬ r.val < 1024) (ha : a = half x sinT ⟨r.val - 1024, by omega⟩ l) (hb : b = half x sinT r l) :
    a - b = folded x p r l := by
  rw [folded, dif_neg hr, hp, pow_one, neg_one_mul, ← sub_eq_add_neg, ha, hb]

/-- The group's channels that a lane's value is mixed from. -/
def group (x : Fin 2048 → Fin 512 → ℝ) (l : Fin 512) (t : Fin 2048) (c : Fin 128) : ℝ :=
  x t ⟨l.val / 128 * 128 + c.val, by omega⟩

theorem sign (r p : ℕ) : (-1 : ℝ) ^ (2 * r + p) = (-1) ^ p := by
  rw [pow_add, pow_mul]
  norm_num

theorem cos_sum (x : Fin 2048 → Fin 512 → ℝ) (p r : ℕ) (l : Fin 512) (hr : r + p < 513) :
    ∑ u : Fin 1024, timeT p 0 r u.val * folded x p ⟨u.val, by omega⟩ l = fold cosT (group x l) (2 * r + p) (l.val % 128) := by
  unfold fold
  refine Finset.sum_congr rfl fun u _ => ?_
  rw [timeT, if_pos hr, if_pos Nat.zero_lt_one, folded, dif_pos u.isLt, sign]
  rfl

theorem sin_sum (x : Fin 2048 → Fin 512 → ℝ) (p r : ℕ) (l : Fin 512) (hr : r + p < 513) :
    ∑ u : Fin 1024, timeT p 1 r u.val * folded x p ⟨1024 + u.val, by omega⟩ l
      = fold sinT (group x l) (2 * r + p) (l.val % 128) := by
  unfold fold
  refine Finset.sum_congr rfl fun u _ => ?_
  have h0 : (⟨1024 + u.val - 1024, by omega⟩ : Fin 2048) = ⟨u.val, by omega⟩ := Fin.ext (Nat.add_sub_cancel_left _ _)
  rw [timeT, if_pos hr, if_neg (Nat.lt_irrefl 1), folded, dif_neg (by simp only []; omega), sign, h0]
  rfl

theorem flip_sum (f : Fin 528 → ℝ) (p k : ℕ) (hp : p < 2) (hk : k < 512) :
    ∑ r : Fin 528, flipT p k r.val * f r = f ⟨512 - p - k, by omega⟩ := by
  rw [Finset.sum_eq_single (⟨512 - p - k, by omega⟩ : Fin 528), flipT, if_pos (by simp only []; omega), one_mul]
  · intro r _ hne
    rw [flipT, if_neg, zero_mul]
    intro h
    exact hne (Fin.ext (by simp only []; omega))
  · intro h
    exact absurd (Finset.mem_univ _) h

theorem direct (x : Fin 2048 → Fin 512 → ℝ) (p r s : ℕ) (l l' : Fin 512) (hr : r + p < 513) (hl : l = l')
    (hs : s = 2 * r + p) :
    ∑ u : Fin 1024, timeT p 0 r u.val * folded x p ⟨u.val, by omega⟩ l
      - ∑ u : Fin 1024, timeT p 1 r u.val * folded x p ⟨1024 + u.val, by omega⟩ l
      = mix (group x l') s (l'.val % 128) := by
  subst hl hs
  rw [cos_sum x p r l hr, sin_sum x p r l hr, fold_sub]

theorem mirrored (x : Fin 2048 → Fin 512 → ℝ) (p k s : ℕ) (l l' : Fin 512) (hp : p < 2) (hk : k < 512) (hl : l = l')
    (hs : s = (512 + k) * 2 + p) :
    ∑ r : Fin 528, flipT p k r.val * (∑ u : Fin 1024, timeT p 0 r.val u.val * folded x p ⟨u.val, by omega⟩ l
      + ∑ u : Fin 1024, timeT p 1 r.val u.val * folded x p ⟨1024 + u.val, by omega⟩ l)
      = mix (group x l') s (l'.val % 128) := by
  subst hl
  rw [flip_sum (fun r => ∑ u : Fin 1024, timeT p 0 r.val u.val * folded x p ⟨u.val, by omega⟩ l
      + ∑ u : Fin 1024, timeT p 1 r.val u.val * folded x p ⟨1024 + u.val, by omega⟩ l) p k hp hk]
  simp only []
  rw [cos_sum x p _ l (by omega), sin_sum x p _ l (by omega)]
  exact fold_add _ _ _ _ (by omega)

set_option maxHeartbeats 40000000 in
theorem yf_block (m : (ℓ : Loc nD τ sig) → Buf (Elt Ideal) ℓ) (c : Dev nD) (t : Fin cfg0.N) (x : Fin 2048 → Fin 512 → ℝ)
    (hx : ∀ r l, iblk m c 0 t (Idealize.ShloMosaic.ix2 r l) = ((x r l : ℝ) : EReal)) (y : S2x1024x512.Idx) :
    (outsAt0 m c t).1 y
      = ((mix (group x (y 2)) ((y 1).val * 2 + (y 0).val) ((y 2).val % 128) : ℝ) : EReal) := by
  have H1 : ∀ k d, iblk m c 1 t (Idealize.ShloMosaic.ix2 k d) = ((chanT k.val d.val : ℝ) : EReal) :=
    fun k d => (chan_at m c t k d).trans (chan_val m c k d)
  have H2 : ∀ p q k d, iblk m c 2 t (Idealize.ShloMosaic.ix4 p q k d) = ((timeT p.val q.val k.val d.val : ℝ) : EReal) :=
    fun p q k d => (time_at m c t p q k d).trans (time_val m c p q k d)
  have H3 : ∀ p k d, iblk m c 3 t (Idealize.ShloMosaic.ix3 p k d) = ((flipT p.val k.val d.val : ℝ) : EReal) :=
    fun p k d => (flip_at m c t p k d).trans (flip_val m c p k d)
  unfold outsAt0
  dsimp only
  frame_out
  generalize iblk m c 0 t = e0 at *
  generalize iblk m c 1 t = e1 at *
  generalize iblk m c 2 t = e2 at *
  generalize iblk m c 3 t = e3 at *
  simp only [reload]
  generalize hZ : View.canon (Val := Elt Ideal) (s := S2x2048x512) _ = Z
  have hz : ∀ w, Z w = ((folded x (w 0).val (w 1) (w 2) : ℝ) : EReal) := by
    intro w
    rw [← hZ]
    clear hZ
    canon_tiles v h
    all_goals
      idx_vars v
      pointwise [k0_pay1, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
      simp only [hx, H1, ← EReal.coe_mul, coe_sum, ← EReal.coe_sub, ← EReal.coe_add]
      refine congrArg _ ?_
      first
        | refine folded_sin_odd x _ _ _ _ _ (by omega) (by omega) (half_of x sinT _ _ _ ?_) (half_of x sinT _ _ _ ?_)
        | refine folded_cos_odd x _ _ _ _ _ (by omega) (by omega) (half_of x cosT _ _ _ ?_) (half_of x cosT _ _ _ ?_)
        | refine folded_sin_even x _ _ _ _ _ (by omega) (by omega) (half_of x sinT _ _ _ ?_) (half_of x sinT _ _ _ ?_)
        | refine folded_cos_even x _ _ _ _ _ (by omega) (by omega) (half_of x cosT _ _ _ ?_) (half_of x cosT _ _ _ ?_)
      all_goals
        intro k
        first
          | exact term_of x _ _ _ _ _ _ (by dsimp only; omega) (by dsimp only; omega) (chan_cos _ _ _ (by omega) (by omega))
          | exact term_of x _ _ _ _ _ _ (by dsimp only; omega) (by dsimp only; omega) (chan_sin _ _ _ (by omega))
          | exact term_of x _ _ _ _ _ _ (by omega) (by dsimp only; omega) (chan_cos _ _ _ (by omega) (by omega))
          | exact term_of x _ _ _ _ _ _ (by omega) (by dsimp only; omega) (chan_sin _ _ _ (by omega))
  clear hZ
  canon_tiles z h
  all_goals
    idx_vars z
    pointwise [k0_pay1, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195]
    simp only [hz, H2, H3, ← EReal.coe_mul, coe_sum, ← EReal.coe_sub, ← EReal.coe_add]
    refine congrArg _ ?_
    first
      | exact direct x _ _ _ _ _ (by omega) (Fin.ext (by omega)) (by omega)
      | exact mirrored x _ _ _ _ _ (by omega) (by omega) (Fin.ext (by omega)) (by omega)

end Cert.Kernel2Ideal.Mixer
-- ==== Proof.Mixer.OutFourier.lean ====
module

public import proofs.«01_k».proof.Proof.Mixer.KerFourier
public import proofs.«01_k».proof.Proof.Mixer.Places

@[expose] public section

/-! What the kernel leaves in its result arrays. -/

set_option maxRecDepth 16384

noncomputable section

namespace Cert.Kernel2Ideal.Mixer

open Idealize.ShloMosaic Idealize.ShloMosaic.TcCoe Cert.Kernel2Ideal Cert.Kernel2Ideal.Gen Cert.Kernel2Ideal.Value Cert.Mixer
open Idealize.SL.Sem

variable (m : (ℓ : Loc nD τ sig) → Buf (Elt Ideal) ℓ) (c : Dev nD)

set_option maxHeartbeats 40000000 in
theorem yf_array (x : Fin 2048 → Fin 4096 → ℝ)
    (hx : ∀ r l, m ((c : Thread nD τ).loc main_arg0) (Idealize.ShloMosaic.ix2 r l) = ((x r l : ℝ) : EReal)) :
    (dats m 0 c).arrAt 11 cfg0.N
      = fun y => ((mix (fun t k => x t ⟨(y 2).val / 512 * 512 + (y 2).val / 128 % 4 * 128 + k.val, by
          have h : (y 2).val < 4096 := (y 2).isLt
          omega⟩) ((y 1).val * 2 + (y 0).val) ((y 2).val % 128) : ℝ) : EReal) := by
  refine (dats m 0 c).arrAt_eq_of_covers 11 _ (by decide +kernel) fun t hf y => ?_
  blk_simp
  rw [after0_11, yf_block m c t (fun r l => x r ⟨t.val * 512 + l.val, by
      have h : t.val < 8 := t.isLt
      omega⟩)]
  · obtain ⟨h0, h4, h5, h6, h7, h8, h9, h10, h11, h12, h13, h14, h15, h16, h17, h18⟩ := idxs t
    have a0 : win0_11.index t 0 = 0 := congrFun h11 0
    have a1 : win0_11.index t 1 = 0 := congrFun h11 1
    have a2 : win0_11.index t 2 = t.val := congrFun h11 2
    have b2 : (y 2).val < 512 := (y 2).isLt
    refine congrArg _ ?_
    refine congr (congr (congrArg mix (funext fun r => funext fun k => ?_)) ?_) ?_
    · unfold group
      refine congrArg (x r) (Fin.ext ?_)
      dsimp only
      omega
    · omega
    · omega
  · intro r l
    refine Eq.trans ?_ (hx _ _)
    blk_ext! [iblk, V, idxs t]

end Cert.Kernel2Ideal.Mixer
-- ==== Proof.Mixer.OutWeights.lean ====
module

public import proofs.«01_k».proof.Proof.Mixer.Places
public import Idealize.ShloMosaic.Lib.StableHlo.ReadAt
public import Idealize.ShloMosaic.Lib.Pipeline.ValueKit

@[expose] public section

/-! What the kernel leaves in its result arrays. -/

set_option maxRecDepth 16384

noncomputable section

namespace Cert.Kernel2Ideal.Mixer

open Idealize.ShloMosaic Idealize.ShloMosaic.TcCoe Cert.Kernel2Ideal Cert.Kernel2Ideal.Gen Cert.Kernel2Ideal.Value
open Idealize.SL.Sem

variable (m : (ℓ : Loc nD τ sig) → Buf (Elt Ideal) ℓ) (c : Dev nD)

theorem entry14 (a : Fin 1024) (b : Fin 1024) :
    V m c main_v59 (Idealize.ShloMosaic.ix2 a b) = m ((c : Thread nD τ).loc main_arg3) (Idealize.ShloMosaic.ix3 0 a b) := by
  unfold V
  after_reads_at

set_option maxHeartbeats 40000000 in
theorem w14_array : (dats m 0 c).arrAt 14 cfg0.N
    = fun y => m ((c : Thread nD τ).loc main_arg3) (Idealize.ShloMosaic.ix3 0 (y 0) (y 1)) := by
  refine (dats m 0 c).arrAt_eq_of_covers 14 _ (by decide +kernel) fun t hf y => ?_
  blk_simp
  rw [after0_14]
  frame_out
  idx_vars y
  pointwise [k0_pay2]
  refine Eq.trans ?_ (entry14 m c _ _)
  blk_ext [iblk, idxs t]

theorem entry15 (a : Fin 512) (b : Fin 1024) :
    V m c main_v60 (Idealize.ShloMosaic.ix2 a b) = m ((c : Thread nD τ).loc main_arg4) (Idealize.ShloMosaic.ix3 0 a b) := by
  unfold V
  after_reads_at

set_option maxHeartbeats 40000000 in
theorem w15_array : (dats m 0 c).arrAt 15 cfg0.N
    = fun y => m ((c : Thread nD τ).loc main_arg4) (Idealize.ShloMosaic.ix3 0 (y 0) (y 1)) := by
  refine (dats m 0 c).arrAt_eq_of_covers 15 _ (by decide +kernel) fun t hf y => ?_
  blk_simp
  rw [after0_15]
  frame_out
  idx_vars y
  pointwise [k0_pay3]
  refine Eq.trans ?_ (entry15 m c _ _)
  blk_ext [iblk, idxs t]

theorem entry16 (a : Fin 1024) (b : Fin 1024) :
    V m c main_v61 (Idealize.ShloMosaic.ix2 a b) = m ((c : Thread nD τ).loc main_arg5) (Idealize.ShloMosaic.ix3 0 a b) := by
  unfold V
  after_reads_at

set_option maxHeartbeats 40000000 in
theorem w16_array : (dats m 0 c).arrAt 16 cfg0.N
    = fun y => m ((c : Thread nD τ).loc main_arg5) (Idealize.ShloMosaic.ix3 0 (y 0) (y 1)) := by
  refine (dats m 0 c).arrAt_eq_of_covers 16 _ (by decide +kernel) fun t hf y => ?_
  blk_simp
  rw [after0_16]
  frame_out
  idx_vars y
  pointwise [k0_pay4]
  refine Eq.trans ?_ (entry16 m c _ _)
  blk_ext [iblk, idxs t]

theorem entry17 (a : Fin 1024) (b : Fin 4096) :
    V m c main_v62 (Idealize.ShloMosaic.ix2 a b) = m ((c : Thread nD τ).loc main_arg6) (Idealize.ShloMosaic.ix3 0 a b) := by
  unfold V
  after_reads_at

set_option maxHeartbeats 40000000 in
theorem w17_array : (dats m 0 c).arrAt 17 cfg0.N
    = fun y => m ((c : Thread nD τ).loc main_arg6) (Idealize.ShloMosaic.ix3 0 (y 0) (y 1)) := by
  refine (dats m 0 c).arrAt_eq_of_covers 17 _ (by decide +kernel) fun t hf y => ?_
  blk_simp
  rw [after0_17]
  frame_out
  idx_vars y
  pointwise [k0_pay5]
  refine Eq.trans ?_ (entry17 m c _ _)
  blk_ext [iblk, idxs t]

theorem entry18 (a : Fin 4096) (b : Fin 1024) :
    V m c main_v63 (Idealize.ShloMosaic.ix2 a b) = m ((c : Thread nD τ).loc main_arg7) (Idealize.ShloMosaic.ix3 0 a b) := by
  unfold V
  after_reads_at

set_option maxHeartbeats 40000000 in
theorem w18_array : (dats m 0 c).arrAt 18 cfg0.N
    = fun y => m ((c : Thread nD τ).loc main_arg7) (Idealize.ShloMosaic.ix3 0 (y 0) (y 1)) := by
  refine (dats m 0 c).arrAt_eq_of_covers 18 _ (by decide +kernel) fun t hf y => ?_
  blk_simp
  rw [after0_18]
  frame_out
  idx_vars y
  pointwise [k0_pay6]
  refine Eq.trans ?_ (entry18 m c _ _)
  blk_ext [iblk, idxs t]

end Cert.Kernel2Ideal.Mixer
-- ==== Proof.Mixer.RefRecur.lean ====
module

public import proofs.«01_k».proof.Proof.Gen.Reference2Ideal.Run
public import Idealize.ShloMosaic.Lib.Pipeline.ValueKit
public import proofs.«01_k».proof.Proof.Mixer.Carry

@[expose] public section

/-! The reference's recurrence: the state entering each chunk, at a lane. -/

set_option maxRecDepth 16384

noncomputable section

namespace Cert.Mixer

open Idealize.ShloMosaic Cert.Reference2Ideal Cert.Reference2Ideal.Value

abbrev RV : Type := Valuation τ sig (Elt Ideal)

/-- The context's ends, at a lane. -/
abbrev ecAt (V : RV) (b : Fin 8) (l : Fin 1024) (i q : Fin 4) : EReal :=
  V (Proc.devRef .tc main_arg1) (Idealize.ShloMosaic.ix4 i q b l)

/-- The latents' ends, at a lane. -/
abbrev elAt (V : RV) (b : Fin 8) (l : Fin 1024) (i : Fin 32) (q : Fin 4) : EReal :=
  V (Proc.devRef .tc main_arg2) (Idealize.ShloMosaic.ix4 i q b l)

theorem fwd0 (V : RV) (b : Fin 8) (l : Fin 1024) :
    res_main_v91 V (Idealize.ShloMosaic.ix2 b l) = forth (ecAt V b l) (elAt V b l) 0 := by
  rw [forth_zero]
  pointwise [res_main_v91, res_main_v65]

theorem fwd1 (V : RV) (b : Fin 8) (l : Fin 1024) :
    res_main_v97 V (Idealize.ShloMosaic.ix2 b l) = forth (ecAt V b l) (elAt V b l) 1 := by
  rw [forth_succ _ _ _ (by decide), ← fwd0]
  pointwise [res_main_v97, res_main_v66]

theorem fwd2 (V : RV) (b : Fin 8) (l : Fin 1024) :
    res_main_v103 V (Idealize.ShloMosaic.ix2 b l) = forth (ecAt V b l) (elAt V b l) 2 := by
  rw [forth_succ _ _ _ (by decide), ← fwd1]
  pointwise [res_main_v103, res_main_v66]

theorem fwd3 (V : RV) (b : Fin 8) (l : Fin 1024) :
    res_main_v109 V (Idealize.ShloMosaic.ix2 b l) = forth (ecAt V b l) (elAt V b l) 3 := by
  rw [forth_succ _ _ _ (by decide), ← fwd2]
  pointwise [res_main_v109, res_main_v66]

theorem fwd4 (V : RV) (b : Fin 8) (l : Fin 1024) :
    res_main_v115 V (Idealize.ShloMosaic.ix2 b l) = forth (ecAt V b l) (elAt V b l) 4 := by
  rw [forth_succ _ _ _ (by decide), ← fwd3]
  pointwise [res_main_v115, res_main_v66]

theorem fwd5 (V : RV) (b : Fin 8) (l : Fin 1024) :
    res_main_v121 V (Idealize.ShloMosaic.ix2 b l) = forth (ecAt V b l) (elAt V b l) 5 := by
  rw [forth_succ _ _ _ (by decide), ← fwd4]
  pointwise [res_main_v121, res_main_v66]

theorem fwd6 (V : RV) (b : Fin 8) (l : Fin 1024) :
    res_main_v127 V (Idealize.ShloMosaic.ix2 b l) = forth (ecAt V b l) (elAt V b l) 6 := by
  rw [forth_succ _ _ _ (by decide), ← fwd5]
  pointwise [res_main_v127, res_main_v66]

theorem fwd7 (V : RV) (b : Fin 8) (l : Fin 1024) :
    res_main_v133 V (Idealize.ShloMosaic.ix2 b l) = forth (ecAt V b l) (elAt V b l) 7 := by
  rw [forth_succ _ _ _ (by decide), ← fwd6]
  pointwise [res_main_v133, res_main_v66]

theorem fwd8 (V : RV) (b : Fin 8) (l : Fin 1024) :
    res_main_v139 V (Idealize.ShloMosaic.ix2 b l) = forth (ecAt V b l) (elAt V b l) 8 := by
  rw [forth_succ _ _ _ (by decide), ← fwd7]
  pointwise [res_main_v139, res_main_v66]

theorem fwd9 (V : RV) (b : Fin 8) (l : Fin 1024) :
    res_main_v145 V (Idealize.ShloMosaic.ix2 b l) = forth (ecAt V b l) (elAt V b l) 9 := by
  rw [forth_succ _ _ _ (by decide), ← fwd8]
  pointwise [res_main_v145, res_main_v66]

theorem fwd10 (V : RV) (b : Fin 8) (l : Fin 1024) :
    res_main_v151 V (Idealize.ShloMosaic.ix2 b l) = forth (ecAt V b l) (elAt V b l) 10 := by
  rw [forth_succ _ _ _ (by decide), ← fwd9]
  pointwise [res_main_v151, res_main_v66]

theorem fwd11 (V : RV) (b : Fin 8) (l : Fin 1024) :
    res_main_v157 V (Idealize.ShloMosaic.ix2 b l) = forth (ecAt V b l) (elAt V b l) 11 := by
  rw [forth_succ _ _ _ (by decide), ← fwd10]
  pointwise [res_main_v157, res_main_v66]

theorem fwd12 (V : RV) (b : Fin 8) (l : Fin 1024) :
    res_main_v163 V (Idealize.ShloMosaic.ix2 b l) = forth (ecAt V b l) (elAt V b l) 12 := by
  rw [forth_succ _ _ _ (by decide), ← fwd11]
  pointwise [res_main_v163, res_main_v66]

theorem fwd13 (V : RV) (b : Fin 8) (l : Fin 1024) :
    res_main_v169 V (Idealize.ShloMosaic.ix2 b l) = forth (ecAt V b l) (elAt V b l) 13 := by
  rw [forth_succ _ _ _ (by decide), ← fwd12]
  pointwise [res_main_v169, res_main_v66]

theorem fwd14 (V : RV) (b : Fin 8) (l : Fin 1024) :
    res_main_v175 V (Idealize.ShloMosaic.ix2 b l) = forth (ecAt V b l) (elAt V b l) 14 := by
  rw [forth_succ _ _ _ (by decide), ← fwd13]
  pointwise [res_main_v175, res_main_v66]

theorem fwd15 (V : RV) (b : Fin 8) (l : Fin 1024) :
    res_main_v181 V (Idealize.ShloMosaic.ix2 b l) = forth (ecAt V b l) (elAt V b l) 15 := by
  rw [forth_succ _ _ _ (by decide), ← fwd14]
  pointwise [res_main_v181, res_main_v66]

theorem fwd16 (V : RV) (b : Fin 8) (l : Fin 1024) :
    res_main_v187 V (Idealize.ShloMosaic.ix2 b l) = forth (ecAt V b l) (elAt V b l) 16 := by
  rw [forth_succ _ _ _ (by decide), ← fwd15]
  pointwise [res_main_v187, res_main_v66]

theorem fwd17 (V : RV) (b : Fin 8) (l : Fin 1024) :
    res_main_v193 V (Idealize.ShloMosaic.ix2 b l) = forth (ecAt V b l) (elAt V b l) 17 := by
  rw [forth_succ _ _ _ (by decide), ← fwd16]
  pointwise [res_main_v193, res_main_v66]

theorem fwd18 (V : RV) (b : Fin 8) (l : Fin 1024) :
    res_main_v199 V (Idealize.ShloMosaic.ix2 b l) = forth (ecAt V b l) (elAt V b l) 18 := by
  rw [forth_succ _ _ _ (by decide), ← fwd17]
  pointwise [res_main_v199, res_main_v66]

theorem fwd19 (V : RV) (b : Fin 8) (l : Fin 1024) :
    res_main_v205 V (Idealize.ShloMosaic.ix2 b l) = forth (ecAt V b l) (elAt V b l) 19 := by
  rw [forth_succ _ _ _ (by decide), ← fwd18]
  pointwise [res_main_v205, res_main_v66]

theorem fwd20 (V : RV) (b : Fin 8) (l : Fin 1024) :
    res_main_v211 V (Idealize.ShloMosaic.ix2 b l) = forth (ecAt V b l) (elAt V b l) 20 := by
  rw [forth_succ _ _ _ (by decide), ← fwd19]
  pointwise [res_main_v211, res_main_v66]

theorem fwd21 (V : RV) (b : Fin 8) (l : Fin 1024) :
    res_main_v217 V (Idealize.ShloMosaic.ix2 b l) = forth (ecAt V b l) (elAt V b l) 21 := by
  rw [forth_succ _ _ _ (by decide), ← fwd20]
  pointwise [res_main_v217, res_main_v66]

theorem fwd22 (V : RV) (b : Fin 8) (l : Fin 1024) :
    res_main_v223 V (Idealize.ShloMosaic.ix2 b l) = forth (ecAt V b l) (elAt V b l) 22 := by
  rw [forth_succ _ _ _ (by decide), ← fwd21]
  pointwise [res_main_v223, res_main_v66]

theorem fwd23 (V : RV) (b : Fin 8) (l : Fin 1024) :
    res_main_v229 V (Idealize.ShloMosaic.ix2 b l) = forth (ecAt V b l) (elAt V b l) 23 := by
  rw [forth_succ _ _ _ (by decide), ← fwd22]
  pointwise [res_main_v229, res_main_v66]

theorem fwd24 (V : RV) (b : Fin 8) (l : Fin 1024) :
    res_main_v235 V (Idealize.ShloMosaic.ix2 b l) = forth (ecAt V b l) (elAt V b l) 24 := by
  rw [forth_succ _ _ _ (by decide), ← fwd23]
  pointwise [res_main_v235, res_main_v66]

theorem fwd25 (V : RV) (b : Fin 8) (l : Fin 1024) :
    res_main_v241 V (Idealize.ShloMosaic.ix2 b l) = forth (ecAt V b l) (elAt V b l) 25 := by
  rw [forth_succ _ _ _ (by decide), ← fwd24]
  pointwise [res_main_v241, res_main_v66]

theorem fwd26 (V : RV) (b : Fin 8) (l : Fin 1024) :
    res_main_v247 V (Idealize.ShloMosaic.ix2 b l) = forth (ecAt V b l) (elAt V b l) 26 := by
  rw [forth_succ _ _ _ (by decide), ← fwd25]
  pointwise [res_main_v247, res_main_v66]

theorem fwd27 (V : RV) (b : Fin 8) (l : Fin 1024) :
    res_main_v253 V (Idealize.ShloMosaic.ix2 b l) = forth (ecAt V b l) (elAt V b l) 27 := by
  rw [forth_succ _ _ _ (by decide), ← fwd26]
  pointwise [res_main_v253, res_main_v66]

theorem fwd28 (V : RV) (b : Fin 8) (l : Fin 1024) :
    res_main_v259 V (Idealize.ShloMosaic.ix2 b l) = forth (ecAt V b l) (elAt V b l) 28 := by
  rw [forth_succ _ _ _ (by decide), ← fwd27]
  pointwise [res_main_v259, res_main_v66]

theorem fwd29 (V : RV) (b : Fin 8) (l : Fin 1024) :
    res_main_v265 V (Idealize.ShloMosaic.ix2 b l) = forth (ecAt V b l) (elAt V b l) 29 := by
  rw [forth_succ _ _ _ (by decide), ← fwd28]
  pointwise [res_main_v265, res_main_v66]

theorem fwd30 (V : RV) (b : Fin 8) (l : Fin 1024) :
    res_main_v271 V (Idealize.ShloMosaic.ix2 b l) = forth (ecAt V b l) (elAt V b l) 30 := by
  rw [forth_succ _ _ _ (by decide), ← fwd29]
  pointwise [res_main_v271, res_main_v66]

theorem fwd31 (V : RV) (b : Fin 8) (l : Fin 1024) :
    res_main_v277 V (Idealize.ShloMosaic.ix2 b l) = forth (ecAt V b l) (elAt V b l) 31 := by
  rw [forth_succ _ _ _ (by decide), ← fwd30]
  pointwise [res_main_v277, res_main_v66]

theorem bwd0 (V : RV) (b : Fin 8) (l : Fin 1024) :
    res_main_v347 V (Idealize.ShloMosaic.ix2 b l) = back (ecAt V b l) (elAt V b l) 0 := by
  rw [back_zero]
  pointwise [res_main_v347, res_main_v320]
  rfl

theorem bwd1 (V : RV) (b : Fin 8) (l : Fin 1024) :
    res_main_v353 V (Idealize.ShloMosaic.ix2 b l) = back (ecAt V b l) (elAt V b l) 1 := by
  rw [back_succ _ _ _ (by decide), ← bwd0]
  pointwise [res_main_v353, res_main_v322]
  rfl

theorem bwd2 (V : RV) (b : Fin 8) (l : Fin 1024) :
    res_main_v359 V (Idealize.ShloMosaic.ix2 b l) = back (ecAt V b l) (elAt V b l) 2 := by
  rw [back_succ _ _ _ (by decide), ← bwd1]
  pointwise [res_main_v359, res_main_v322]
  rfl

theorem bwd3 (V : RV) (b : Fin 8) (l : Fin 1024) :
    res_main_v365 V (Idealize.ShloMosaic.ix2 b l) = back (ecAt V b l) (elAt V b l) 3 := by
  rw [back_succ _ _ _ (by decide), ← bwd2]
  pointwise [res_main_v365, res_main_v322]
  rfl

theorem bwd4 (V : RV) (b : Fin 8) (l : Fin 1024) :
    res_main_v371 V (Idealize.ShloMosaic.ix2 b l) = back (ecAt V b l) (elAt V b l) 4 := by
  rw [back_succ _ _ _ (by decide), ← bwd3]
  pointwise [res_main_v371, res_main_v322]
  rfl

theorem bwd5 (V : RV) (b : Fin 8) (l : Fin 1024) :
    res_main_v377 V (Idealize.ShloMosaic.ix2 b l) = back (ecAt V b l) (elAt V b l) 5 := by
  rw [back_succ _ _ _ (by decide), ← bwd4]
  pointwise [res_main_v377, res_main_v322]
  rfl

theorem bwd6 (V : RV) (b : Fin 8) (l : Fin 1024) :
    res_main_v383 V (Idealize.ShloMosaic.ix2 b l) = back (ecAt V b l) (elAt V b l) 6 := by
  rw [back_succ _ _ _ (by decide), ← bwd5]
  pointwise [res_main_v383, res_main_v322]
  rfl

theorem bwd7 (V : RV) (b : Fin 8) (l : Fin 1024) :
    res_main_v389 V (Idealize.ShloMosaic.ix2 b l) = back (ecAt V b l) (elAt V b l) 7 := by
  rw [back_succ _ _ _ (by decide), ← bwd6]
  pointwise [res_main_v389, res_main_v322]
  rfl

theorem bwd8 (V : RV) (b : Fin 8) (l : Fin 1024) :
    res_main_v395 V (Idealize.ShloMosaic.ix2 b l) = back (ecAt V b l) (elAt V b l) 8 := by
  rw [back_succ _ _ _ (by decide), ← bwd7]
  pointwise [res_main_v395, res_main_v322]
  rfl

theorem bwd9 (V : RV) (b : Fin 8) (l : Fin 1024) :
    res_main_v401 V (Idealize.ShloMosaic.ix2 b l) = back (ecAt V b l) (elAt V b l) 9 := by
  rw [back_succ _ _ _ (by decide), ← bwd8]
  pointwise [res_main_v401, res_main_v322]
  rfl

theorem bwd10 (V : RV) (b : Fin 8) (l : Fin 1024) :
    res_main_v407 V (Idealize.ShloMosaic.ix2 b l) = back (ecAt V b l) (elAt V b l) 10 := by
  rw [back_succ _ _ _ (by decide), ← bwd9]
  pointwise [res_main_v407, res_main_v322]
  rfl

theorem bwd11 (V : RV) (b : Fin 8) (l : Fin 1024) :
    res_main_v413 V (Idealize.ShloMosaic.ix2 b l) = back (ecAt V b l) (elAt V b l) 11 := by
  rw [back_succ _ _ _ (by decide), ← bwd10]
  pointwise [res_main_v413, res_main_v322]
  rfl

theorem bwd12 (V : RV) (b : Fin 8) (l : Fin 1024) :
    res_main_v419 V (Idealize.ShloMosaic.ix2 b l) = back (ecAt V b l) (elAt V b l) 12 := by
  rw [back_succ _ _ _ (by decide), ← bwd11]
  pointwise [res_main_v419, res_main_v322]
  rfl

theorem bwd13 (V : RV) (b : Fin 8) (l : Fin 1024) :
    res_main_v425 V (Idealize.ShloMosaic.ix2 b l) = back (ecAt V b l) (elAt V b l) 13 := by
  rw [back_succ _ _ _ (by decide), ← bwd12]
  pointwise [res_main_v425, res_main_v322]
  rfl

theorem bwd14 (V : RV) (b : Fin 8) (l : Fin 1024) :
    res_main_v431 V (Idealize.ShloMosaic.ix2 b l) = back (ecAt V b l) (elAt V b l) 14 := by
  rw [back_succ _ _ _ (by decide), ← bwd13]
  pointwise [res_main_v431, res_main_v322]
  rfl

theorem bwd15 (V : RV) (b : Fin 8) (l : Fin 1024) :
    res_main_v437 V (Idealize.ShloMosaic.ix2 b l) = back (ecAt V b l) (elAt V b l) 15 := by
  rw [back_succ _ _ _ (by decide), ← bwd14]
  pointwise [res_main_v437, res_main_v322]
  rfl

theorem bwd16 (V : RV) (b : Fin 8) (l : Fin 1024) :
    res_main_v443 V (Idealize.ShloMosaic.ix2 b l) = back (ecAt V b l) (elAt V b l) 16 := by
  rw [back_succ _ _ _ (by decide), ← bwd15]
  pointwise [res_main_v443, res_main_v322]
  rfl

theorem bwd17 (V : RV) (b : Fin 8) (l : Fin 1024) :
    res_main_v449 V (Idealize.ShloMosaic.ix2 b l) = back (ecAt V b l) (elAt V b l) 17 := by
  rw [back_succ _ _ _ (by decide), ← bwd16]
  pointwise [res_main_v449, res_main_v322]
  rfl

theorem bwd18 (V : RV) (b : Fin 8) (l : Fin 1024) :
    res_main_v455 V (Idealize.ShloMosaic.ix2 b l) = back (ecAt V b l) (elAt V b l) 18 := by
  rw [back_succ _ _ _ (by decide), ← bwd17]
  pointwise [res_main_v455, res_main_v322]
  rfl

theorem bwd19 (V : RV) (b : Fin 8) (l : Fin 1024) :
    res_main_v461 V (Idealize.ShloMosaic.ix2 b l) = back (ecAt V b l) (elAt V b l) 19 := by
  rw [back_succ _ _ _ (by decide), ← bwd18]
  pointwise [res_main_v461, res_main_v322]
  rfl

theorem bwd20 (V : RV) (b : Fin 8) (l : Fin 1024) :
    res_main_v467 V (Idealize.ShloMosaic.ix2 b l) = back (ecAt V b l) (elAt V b l) 20 := by
  rw [back_succ _ _ _ (by decide), ← bwd19]
  pointwise [res_main_v467, res_main_v322]
  rfl

theorem bwd21 (V : RV) (b : Fin 8) (l : Fin 1024) :
    res_main_v473 V (Idealize.ShloMosaic.ix2 b l) = back (ecAt V b l) (elAt V b l) 21 := by
  rw [back_succ _ _ _ (by decide), ← bwd20]
  pointwise [res_main_v473, res_main_v322]
  rfl

theorem bwd22 (V : RV) (b : Fin 8) (l : Fin 1024) :
    res_main_v479 V (Idealize.ShloMosaic.ix2 b l) = back (ecAt V b l) (elAt V b l) 22 := by
  rw [back_succ _ _ _ (by decide), ← bwd21]
  pointwise [res_main_v479, res_main_v322]
  rfl

theorem bwd23 (V : RV) (b : Fin 8) (l : Fin 1024) :
    res_main_v485 V (Idealize.ShloMosaic.ix2 b l) = back (ecAt V b l) (elAt V b l) 23 := by
  rw [back_succ _ _ _ (by decide), ← bwd22]
  pointwise [res_main_v485, res_main_v322]
  rfl

theorem bwd24 (V : RV) (b : Fin 8) (l : Fin 1024) :
    res_main_v491 V (Idealize.ShloMosaic.ix2 b l) = back (ecAt V b l) (elAt V b l) 24 := by
  rw [back_succ _ _ _ (by decide), ← bwd23]
  pointwise [res_main_v491, res_main_v322]
  rfl

theorem bwd25 (V : RV) (b : Fin 8) (l : Fin 1024) :
    res_main_v497 V (Idealize.ShloMosaic.ix2 b l) = back (ecAt V b l) (elAt V b l) 25 := by
  rw [back_succ _ _ _ (by decide), ← bwd24]
  pointwise [res_main_v497, res_main_v322]
  rfl

theorem bwd26 (V : RV) (b : Fin 8) (l : Fin 1024) :
    res_main_v503 V (Idealize.ShloMosaic.ix2 b l) = back (ecAt V b l) (elAt V b l) 26 := by
  rw [back_succ _ _ _ (by decide), ← bwd25]
  pointwise [res_main_v503, res_main_v322]
  rfl

theorem bwd27 (V : RV) (b : Fin 8) (l : Fin 1024) :
    res_main_v509 V (Idealize.ShloMosaic.ix2 b l) = back (ecAt V b l) (elAt V b l) 27 := by
  rw [back_succ _ _ _ (by decide), ← bwd26]
  pointwise [res_main_v509, res_main_v322]
  rfl

theorem bwd28 (V : RV) (b : Fin 8) (l : Fin 1024) :
    res_main_v515 V (Idealize.ShloMosaic.ix2 b l) = back (ecAt V b l) (elAt V b l) 28 := by
  rw [back_succ _ _ _ (by decide), ← bwd27]
  pointwise [res_main_v515, res_main_v322]
  rfl

theorem bwd29 (V : RV) (b : Fin 8) (l : Fin 1024) :
    res_main_v521 V (Idealize.ShloMosaic.ix2 b l) = back (ecAt V b l) (elAt V b l) 29 := by
  rw [back_succ _ _ _ (by decide), ← bwd28]
  pointwise [res_main_v521, res_main_v322]
  rfl

theorem bwd30 (V : RV) (b : Fin 8) (l : Fin 1024) :
    res_main_v527 V (Idealize.ShloMosaic.ix2 b l) = back (ecAt V b l) (elAt V b l) 30 := by
  rw [back_succ _ _ _ (by decide), ← bwd29]
  pointwise [res_main_v527, res_main_v322]
  rfl

theorem bwd31 (V : RV) (b : Fin 8) (l : Fin 1024) :
    res_main_v533 V (Idealize.ShloMosaic.ix2 b l) = back (ecAt V b l) (elAt V b l) 31 := by
  rw [back_succ _ _ _ (by decide), ← bwd30]
  pointwise [res_main_v533, res_main_v322]
  rfl

theorem ref_hf (V : RV) (k : Fin 32) (b : Fin 8) (l : Fin 1024) :
    res_main_v318 V (Idealize.ShloMosaic.ix3 k b l) = forth (ecAt V b l) (elAt V b l) k.val := by
  unfold res_main_v318
  pointwise
  obtain ⟨k, hk⟩ := k
  interval_cases k
  exacts [fwd0 V b l, fwd1 V b l, fwd2 V b l, fwd3 V b l, fwd4 V b l, fwd5 V b l, fwd6 V b l, fwd7 V b l, fwd8 V b l, fwd9 V b l, fwd10 V b l, fwd11 V b l, fwd12 V b l, fwd13 V b l, fwd14 V b l, fwd15 V b l, fwd16 V b l, fwd17 V b l, fwd18 V b l, fwd19 V b l, fwd20 V b l, fwd21 V b l, fwd22 V b l, fwd23 V b l, fwd24 V b l, fwd25 V b l, fwd26 V b l, fwd27 V b l, fwd28 V b l, fwd29 V b l, fwd30 V b l, fwd31 V b l]

theorem ref_hb_rev (V : RV) (k : Fin 32) (b : Fin 8) (l : Fin 1024) :
    res_main_v574 V (Idealize.ShloMosaic.ix3 k b l) = back (ecAt V b l) (elAt V b l) k.val := by
  unfold res_main_v574
  pointwise
  obtain ⟨k, hk⟩ := k
  interval_cases k
  exacts [bwd0 V b l, bwd1 V b l, bwd2 V b l, bwd3 V b l, bwd4 V b l, bwd5 V b l, bwd6 V b l, bwd7 V b l, bwd8 V b l, bwd9 V b l, bwd10 V b l, bwd11 V b l, bwd12 V b l, bwd13 V b l, bwd14 V b l, bwd15 V b l, bwd16 V b l, bwd17 V b l, bwd18 V b l, bwd19 V b l, bwd20 V b l, bwd21 V b l, bwd22 V b l, bwd23 V b l, bwd24 V b l, bwd25 V b l, bwd26 V b l, bwd27 V b l, bwd28 V b l, bwd29 V b l, bwd30 V b l, bwd31 V b l]

theorem ref_hb (V : RV) (k : Fin 32) (b : Fin 8) (l : Fin 1024) :
    Host.reverse [0] (res_main_v574 V) (Idealize.ShloMosaic.ix3 k b l)
      = back (ecAt V b l) (elAt V b l) (31 - k.val) := by
  pointwise
  refine (ref_hb_rev V _ b l).trans ?_
  congr 1
  show (k.rev).val = _
  rw [Fin.val_rev]
  omega

end Cert.Mixer
-- ==== Proof.Mixer.RefFourier.lean ====
module

public import proofs.«01_k».proof.Proof.Gen.Reference2Ideal.Run
public import Idealize.ShloMosaic.Lib.Pipeline.ValueKit
public import proofs.«01_k».proof.Proof.Mixer.Angle
public import proofs.«01_k».proof.Proof.Mixer.RefRecur

@[expose] public section

/-! The reference's transform, at a position of a sample. -/

set_option maxRecDepth 16384

noncomputable section

namespace Cert.Mixer

open Idealize.ShloMosaic Cert.Reference2Ideal Cert.Reference2Ideal.Value Cert.Reference2Ideal.Facts₀

/-- What the reference yields for the mixed positions. -/
def refYf (V : RV) : (Proc.devRef .tc main_v64 : DevRef τ sig).ty.Contents (Elt Ideal) :=
  truncf .bf16 (transpose S2x1024x4096 [1, 0, 2] (shapeCast _ (Host.divf (subf (Host.dotGeneral dot_S2048x2048_S2048x8x4x128_S2048x8x4x128_1_0_0_123_n_n none (Host.cos (Host.divf (mulf (broadcastInDim S2048x2048 ![] bcast_S_S2048x2048 (mulf (constant S_ .f32 0x40000000#32) (res_main_v2 V))) (sitofp .f32 (muli (broadcastInDim S2048x2048 ![0, 1] bcast_S2048x1_S2048x2048_0_1 (broadcastInDim S2048x1 ![0] bcast_S2048_S2048x1_0 (res_main_v29 V))) (broadcastInDim S2048x2048 ![0, 1] bcast_S1x2048_S2048x2048_0_1 (broadcastInDim S1x2048 ![1] bcast_S2048_S1x2048_1 (res_main_v29 V)))))) (broadcastInDim S2048x2048 ![] bcast_S_S2048x2048 (constant S_ .f32 0x45000000#32)))) (Host.dotGeneral dot_S2048x8x4x128_S128x128_S2048x8x4x128_3_0_012_1_n_n none (φ₁ := .f32) (res_main_v1 V) (Host.cos (Host.divf (mulf (broadcastInDim S128x128 ![] bcast_S_S128x128 (mulf (constant S_ .f32 0x40000000#32) (res_main_v2 V))) (sitofp .f32 (muli (broadcastInDim S128x128 ![0, 1] bcast_S128x1_S128x128_0_1 (broadcastInDim S128x1 ![0] bcast_S128_S128x1_0 (res_main_v3 V))) (broadcastInDim S128x128 ![0, 1] bcast_S1x128_S128x128_0_1 (broadcastInDim S1x128 ![1] bcast_S128_S1x128_1 (res_main_v3 V)))))) (broadcastInDim S128x128 ![] bcast_S_S128x128 (constant S_ .f32 0x43000000#32)))))) (Host.dotGeneral dot_S2048x2048_S2048x8x4x128_S2048x8x4x128_1_0_0_123_n_n none (Host.sin (Host.divf (mulf (broadcastInDim S2048x2048 ![] bcast_S_S2048x2048 (mulf (constant S_ .f32 0x40000000#32) (res_main_v2 V))) (sitofp .f32 (muli (broadcastInDim S2048x2048 ![0, 1] bcast_S2048x1_S2048x2048_0_1 (broadcastInDim S2048x1 ![0] bcast_S2048_S2048x1_0 (res_main_v42 V))) (broadcastInDim S2048x2048 ![0, 1] bcast_S1x2048_S2048x2048_0_1 (broadcastInDim S1x2048 ![1] bcast_S2048_S1x2048_1 (res_main_v42 V)))))) (broadcastInDim S2048x2048 ![] bcast_S_S2048x2048 (constant S_ .f32 0x45000000#32)))) (Host.dotGeneral dot_S2048x8x4x128_S128x128_S2048x8x4x128_3_0_012_1_n_n none (φ₁ := .f32) (res_main_v1 V) (Host.sin (Host.divf (mulf (broadcastInDim S128x128 ![] bcast_S_S128x128 (mulf (constant S_ .f32 0x40000000#32) (res_main_v2 V))) (sitofp .f32 (muli (broadcastInDim S128x128 ![0, 1] bcast_S128x1_S128x128_0_1 (broadcastInDim S128x1 ![0] bcast_S128_S128x1_0 (res_main_v16 V))) (broadcastInDim S128x128 ![0, 1] bcast_S1x128_S128x128_0_1 (broadcastInDim S1x128 ![1] bcast_S128_S1x128_1 (res_main_v16 V)))))) (broadcastInDim S128x128 ![] bcast_S_S128x128 (constant S_ .f32 0x43000000#32))))))) (broadcastInDim S2048x8x4x128 ![] bcast_S_S2048x8x4x128 (constant S_ .f32 0x44000000#32))) shapeCasts_S2048x8x4x128_S1024x2x4096) transposes_S1024x2x4096_S2x1024x4096_1_0_2) bitsLt_bf16_f32

theorem refYf_apply (V : RV) (x : Fin 2048 → Fin 4096 → ℝ)
    (hx : ∀ t c, V (Proc.devRef .tc main_arg0) (Idealize.ShloMosaic.ix2 t c) = ((x t c : ℝ) : EReal))
    (p : Fin 2) (r : Fin 1024) (q : Fin 4096) :
    refYf V (Idealize.ShloMosaic.ix3 p r q)
      = ((mix (fun t c => x t ⟨q.val / 512 * 512 + q.val / 128 % 4 * 128 + c.val, by omega⟩) (r.val * 2 + p.val) (q.val % 128) : ℝ)
          : EReal) := by
  unfold refYf
  pointwise [res_main_v2, res_main_v3, res_main_v16, res_main_v29, res_main_v42, res_main_v1]
  have hc : ∀ t : Fin 2048, _ := fun t => cos_ref (r.val * 2 + p.val) t.val 2048 _ f2048_eq (by decide)
    (lt_of_le_of_lt (Nat.mul_le_mul (show _ ≤ 2048 by omega) (show t.val ≤ 2048 by omega)) (by decide))
  have hs : ∀ t : Fin 2048, _ := fun t => sin_ref (r.val * 2 + p.val) t.val 2048 _ f2048_eq (by decide)
    (lt_of_le_of_lt (Nat.mul_le_mul (show _ ≤ 2048 by omega) (show t.val ≤ 2048 by omega)) (by decide))
  have hcc : ∀ c : Fin 128, _ := fun c => cos_ref c.val (q.val % 128) 128 _ f128_eq (by decide)
    (lt_of_le_of_lt (Nat.mul_le_mul (show c.val ≤ 128 by omega) (show _ ≤ 128 by omega)) (by decide))
  have hsc : ∀ c : Fin 128, _ := fun c => sin_ref c.val (q.val % 128) 128 _ f128_eq (by decide)
    (lt_of_le_of_lt (Nat.mul_le_mul (show c.val ≤ 128 by omega) (show _ ≤ 128 by omega)) (by decide))
  simp only [hc, hs, hcc, hsc, hx, ← EReal.coe_mul, coe_sum, ← EReal.coe_sub]
  rw [f512_eq, div_real _ _ (by norm_num)]
  rfl

end Cert.Mixer
-- ==== Proof.Mixer.Value.lean ====
module

public import proofs.«01_k».proof.Defs
public import proofs.«01_k».proof.Proof.Mixer.Real
public import proofs.«01_k».proof.Proof.Mixer.OutRecur
public import proofs.«01_k».proof.Proof.Mixer.OutFourier
public import proofs.«01_k».proof.Proof.Mixer.OutWeights
public import proofs.«01_k».proof.Proof.Mixer.RefRecur
public import proofs.«01_k».proof.Proof.Mixer.RefFourier
public import Idealize.ShloMosaic.Adequacy
public import Idealize.ShloMosaic.Init

@[expose] public section

/-! The mixer's value: over the extended reals the kernel leaves what the reference leaves. -/

set_option maxRecDepth 16384

noncomputable section

namespace Cert.Mixer

open Idealize.ShloMosaic Idealize.ShloMosaic.TcCoe Idealize.SL.Sem Idealize.ShloMosaic.StableHlo

theorem frame_reference2 : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

theorem frame_reference2_pre : Cert.quiescent_Reference2Ideal_pre_finite_uf := fun m ρ _ => frame_reference2 m ρ trivial

theorem frame_kernel2Ideal_pre : Cert.quiescent_Kernel2Ideal_pre_finite_uf := fun m ρ _ => Cert.Kernel2Ideal.Gen.frame m ρ

variable (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)

theorem yf_eq (x : Fin 2048 → Fin 4096 → ℝ)
    (hx : ∀ r l, m ((c.tc : Thread Cert.Kernel2Ideal.nD Cert.Kernel2Ideal.τ).loc Cert.Kernel2Ideal.main_arg0) (Idealize.ShloMosaic.ix2 r l) = ((x r l : ℝ) : EReal))
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) :
    refYf (launchContents m' c) = (Cert.Kernel2Ideal.Gen.dats m 0 c).arrAt 11 Cert.Kernel2Ideal.cfg0.N := by
  rw [Cert.Kernel2Ideal.Mixer.yf_array m c x hx]
  funext y
  idx_vars y
  exact refYf_apply (launchContents m' c) x (fun t k => (congrFun h _).trans (hx t k)) y0 y1 y2

theorem hf_eq (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    Cert.Reference2Ideal.Value.res_main_v318 (launchContents m' c) = (Cert.Kernel2Ideal.Gen.dats m 0 c).arrAt 12 Cert.Kernel2Ideal.cfg0.N := by
  rw [Cert.Kernel2Ideal.Mixer.hf_array]
  funext y
  idx_vars y
  refine (ref_hf (launchContents m' c) y0 y1 y2).trans ?_
  exact congr (congr (congrArg forth (funext fun i => funext fun q => congrFun h1 _))
    (funext fun i => funext fun q => congrFun h2 _)) rfl

theorem hb_eq (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) :
    Host.reverse [0] (Cert.Reference2Ideal.Value.res_main_v574 (launchContents m' c)) = (Cert.Kernel2Ideal.Gen.dats m 0 c).arrAt 13 Cert.Kernel2Ideal.cfg0.N := by
  rw [Cert.Kernel2Ideal.Mixer.hb_array]
  funext y
  idx_vars y
  refine (ref_hb (launchContents m' c) y0 y1 y2).trans ?_
  exact congr (congr (congrArg back (funext fun i => funext fun q => congrFun h1 _))
    (funext fun i => funext fun q => congrFun h2 _)) rfl

theorem w14_eq (h : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    truncf (F := Ideal) (φ := .f32) .bf16 (shapeCast Cert.Reference2Ideal.S1024x1024 ((launchContents m' c) (Proc.devRef .tc Cert.Reference2Ideal.main_arg3)) Cert.Reference2Ideal.Facts₀.shapeCasts_S1x1024x1024_S1024x1024)
      Cert.Reference2Ideal.Facts₀.bitsLt_bf16_f32 = (Cert.Kernel2Ideal.Gen.dats m 0 c).arrAt 14 Cert.Kernel2Ideal.cfg0.N := by
  rw [Cert.Kernel2Ideal.Mixer.w14_array]
  funext y
  idx_vars y
  pointwise
  exact congrFun h _

theorem w15_eq (h : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    truncf (F := Ideal) (φ := .f32) .bf16 (shapeCast Cert.Reference2Ideal.S512x1024 ((launchContents m' c) (Proc.devRef .tc Cert.Reference2Ideal.main_arg4)) Cert.Reference2Ideal.Facts₀.shapeCasts_S1x512x1024_S512x1024)
      Cert.Reference2Ideal.Facts₀.bitsLt_bf16_f32 = (Cert.Kernel2Ideal.Gen.dats m 0 c).arrAt 15 Cert.Kernel2Ideal.cfg0.N := by
  rw [Cert.Kernel2Ideal.Mixer.w15_array]
  funext y
  idx_vars y
  pointwise
  exact congrFun h _

theorem w16_eq (h : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    truncf (F := Ideal) (φ := .f32) .bf16 (shapeCast Cert.Reference2Ideal.S1024x1024 ((launchContents m' c) (Proc.devRef .tc Cert.Reference2Ideal.main_arg5)) Cert.Reference2Ideal.Facts₀.shapeCasts_S1x1024x1024_S1024x1024)
      Cert.Reference2Ideal.Facts₀.bitsLt_bf16_f32 = (Cert.Kernel2Ideal.Gen.dats m 0 c).arrAt 16 Cert.Kernel2Ideal.cfg0.N := by
  rw [Cert.Kernel2Ideal.Mixer.w16_array]
  funext y
  idx_vars y
  pointwise
  exact congrFun h _

theorem w17_eq (h : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    truncf (F := Ideal) (φ := .f32) .bf16 (shapeCast Cert.Reference2Ideal.S1024x4096 ((launchContents m' c) (Proc.devRef .tc Cert.Reference2Ideal.main_arg6)) Cert.Reference2Ideal.Facts₀.shapeCasts_S1x1024x4096_S1024x4096)
      Cert.Reference2Ideal.Facts₀.bitsLt_bf16_f32 = (Cert.Kernel2Ideal.Gen.dats m 0 c).arrAt 17 Cert.Kernel2Ideal.cfg0.N := by
  rw [Cert.Kernel2Ideal.Mixer.w17_array]
  funext y
  idx_vars y
  pointwise
  exact congrFun h _

theorem w18_eq (h : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    truncf (F := Ideal) (φ := .f32) .bf16 (shapeCast Cert.Reference2Ideal.S4096x1024 ((launchContents m' c) (Proc.devRef .tc Cert.Reference2Ideal.main_arg7)) Cert.Reference2Ideal.Facts₀.shapeCasts_S1x4096x1024_S4096x1024)
      Cert.Reference2Ideal.Facts₀.bitsLt_bf16_f32 = (Cert.Kernel2Ideal.Gen.dats m 0 c).arrAt 18 Cert.Kernel2Ideal.cfg0.N := by
  rw [Cert.Kernel2Ideal.Mixer.w18_array]
  funext y
  idx_vars y
  pointwise
  exact congrFun h _

set_option maxHeartbeats 4000000 in
theorem algebraic : Cert.algebraic_Kernel2Ideal_Reference2Ideal_pre_finite_uf := by
  intro m g m' g' hpre hargs
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N,
    fun c => (Cert.Kernel2Ideal.Gen.dats m 0 c).arrAt 13 Cert.Kernel2Ideal.cfg0.N, fun c => (Cert.Kernel2Ideal.Gen.dats m 0 c).arrAt 14 Cert.Kernel2Ideal.cfg0.N,
    fun c => (Cert.Kernel2Ideal.Gen.dats m 0 c).arrAt 15 Cert.Kernel2Ideal.cfg0.N, fun c => (Cert.Kernel2Ideal.Gen.dats m 0 c).arrAt 16 Cert.Kernel2Ideal.cfg0.N,
    fun c => (Cert.Kernel2Ideal.Gen.dats m 0 c).arrAt 17 Cert.Kernel2Ideal.cfg0.N, fun c => (Cert.Kernel2Ideal.Gen.dats m 0 c).arrAt 18 Cert.Kernel2Ideal.cfg0.N, ?_, ?_⟩
  · exact Cert.Kernel2Ideal.Value.run_blocks m g
  · refine (θ_run Cert.Reference2Ideal.defs _ _).mono (fun r h c => ?_) (Cert.Reference2Ideal.Value.run (F := Ideal) m' g')
    obtain ⟨r0, r1, r2, r3, r4, r5, r6, r7, kept⟩ := h c
    obtain ⟨h0, h1, h2, h3, h4, h5, h6, h7⟩ := hargs c
    obtain ⟨x, hx⟩ := real_of_finite _ _ _ _ _ _ _ _ (hpre c)
    exact ⟨r0.trans (yf_eq m m' c x hx h0), r1.trans (hf_eq m m' c h1 h2), r2.trans (hb_eq m m' c h1 h2),
      r3.trans (w14_eq m m' c h3), r4.trans (w15_eq m m' c h4), r5.trans (w16_eq m m' c h5),
      r6.trans (w17_eq m m' c h6), r7.trans (w18_eq m m' c h7), kept⟩

end Cert.Mixer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Tail.Value
public import proofs.«01_k».proof.Proof.Mixer.Value
public import Idealize.ShloMosaic.Adequacy
public import Idealize.ShloMosaic.Init

@[expose] public section

noncomputable section

namespace Cert.Proof

open Idealize.ShloMosaic Idealize.SL.Sem Cert.Kernel

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Mixer.preFacts,
  Cert.Tail.frame_kernel, Cert.Tail.frame_kernelIdeal, Cert.Tail.frame_reference, frame_kernel2, frame_kernel2Ideal,
  Cert.Mixer.frame_kernel2Ideal_pre, Cert.Mixer.frame_reference2, Cert.Mixer.frame_reference2_pre,
  trivial, Cert.Tail.algebraic, trivial, Cert.Mixer.algebraic⟩

end Cert.Proof

end
